-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x8960 : Shape := ⟨3, ![6, 256, 8960]⟩
abbrev S140x140 : Shape := ⟨2, ![140, 140]⟩
abbrev S1536x4480 : Shape := ⟨2, ![1536, 4480]⟩
abbrev S1536x70 : Shape := ⟨2, ![1536, 70]⟩
abbrev S1536 : Shape := ⟨1, ![1536]⟩
abbrev S1x1536 : Shape := ⟨2, ![1, 1536]⟩
abbrev S6x256x1536 : Shape := ⟨3, ![6, 256, 1536]⟩
abbrev S6x256 : Shape := ⟨2, ![6, 256]⟩
abbrev S1x256x8960 : Shape := ⟨3, ![1, 256, 8960]⟩
abbrev S1x256x1536 : Shape := ⟨3, ![1, 256, 1536]⟩
abbrev S1536x8960 : Shape := ⟨2, ![1536, 8960]⟩
abbrev S4x144x160 : Shape := ⟨3, ![4, 144, 160]⟩
abbrev S8960x256 : Shape := ⟨2, ![8960, 256]⟩
abbrev S2x8960x128 : Shape := ⟨3, ![2, 8960, 128]⟩
abbrev S144x160 : Shape := ⟨2, ![144, 160]⟩
abbrev S1x144x160 : Shape := ⟨3, ![1, 144, 160]⟩
abbrev S1x140x140 : Shape := ⟨3, ![1, 140, 140]⟩
abbrev S128x70 : Shape := ⟨2, ![128, 70]⟩
abbrev S128x128 : Shape := ⟨2, ![128, 128]⟩
abbrev S128x1 : Shape := ⟨2, ![128, 1]⟩
abbrev S1x256x128 : Shape := ⟨3, ![1, 256, 128]⟩
abbrev S256x128 : Shape := ⟨2, ![256, 128]⟩
abbrev S128x256 : Shape := ⟨2, ![128, 256]⟩
abbrev S1x144x144 : Shape := ⟨3, ![1, 144, 144]⟩
abbrev S144x144 : Shape := ⟨2, ![144, 144]⟩
abbrev S144x256 : Shape := ⟨2, ![144, 256]⟩
abbrev S160x256 : Shape := ⟨2, ![160, 256]⟩
abbrev S140x128 : Shape := ⟨2, ![140, 128]⟩
abbrev S1x140x128 : Shape := ⟨3, ![1, 140, 128]⟩
abbrev S32x128 : Shape := ⟨2, ![32, 128]⟩
abbrev S1x32x128 : Shape := ⟨3, ![1, 32, 128]⟩
abbrev S32x256 : Shape := ⟨2, ![32, 256]⟩
abbrev S256 : Shape := ⟨1, ![256]⟩
abbrev S1x256 : Shape := ⟨2, ![1, 256]⟩
abbrev S1x128x128 : Shape := ⟨3, ![1, 128, 128]⟩
abbrev S1x128 : Shape := ⟨2, ![1, 128]⟩
abbrev S512x8960 : Shape := ⟨2, ![512, 8960]⟩
abbrev S512x256 : Shape := ⟨2, ![512, 256]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S6x256x8960, .bf16⟩
  | .hbm, ⟨1, _⟩ => ⟨S140x140, .f32⟩
  | .hbm, ⟨2, _⟩ => ⟨S1536x4480, .i8⟩
  | .hbm, ⟨3, _⟩ => ⟨S1536x70, .i8⟩
  | .hbm, ⟨4, _⟩ => ⟨S1536, .f32⟩
  | .hbm, ⟨5, _⟩ => ⟨S1x1536, .f32⟩
  | .hbm, ⟨6, _⟩ => ⟨S6x256x1536, .bf16⟩
  | .hbm, ⟨7, _⟩ => ⟨S6x256x8960, .i8⟩
  | .hbm, ⟨8, _⟩ => ⟨S6x256, .f32⟩
  | .local _ .vmem, ⟨0, _⟩ => ⟨S1x256x8960, .bf16⟩
  | .local _ .vmem, ⟨1, _⟩ => ⟨S1x256x8960, .bf16⟩
  | .local _ .vmem, ⟨2, _⟩ => ⟨S140x140, .f32⟩
  | .local _ .vmem, ⟨3, _⟩ => ⟨S1536x4480, .i8⟩
  | .local _ .vmem, ⟨4, _⟩ => ⟨S1536x70, .i8⟩
  | .local _ .vmem, ⟨5, _⟩ => ⟨S1x1536, .f32⟩
  | .local _ .vmem, ⟨6, _⟩ => ⟨S1x256x1536, .bf16⟩
  | .local _ .vmem, ⟨7, _⟩ => ⟨S1x256x1536, .bf16⟩
  | .local _ .vmem, ⟨8, _⟩ => ⟨S1x256x8960, .i8⟩
  | .local _ .vmem, ⟨9, _⟩ => ⟨S1x256x8960, .i8⟩
  | .local _ .vmem, ⟨10, _⟩ => ⟨S6x256, .f32⟩
  | .local _ .vmem, ⟨11, _⟩ => ⟨S1536x8960, .fp8e4m3⟩
  | .local _ .vmem, ⟨12, _⟩ => ⟨S4x144x160, .bf16⟩
  | .local _ .vmem, ⟨13, _⟩ => ⟨S8960x256, .bf16⟩
  | .local _ .vmem, ⟨14, _⟩ => ⟨S2x8960x128, .f32⟩
  | .local _ .vmem, ⟨15, _⟩ => ⟨S8960x256, .fp8e4m3⟩
  | _, _ => ⟨S6x256x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_350 : BitVec 32 := 0#32
  let c12_i32 : BitVec 32 := 12#32
  let v515 : BitVec 32 := Scalar.addi c0_i32_350 c12_i32
  let c1_i32_351 : BitVec 32 := 1#32
  ⟨c0_i32_350, v515, c1_i32_351⟩
def k0_off1 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v517 : Index := Scalar.indexCast v516
  let c0_353 : Index := 0#32
  ![v517.toNat, 0]
def k0_off2 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v524 : Index := Scalar.indexCast v516
  let c0_355 : Index := 0#32
  ![v524.toNat, 0]
def k0_off3 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v545 : Index := Scalar.indexCast v516
  let c0_357 : Index := 0#32
  ![v545.toNat, 0]
def k0_off4 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v559 : Index := Scalar.indexCast v516
  let c4480_360 : Index := 4480#32
  ![v559.toNat, 4480]
def k0_off5 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v563 : Index := Scalar.indexCast v516
  let c128_361 : Index := 128#32
  ![v563.toNat, 128]
def k0_off6 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v584 : Index := Scalar.indexCast v516
  let c128_365 : Index := 128#32
  ![v584.toNat, 128]
def k0_off7 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v598 : Index := Scalar.indexCast v516
  let c4608_369 : Index := 4608#32
  ![v598.toNat, 4608]
def k0_off8 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v602 : Index := Scalar.indexCast v516
  let c256_370 : Index := 256#32
  ![v602.toNat, 256]
def k0_off9 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v623 : Index := Scalar.indexCast v516
  let c256_374 : Index := 256#32
  ![v623.toNat, 256]
def k0_off10 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v637 : Index := Scalar.indexCast v516
  let c4736_378 : Index := 4736#32
  ![v637.toNat, 4736]
def k0_off11 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v641 : Index := Scalar.indexCast v516
  let c384_379 : Index := 384#32
  ![v641.toNat, 384]
def k0_off12 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v662 : Index := Scalar.indexCast v516
  let c384_383 : Index := 384#32
  ![v662.toNat, 384]
def k0_off13 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v676 : Index := Scalar.indexCast v516
  let c4864_387 : Index := 4864#32
  ![v676.toNat, 4864]
def k0_off14 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v680 : Index := Scalar.indexCast v516
  let c512_388 : Index := 512#32
  ![v680.toNat, 512]
def k0_off15 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v701 : Index := Scalar.indexCast v516
  let c512_392 : Index := 512#32
  ![v701.toNat, 512]
def k0_off16 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v715 : Index := Scalar.indexCast v516
  let c4992_396 : Index := 4992#32
  ![v715.toNat, 4992]
def k0_off17 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v719 : Index := Scalar.indexCast v516
  let c640_397 : Index := 640#32
  ![v719.toNat, 640]
def k0_off18 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v740 : Index := Scalar.indexCast v516
  let c640_401 : Index := 640#32
  ![v740.toNat, 640]
def k0_off19 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v754 : Index := Scalar.indexCast v516
  let c5120_405 : Index := 5120#32
  ![v754.toNat, 5120]
def k0_off20 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v758 : Index := Scalar.indexCast v516
  let c768_406 : Index := 768#32
  ![v758.toNat, 768]
def k0_off21 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v779 : Index := Scalar.indexCast v516
  let c768_410 : Index := 768#32
  ![v779.toNat, 768]
def k0_off22 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v793 : Index := Scalar.indexCast v516
  let c5248_414 : Index := 5248#32
  ![v793.toNat, 5248]
def k0_off23 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v797 : Index := Scalar.indexCast v516
  let c896_415 : Index := 896#32
  ![v797.toNat, 896]
def k0_off24 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v818 : Index := Scalar.indexCast v516
  let c896_419 : Index := 896#32
  ![v818.toNat, 896]
def k0_off25 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v832 : Index := Scalar.indexCast v516
  let c5376_423 : Index := 5376#32
  ![v832.toNat, 5376]
def k0_off26 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v836 : Index := Scalar.indexCast v516
  let c1024_424 : Index := 1024#32
  ![v836.toNat, 1024]
def k0_off27 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v857 : Index := Scalar.indexCast v516
  let c1024_428 : Index := 1024#32
  ![v857.toNat, 1024]
def k0_off28 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v871 : Index := Scalar.indexCast v516
  let c5504_432 : Index := 5504#32
  ![v871.toNat, 5504]
def k0_off29 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v875 : Index := Scalar.indexCast v516
  let c1152_433 : Index := 1152#32
  ![v875.toNat, 1152]
def k0_off30 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v896 : Index := Scalar.indexCast v516
  let c1152_437 : Index := 1152#32
  ![v896.toNat, 1152]
def k0_off31 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v910 : Index := Scalar.indexCast v516
  let c5632_441 : Index := 5632#32
  ![v910.toNat, 5632]
def k0_off32 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v914 : Index := Scalar.indexCast v516
  let c1280_442 : Index := 1280#32
  ![v914.toNat, 1280]
def k0_off33 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v935 : Index := Scalar.indexCast v516
  let c1280_446 : Index := 1280#32
  ![v935.toNat, 1280]
def k0_off34 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v949 : Index := Scalar.indexCast v516
  let c5760_450 : Index := 5760#32
  ![v949.toNat, 5760]
def k0_off35 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v953 : Index := Scalar.indexCast v516
  let c1408_451 : Index := 1408#32
  ![v953.toNat, 1408]
def k0_off36 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v974 : Index := Scalar.indexCast v516
  let c1408_455 : Index := 1408#32
  ![v974.toNat, 1408]
def k0_off37 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v988 : Index := Scalar.indexCast v516
  let c5888_459 : Index := 5888#32
  ![v988.toNat, 5888]
def k0_off38 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v992 : Index := Scalar.indexCast v516
  let c1536_460 : Index := 1536#32
  ![v992.toNat, 1536]
def k0_off39 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1013 : Index := Scalar.indexCast v516
  let c1536_464 : Index := 1536#32
  ![v1013.toNat, 1536]
def k0_off40 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1027 : Index := Scalar.indexCast v516
  let c6016_468 : Index := 6016#32
  ![v1027.toNat, 6016]
def k0_off41 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1031 : Index := Scalar.indexCast v516
  let c1664_469 : Index := 1664#32
  ![v1031.toNat, 1664]
def k0_off42 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1052 : Index := Scalar.indexCast v516
  let c1664_473 : Index := 1664#32
  ![v1052.toNat, 1664]
def k0_off43 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1066 : Index := Scalar.indexCast v516
  let c6144_477 : Index := 6144#32
  ![v1066.toNat, 6144]
def k0_off44 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1070 : Index := Scalar.indexCast v516
  let c1792_478 : Index := 1792#32
  ![v1070.toNat, 1792]
def k0_off45 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1091 : Index := Scalar.indexCast v516
  let c1792_482 : Index := 1792#32
  ![v1091.toNat, 1792]
def k0_off46 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1105 : Index := Scalar.indexCast v516
  let c6272_486 : Index := 6272#32
  ![v1105.toNat, 6272]
def k0_off47 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1109 : Index := Scalar.indexCast v516
  let c1920_487 : Index := 1920#32
  ![v1109.toNat, 1920]
def k0_off48 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1130 : Index := Scalar.indexCast v516
  let c1920_491 : Index := 1920#32
  ![v1130.toNat, 1920]
def k0_off49 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1144 : Index := Scalar.indexCast v516
  let c6400_495 : Index := 6400#32
  ![v1144.toNat, 6400]
def k0_off50 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1148 : Index := Scalar.indexCast v516
  let c2048_496 : Index := 2048#32
  ![v1148.toNat, 2048]
def k0_off51 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1169 : Index := Scalar.indexCast v516
  let c2048_500 : Index := 2048#32
  ![v1169.toNat, 2048]
def k0_off52 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1183 : Index := Scalar.indexCast v516
  let c6528_504 : Index := 6528#32
  ![v1183.toNat, 6528]
def k0_off53 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1187 : Index := Scalar.indexCast v516
  let c2176_505 : Index := 2176#32
  ![v1187.toNat, 2176]
def k0_off54 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1208 : Index := Scalar.indexCast v516
  let c2176_509 : Index := 2176#32
  ![v1208.toNat, 2176]
def k0_off55 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1222 : Index := Scalar.indexCast v516
  let c6656_513 : Index := 6656#32
  ![v1222.toNat, 6656]
def k0_off56 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1226 : Index := Scalar.indexCast v516
  let c2304_514 : Index := 2304#32
  ![v1226.toNat, 2304]
def k0_off57 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1247 : Index := Scalar.indexCast v516
  let c2304_518 : Index := 2304#32
  ![v1247.toNat, 2304]
def k0_off58 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1261 : Index := Scalar.indexCast v516
  let c6784_522 : Index := 6784#32
  ![v1261.toNat, 6784]
def k0_off59 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1265 : Index := Scalar.indexCast v516
  let c2432_523 : Index := 2432#32
  ![v1265.toNat, 2432]
def k0_off60 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1286 : Index := Scalar.indexCast v516
  let c2432_527 : Index := 2432#32
  ![v1286.toNat, 2432]
def k0_off61 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1300 : Index := Scalar.indexCast v516
  let c6912_531 : Index := 6912#32
  ![v1300.toNat, 6912]
def k0_off62 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1304 : Index := Scalar.indexCast v516
  let c2560_532 : Index := 2560#32
  ![v1304.toNat, 2560]
def k0_off63 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1325 : Index := Scalar.indexCast v516
  let c2560_536 : Index := 2560#32
  ![v1325.toNat, 2560]
def k0_off64 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1339 : Index := Scalar.indexCast v516
  let c7040_540 : Index := 7040#32
  ![v1339.toNat, 7040]
def k0_off65 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1343 : Index := Scalar.indexCast v516
  let c2688_541 : Index := 2688#32
  ![v1343.toNat, 2688]
def k0_off66 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1364 : Index := Scalar.indexCast v516
  let c2688_545 : Index := 2688#32
  ![v1364.toNat, 2688]
def k0_off67 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1378 : Index := Scalar.indexCast v516
  let c7168_549 : Index := 7168#32
  ![v1378.toNat, 7168]
def k0_off68 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1382 : Index := Scalar.indexCast v516
  let c2816_550 : Index := 2816#32
  ![v1382.toNat, 2816]
def k0_off69 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1403 : Index := Scalar.indexCast v516
  let c2816_554 : Index := 2816#32
  ![v1403.toNat, 2816]
def k0_off70 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1417 : Index := Scalar.indexCast v516
  let c7296_558 : Index := 7296#32
  ![v1417.toNat, 7296]
def k0_off71 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1421 : Index := Scalar.indexCast v516
  let c2944_559 : Index := 2944#32
  ![v1421.toNat, 2944]
def k0_off72 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1442 : Index := Scalar.indexCast v516
  let c2944_563 : Index := 2944#32
  ![v1442.toNat, 2944]
def k0_off73 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1456 : Index := Scalar.indexCast v516
  let c7424_567 : Index := 7424#32
  ![v1456.toNat, 7424]
def k0_off74 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1460 : Index := Scalar.indexCast v516
  let c3072_568 : Index := 3072#32
  ![v1460.toNat, 3072]
def k0_off75 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1481 : Index := Scalar.indexCast v516
  let c3072_572 : Index := 3072#32
  ![v1481.toNat, 3072]
def k0_off76 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1495 : Index := Scalar.indexCast v516
  let c7552_576 : Index := 7552#32
  ![v1495.toNat, 7552]
def k0_off77 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1499 : Index := Scalar.indexCast v516
  let c3200_577 : Index := 3200#32
  ![v1499.toNat, 3200]
def k0_off78 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1520 : Index := Scalar.indexCast v516
  let c3200_581 : Index := 3200#32
  ![v1520.toNat, 3200]
def k0_off79 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1534 : Index := Scalar.indexCast v516
  let c7680_585 : Index := 7680#32
  ![v1534.toNat, 7680]
def k0_off80 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1538 : Index := Scalar.indexCast v516
  let c3328_586 : Index := 3328#32
  ![v1538.toNat, 3328]
def k0_off81 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1559 : Index := Scalar.indexCast v516
  let c3328_590 : Index := 3328#32
  ![v1559.toNat, 3328]
def k0_off82 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1573 : Index := Scalar.indexCast v516
  let c7808_594 : Index := 7808#32
  ![v1573.toNat, 7808]
def k0_off83 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1577 : Index := Scalar.indexCast v516
  let c3456_595 : Index := 3456#32
  ![v1577.toNat, 3456]
def k0_off84 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1598 : Index := Scalar.indexCast v516
  let c3456_599 : Index := 3456#32
  ![v1598.toNat, 3456]
def k0_off85 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1612 : Index := Scalar.indexCast v516
  let c7936_603 : Index := 7936#32
  ![v1612.toNat, 7936]
def k0_off86 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1616 : Index := Scalar.indexCast v516
  let c3584_604 : Index := 3584#32
  ![v1616.toNat, 3584]
def k0_off87 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1637 : Index := Scalar.indexCast v516
  let c3584_608 : Index := 3584#32
  ![v1637.toNat, 3584]
def k0_off88 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1651 : Index := Scalar.indexCast v516
  let c8064_612 : Index := 8064#32
  ![v1651.toNat, 8064]
def k0_off89 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1655 : Index := Scalar.indexCast v516
  let c3712_613 : Index := 3712#32
  ![v1655.toNat, 3712]
def k0_off90 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1676 : Index := Scalar.indexCast v516
  let c3712_617 : Index := 3712#32
  ![v1676.toNat, 3712]
def k0_off91 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1690 : Index := Scalar.indexCast v516
  let c8192_621 : Index := 8192#32
  ![v1690.toNat, 8192]
def k0_off92 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1694 : Index := Scalar.indexCast v516
  let c3840_622 : Index := 3840#32
  ![v1694.toNat, 3840]
def k0_off93 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1715 : Index := Scalar.indexCast v516
  let c3840_626 : Index := 3840#32
  ![v1715.toNat, 3840]
def k0_off94 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1729 : Index := Scalar.indexCast v516
  let c8320_630 : Index := 8320#32
  ![v1729.toNat, 8320]
def k0_off95 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1733 : Index := Scalar.indexCast v516
  let c3968_631 : Index := 3968#32
  ![v1733.toNat, 3968]
def k0_off96 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1754 : Index := Scalar.indexCast v516
  let c3968_635 : Index := 3968#32
  ![v1754.toNat, 3968]
def k0_off97 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1768 : Index := Scalar.indexCast v516
  let c8448_639 : Index := 8448#32
  ![v1768.toNat, 8448]
def k0_off98 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1772 : Index := Scalar.indexCast v516
  let c4096_640 : Index := 4096#32
  ![v1772.toNat, 4096]
def k0_off99 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1793 : Index := Scalar.indexCast v516
  let c4096_644 : Index := 4096#32
  ![v1793.toNat, 4096]
def k0_off100 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1807 : Index := Scalar.indexCast v516
  let c8576_648 : Index := 8576#32
  ![v1807.toNat, 8576]
def k0_off101 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1811 : Index := Scalar.indexCast v516
  let c4224_649 : Index := 4224#32
  ![v1811.toNat, 4224]
def k0_off102 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1832 : Index := Scalar.indexCast v516
  let c4224_653 : Index := 4224#32
  ![v1832.toNat, 4224]
def k0_off103 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1846 : Index := Scalar.indexCast v516
  let c8704_657 : Index := 8704#32
  ![v1846.toNat, 8704]
def k0_off104 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1850 : Index := Scalar.indexCast v516
  let c4352_658 : Index := 4352#32
  ![v1850.toNat, 4352]
def k0_off105 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1871 : Index := Scalar.indexCast v516
  let c4352_662 : Index := 4352#32
  ![v1871.toNat, 4352]
def k0_off106 (k0_t1 : Fin k0_t1_loop.trips) : Fin 2 → Nat :=
  let c0_i32_350 : BitVec 32 := 0#32
  let c1_i32_351 : BitVec 32 := 1#32
  let arg14 : BitVec 32 := Scf.iv c0_i32_350 c1_i32_351 k0_t1
  let c128_i32 : BitVec 32 := 128#32
  let v516 : BitVec 32 := Scalar.muli arg14 c128_i32
  let v1885 : Index := Scalar.indexCast v516
  let c8832_666 : Index := 8832#32
  ![v1885.toNat, 8832]
@[reducible] def k0_t2_loop : Scf.Loop 32 :=
  let c0_i32_281 : BitVec 32 := 0#32
  let c8_i32 : BitVec 32 := 8#32
  let v423 : BitVec 32 := Scalar.addi c0_i32_281 c8_i32
  let c1_i32 : BitVec 32 := 1#32
  ⟨c0_i32_281, v423, c1_i32⟩
def k0_mult1 (k0_t2 : Fin k0_t2_loop.trips) : BitVec 32 :=
  let c0_i32_281 : BitVec 32 := 0#32
  let c1_i32 : BitVec 32 := 1#32
  let arg14 : BitVec 32 := Scf.iv c0_i32_281 c1_i32 k0_t2
  let c1120_i32 : BitVec 32 := 1120#32
  let v485 : BitVec 32 := Scalar.muli arg14 c1120_i32
  v485
def k0_off107 (k0_t2 : Fin k0_t2_loop.trips) (c0_i32_329 : BitVec 32) : Fin 2 → Nat :=
  let c0_i32_281 : BitVec 32 := 0#32
  let c1_i32 : BitVec 32 := 1#32
  let arg14 : BitVec 32 := Scf.iv c0_i32_281 c1_i32 k0_t2
  let c1120_i32 : BitVec 32 := 1120#32
  let v485 : BitVec 32 := Scalar.muli arg14 c1120_i32
  let v486 : BitVec 32 := v485
  let v489 : BitVec 32 := Scalar.addi v486 c0_i32_329
  let v490 : Index := Scalar.indexCast v489
  let c0_330 : Index := 0#32
  ![v490.toNat, 0]
def k0_off107_at (r : Fin 4) : BitVec 32 :=
  if r.val < 2 then
    if r.val < 1 then
      0#32
    else
      416#32
  else
    if r.val < 3 then
      560#32
    else
      976#32
def k0_off108 (k0_t2 : Fin k0_t2_loop.trips) (c128_i32 : BitVec 32) : Fin 2 → Nat :=
  let c0_i32_281 : BitVec 32 := 0#32
  let c1_i32 : BitVec 32 := 1#32
  let arg14 : BitVec 32 := Scf.iv c0_i32_281 c1_i32 k0_t2
  let c1120_i32 : BitVec 32 := 1120#32
  let v485 : BitVec 32 := Scalar.muli arg14 c1120_i32
  let v486 : BitVec 32 := v485
  let v495 : BitVec 32 := Scalar.addi v486 c128_i32
  let v496 : Index := Scalar.indexCast v495
  let c0_334 : Index := 0#32
  ![v496.toNat, 0]
def k0_off108_at (r : Fin 4) : BitVec 32 :=
  if r.val < 2 then
    if r.val < 1 then
      128#32
    else
      272#32
  else
    if r.val < 3 then
      688#32
    else
      832#32
def k0_off109 (k0_t2 : Fin k0_t2_loop.trips) (c0_i32_364 : BitVec 32) : Fin 3 → Nat :=
  let c0_365 : Index := 0#32
  let c0_i32_281 : BitVec 32 := 0#32
  let c1_i32 : BitVec 32 := 1#32
  let arg14 : BitVec 32 := Scf.iv c0_i32_281 c1_i32 k0_t2
  let c1120_i32 : BitVec 32 := 1120#32
  let v485 : BitVec 32 := Scalar.muli arg14 c1120_i32
  let v486 : BitVec 32 := v485
  let v560 : BitVec 32 := Scalar.addi v486 c0_i32_364
  let v561 : Index := Scalar.indexCast v560
  let c0_366 : Index := 0#32
  ![0, v561.toNat, 0]
def k0_off110 (k0_t2 : Fin k0_t2_loop.trips) (c0_i32_367 : BitVec 32) : Fin 3 → Nat :=
  let c1_368 : Index := 1#32
  let c0_i32_281 : BitVec 32 := 0#32
  let c1_i32 : BitVec 32 := 1#32
  let arg14 : BitVec 32 := Scf.iv c0_i32_281 c1_i32 k0_t2
  let c1120_i32 : BitVec 32 := 1120#32
  let v485 : BitVec 32 := Scalar.muli arg14 c1120_i32
  let v486 : BitVec 32 := v485
  let v566 : BitVec 32 := Scalar.addi v486 c0_i32_367
  let v567 : Index := Scalar.indexCast v566
  let c0_369 : Index := 0#32
  ![1, v567.toNat, 0]
@[reducible] def k0_t3_loop : Scf.Loop 32 :=
  let c0_i32_283 : BitVec 32 := 0#32
  let c35_i32 : BitVec 32 := 35#32
  let v425 : BitVec 32 := Scalar.addi c0_i32_283 c35_i32
  let c1_i32_284 : BitVec 32 := 1#32
  ⟨c0_i32_283, v425, c1_i32_284⟩
def k0_mult2 (k0_t3 : Fin k0_t3_loop.trips) : BitVec 32 :=
  let c0_i32_283 : BitVec 32 := 0#32
  let c1_i32_284 : BitVec 32 := 1#32
  let arg14 : BitVec 32 := Scf.iv c0_i32_283 c1_i32_284 k0_t3
  let c32_i32 : BitVec 32 := 32#32
  let v485 : BitVec 32 := Scalar.muli arg14 c32_i32
  v485
def k0_off111 (k0_t3 : Fin k0_t3_loop.trips) (c0_i32_326 : BitVec 32) : Fin 3 → Nat :=
  let c0_327 : Index := 0#32
  let c0_i32_283 : BitVec 32 := 0#32
  let c1_i32_284 : BitVec 32 := 1#32
  let arg14 : BitVec 32 := Scf.iv c0_i32_283 c1_i32_284 k0_t3
  let c32_i32 : BitVec 32 := 32#32
  let v485 : BitVec 32 := Scalar.muli arg14 c32_i32
  let v486 : BitVec 32 := v485
  let v487 : BitVec 32 := Scalar.addi c0_i32_326 v486
  let v488 : Index := Scalar.indexCast v487
  let c0_328 : Index := 0#32
  ![0, v488.toNat, 0]
def k0_off112 (k0_t3 : Fin k0_t3_loop.trips) (c0_i32_367 : BitVec 32) : Fin 3 → Nat :=
  let c1 : Index := 1#32
  let c0_i32_283 : BitVec 32 := 0#32
  let c1_i32_284 : BitVec 32 := 1#32
  let arg14 : BitVec 32 := Scf.iv c0_i32_283 c1_i32_284 k0_t3
  let c32_i32 : BitVec 32 := 32#32
  let v485 : BitVec 32 := Scalar.muli arg14 c32_i32
  let v486 : BitVec 32 := v485
  let v599 : BitVec 32 := Scalar.addi c0_i32_367 v486
  let v600 : Index := Scalar.indexCast v599
  let c0_368 : Index := 0#32
  ![1, v600.toNat, 0]
def k0_off113 (i : grid0.Coords) : Fin 2 → Nat :=
  let arg0 : BitVec 32 := BitVec.ofNat 32 (i 0).val
  let v438 : Index := Scalar.indexCast arg0
  let c0_291 : Index := 0#32
  ![v438.toNat, 0]
@[reducible] def k0_t4_loop : Scf.Loop 32 :=
  let c0_i32_293 : BitVec 32 := 0#32
  let c70_i32 : BitVec 32 := 70#32
  let v442 : BitVec 32 := Scalar.addi c0_i32_293 c70_i32
  let c1_i32_294 : BitVec 32 := 1#32
  ⟨c0_i32_293, v442, c1_i32_294⟩
def k0_mult3 (k0_t4 : Fin k0_t4_loop.trips) : BitVec 32 :=
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  v485
def k0_off114 (k0_t4 : Fin k0_t4_loop.trips) : Fin 3 → Nat :=
  let c0_326 : Index := 0#32
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  let v486 : BitVec 32 := v485
  let v487 : Index := Scalar.indexCast v486
  let c0_327 : Index := 0#32
  ![0, v487.toNat, 0]
def k0_off115 (k0_t4 : Fin k0_t4_loop.trips) : Fin 2 → Nat :=
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  let v486 : BitVec 32 := v485
  let v500 : Index := Scalar.indexCast v486
  let c0_330 : Index := 0#32
  ![v500.toNat, 0]
def k0_off116 (k0_t4 : Fin k0_t4_loop.trips) : Fin 3 → Nat :=
  let c0_331 : Index := 0#32
  let c0_332 : Index := 0#32
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  let v486 : BitVec 32 := v485
  let v507 : Index := Scalar.indexCast v486
  ![0, 0, v507.toNat]
def k0_off117 (k0_t4 : Fin k0_t4_loop.trips) : Fin 3 → Nat :=
  let c1 : Index := 1#32
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  let v486 : BitVec 32 := v485
  let v511 : Index := Scalar.indexCast v486
  let c0_333 : Index := 0#32
  ![1, v511.toNat, 0]
def k0_off118 (k0_t4 : Fin k0_t4_loop.trips) : Fin 2 → Nat :=
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  let v486 : BitVec 32 := v485
  let v524 : Index := Scalar.indexCast v486
  let c128_336 : Index := 128#32
  ![v524.toNat, 128]
def k0_off119 (k0_t4 : Fin k0_t4_loop.trips) : Fin 3 → Nat :=
  let c0_337 : Index := 0#32
  let c128_338 : Index := 128#32
  let c0_i32_293 : BitVec 32 := 0#32
  let c1_i32_294 : BitVec 32 := 1#32
  let arg14 : BitVec 32 := Scf.iv c0_i32_293 c1_i32_294 k0_t4
  let c128_i32 : BitVec 32 := 128#32
  let v485 : BitVec 32 := Scalar.muli arg14 c128_i32
  let v486 : BitVec 32 := v485
  let v531 : Index := Scalar.indexCast v486
  ![0, 128, v531.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x8960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S140x140 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x4480 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x70 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x8960 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S6x256x8960 : Shape := ⟨3, ![6, 256, 8960]⟩
abbrev S140x140 : Shape := ⟨2, ![140, 140]⟩
abbrev S1536x4480 : Shape := ⟨2, ![1536, 4480]⟩
abbrev S1536x70 : Shape := ⟨2, ![1536, 70]⟩
abbrev S1536 : Shape := ⟨1, ![1536]⟩
abbrev S6x256x64x140 : Shape := ⟨4, ![6, 256, 64, 140]⟩
abbrev S64x64 : Shape := ⟨2, ![64, 64]⟩
abbrev S_ : Shape := ⟨0, ![]⟩
abbrev S6x256x140x64 : Shape := ⟨4, ![6, 256, 140, 64]⟩
abbrev S6x256x1536 : Shape := ⟨3, ![6, 256, 1536]⟩
abbrev S6x256 : Shape := ⟨2, ![6, 256]⟩
abbrev S6x256x1 : Shape := ⟨3, ![6, 256, 1]⟩
abbrev S6x256x4480 : Shape := ⟨3, ![6, 256, 4480]⟩
abbrev S1536x35 : Shape := ⟨2, ![1536, 35]⟩
abbrev S1536x35x128 : Shape := ⟨3, ![1536, 35, 128]⟩
abbrev S1536x35x1 : Shape := ⟨3, ![1536, 35, 1]⟩
abbrev S1x1x1536 : Shape := ⟨3, ![1, 1, 1536]⟩

abbrev nBuf : Space → Nat
  | .hbm => 31
  | .vmem => 7
  | .smem => 0
  | _ => 0

abbrev bufTy : (tb : Table) → Fin (tcTables nBuf tb) → BufTy
  | .hbm, ⟨0, _⟩ => ⟨S6x256x8960, .bf16⟩
  | .hbm, ⟨1, _⟩ => ⟨S140x140, .f32⟩
  | .hbm, ⟨2, _⟩ => ⟨S1536x4480, .i8⟩
  | .hbm, ⟨3, _⟩ => ⟨S1536x70, .i8⟩
  | .hbm, ⟨4, _⟩ => ⟨S1536, .f32⟩
  | .hbm, ⟨5, _⟩ => ⟨S6x256x8960, .f32⟩
  | .hbm, ⟨6, _⟩ => ⟨S6x256x64x140, .f32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .f32⟩
  | .hbm, ⟨21, _⟩ => ⟨S6x256x140x64, .f32⟩
  | .hbm, ⟨22, _⟩ => ⟨S6x256x64x140, .f32⟩
  | .hbm, ⟨23, _⟩ => ⟨S6x256x64x140, .f32⟩
  | .hbm, ⟨24, _⟩ => ⟨S_, .f32⟩
  | .hbm, ⟨25, _⟩ => ⟨S6x256x64x140, .f32⟩
  | .hbm, ⟨26, _⟩ => ⟨S6x256x64x140, .f32⟩
  | .hbm, ⟨27, _⟩ => ⟨S6x256x8960, .f32⟩
  | .hbm, ⟨28, _⟩ => ⟨S6x256x1536, .bf16⟩
  | .hbm, ⟨29, _⟩ => ⟨S6x256x8960, .i8⟩
  | .hbm, ⟨30, _⟩ => ⟨S6x256, .f32⟩
  | .local _ .vmem, ⟨0, _⟩ => ⟨S6x256x8960, .f32⟩
  | .local _ .vmem, ⟨1, _⟩ => ⟨S1536x4480, .i8⟩
  | .local _ .vmem, ⟨2, _⟩ => ⟨S1536x70, .i8⟩
  | .local _ .vmem, ⟨3, _⟩ => ⟨S1536, .f32⟩
  | .local _ .vmem, ⟨4, _⟩ => ⟨S6x256x1536, .bf16⟩
  | .local _ .vmem, ⟨5, _⟩ => ⟨S6x256x8960, .i8⟩
  | .local _ .vmem, ⟨6, _⟩ => ⟨S6x256, .f32⟩
  | _, _ => ⟨S6x256x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256x8960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4480 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x70 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x8960 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Base.lean ====
/- What the launches of `proofs.«01_k».proof.Kernel` share: the frame claim's post from a frame run, the condition
   of the body's one branch over the grid, the names of the staging and scratch memrefs, and the class invariant
   with the scratch buffers spelled out. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S140x140 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x4480 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x70 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x8960 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x8960 .fp8e4m3 := Memref.whole cc0_scratch0
abbrev scM0_1 : Memref sig .tc .vmem S4x144x160 .bf16 := Memref.whole cc0_scratch1
abbrev scM0_2 : Memref sig .tc .vmem S8960x256 .bf16 := Memref.whole cc0_scratch2
abbrev scM0_3 : Memref sig .tc .vmem S2x8960x128 .f32 := Memref.whole cc0_scratch3
abbrev scM0_4 : Memref sig .tc .vmem S8960x256 .fp8e4m3 := Memref.whole cc0_scratch4
/-- The scratch `arg10` the kernel carries between points, as a view: what it holds is stated through it. -/
abbrev VS0_1 : View sig .tc .vmem S4x144x160 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Run

end
-- ==== Proof.Kernel.BodyA.lean ====
/- The kernel body of `proofs.«01_k».proof.Kernel` at the first point, where the branch is taken: its triple with nothing said of
   what it leaves outside its inputs. -/
module

public import proofs.«01_k».proof.Proof.Kernel.Base

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1904000 in
/-- The kernel body at the first point, where the branch is taken: from the inputs' buffers at their contents and every other buffer at anything, it runs to
    its end and leaves the inputs' buffers as they were and the others at some contents. -/
theorem body_A (c : Dev nD) (i : grid0.Coords) (arg1 : Memref sig .tc .vmem S1x256x8960 .bf16) (harg1 : arg1.IsWhole) (arg2 : Memref sig .tc .vmem S140x140 .f32) (harg2 : arg2.IsWhole) (arg3 : Memref sig .tc .vmem S1536x4480 .i8) (harg3 : arg3.IsWhole) (arg4 : Memref sig .tc .vmem S1536x70 .i8) (harg4 : arg4.IsWhole) (arg5 : Memref sig .tc .vmem S1x1536 .f32) (harg5 : arg5.IsWhole) (arg6 : Memref sig .tc .vmem S1x256x1536 .bf16) (harg6 : arg6.IsWhole) (arg7 : Memref sig .tc .vmem S1x256x8960 .i8) (harg7 : arg7.IsWhole) (arg8 : Memref sig .tc .vmem S6x256 .f32) (harg8 : arg8.IsWhole) (arg9 : Memref sig .tc .vmem S1536x8960 .fp8e4m3) (harg9 : arg9.IsWhole) (arg10 : Memref sig .tc .vmem S4x144x160 .bf16) (harg10 : arg10.IsWhole) (arg11 : Memref sig .tc .vmem S8960x256 .bf16) (harg11 : arg11.IsWhole) (arg12 : Memref sig .tc .vmem S2x8960x128 .f32) (harg12 : arg12.IsWhole) (arg13 : Memref sig .tc .vmem S8960x256 .fp8e4m3) (harg13 : arg13.IsWhole) (hc0 : cond0_0 i)
    (x0 : Vec F S1x256x8960 .bf16) (x1 : Vec F S140x140 .f32) (x2 : Vec F S1536x4480 .i8) (x3 : Vec F S1536x70 .i8) (x4 : Vec F S1x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Kernel.Run

end
-- ==== Proof.Kernel.BodyB.lean ====
/- The kernel body of `proofs.«01_k».proof.Kernel` at every other point, where the branch is not taken: its triple with nothing said of
   what it leaves outside its inputs. -/
module

public import proofs.«01_k».proof.Proof.Kernel.BodyA

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1680000 in
/-- The kernel body at every other point, where the branch is not taken: from the inputs' buffers at their contents and every other buffer at anything, it runs to
    its end and leaves the inputs' buffers as they were and the others at some contents. -/
theorem body_B (c : Dev nD) (i : grid0.Coords) (arg1 : Memref sig .tc .vmem S1x256x8960 .bf16) (harg1 : arg1.IsWhole) (arg2 : Memref sig .tc .vmem S140x140 .f32) (harg2 : arg2.IsWhole) (arg3 : Memref sig .tc .vmem S1536x4480 .i8) (harg3 : arg3.IsWhole) (arg4 : Memref sig .tc .vmem S1536x70 .i8) (harg4 : arg4.IsWhole) (arg5 : Memref sig .tc .vmem S1x1536 .f32) (harg5 : arg5.IsWhole) (arg6 : Memref sig .tc .vmem S1x256x1536 .bf16) (harg6 : arg6.IsWhole) (arg7 : Memref sig .tc .vmem S1x256x8960 .i8) (harg7 : arg7.IsWhole) (arg8 : Memref sig .tc .vmem S6x256 .f32) (harg8 : arg8.IsWhole) (arg9 : Memref sig .tc .vmem S1536x8960 .fp8e4m3) (harg9 : arg9.IsWhole) (arg10 : Memref sig .tc .vmem S4x144x160 .bf16) (harg10 : arg10.IsWhole) (arg11 : Memref sig .tc .vmem S8960x256 .bf16) (harg11 : arg11.IsWhole) (arg12 : Memref sig .tc .vmem S2x8960x128 .f32) (harg12 : arg12.IsWhole) (arg13 : Memref sig .tc .vmem S8960x256 .fp8e4m3) (harg13 : arg13.IsWhole) (hc0 : ¬cond0_0 i)
    (x0 : Vec F S1x256x8960 .bf16) (x1 : Vec F S140x140 .f32) (x2 : Vec F S1536x4480 .i8) (x3 : Vec F S1536x70 .i8) (x4 : Vec F S1x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Kernel.Run

end
-- ==== Proof.Kernel.Frame.lean ====
/- The frame of `proofs.«01_k».proof.Kernel`: the launch with nothing said of the outputs. -/
module

public import proofs.«01_k».proof.Proof.Kernel.BodyB
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (`Pipeline.ΦA`: every scratch buffer at anything);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 9600000 in
/-- The body at any point, by the branch's condition: the inputs' memrefs hold their blocks, the rest is at anything
    before and after; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 6 = 0
  · iapply (body_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (body_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => Idealize.SL.BI.Entails.refl _) (hout := fun _ => Idealize.SL.BI.Entails.refl _)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: from any memory with zero counters every execution ends, with the argument arrays unchanged and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.KernelIdeal.Base.lean ====
/- What the launches of `proofs.«01_k».proof.KernelIdeal` share: the frame claim's post from a frame run, the condition
   of the body's one branch over the grid, the names of the staging and scratch memrefs, and the class invariant
   with the scratch buffers spelled out. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S140x140 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x4480 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x70 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x8960 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x8960 .fp8e4m3 := Memref.whole cc0_scratch0
abbrev scM0_1 : Memref sig .tc .vmem S4x144x160 .bf16 := Memref.whole cc0_scratch1
abbrev scM0_2 : Memref sig .tc .vmem S8960x256 .bf16 := Memref.whole cc0_scratch2
abbrev scM0_3 : Memref sig .tc .vmem S2x8960x128 .f32 := Memref.whole cc0_scratch3
abbrev scM0_4 : Memref sig .tc .vmem S8960x256 .fp8e4m3 := Memref.whole cc0_scratch4
/-- The scratch `arg10` the kernel carries between points, as a view: what it holds is stated through it. -/
abbrev VS0_1 : View sig .tc .vmem S4x144x160 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.KernelIdeal.BodyA.lean ====
/- The kernel body of `proofs.«01_k».proof.KernelIdeal` at the first point, where the branch is taken: its triple with nothing said of
   what it leaves outside its inputs. -/
module

public import proofs.«01_k».proof.Proof.KernelIdeal.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1904000 in
/-- The kernel body at the first point, where the branch is taken: from the inputs' buffers at their contents and every other buffer at anything, it runs to
    its end and leaves the inputs' buffers as they were and the others at some contents. -/
theorem body_A (c : Dev nD) (i : grid0.Coords) (arg1 : Memref sig .tc .vmem S1x256x8960 .bf16) (harg1 : arg1.IsWhole) (arg2 : Memref sig .tc .vmem S140x140 .f32) (harg2 : arg2.IsWhole) (arg3 : Memref sig .tc .vmem S1536x4480 .i8) (harg3 : arg3.IsWhole) (arg4 : Memref sig .tc .vmem S1536x70 .i8) (harg4 : arg4.IsWhole) (arg5 : Memref sig .tc .vmem S1x1536 .f32) (harg5 : arg5.IsWhole) (arg6 : Memref sig .tc .vmem S1x256x1536 .bf16) (harg6 : arg6.IsWhole) (arg7 : Memref sig .tc .vmem S1x256x8960 .i8) (harg7 : arg7.IsWhole) (arg8 : Memref sig .tc .vmem S6x256 .f32) (harg8 : arg8.IsWhole) (arg9 : Memref sig .tc .vmem S1536x8960 .fp8e4m3) (harg9 : arg9.IsWhole) (arg10 : Memref sig .tc .vmem S4x144x160 .bf16) (harg10 : arg10.IsWhole) (arg11 : Memref sig .tc .vmem S8960x256 .bf16) (harg11 : arg11.IsWhole) (arg12 : Memref sig .tc .vmem S2x8960x128 .f32) (harg12 : arg12.IsWhole) (arg13 : Memref sig .tc .vmem S8960x256 .fp8e4m3) (harg13 : arg13.IsWhole) (hc0 : cond0_0 i)
    (x0 : Vec F S1x256x8960 .bf16) (x1 : Vec F S140x140 .f32) (x2 : Vec F S1536x4480 .i8) (x3 : Vec F S1536x70 .i8) (x4 : Vec F S1x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.KernelIdeal.Run

end
-- ==== Proof.KernelIdeal.BodyB.lean ====
/- The kernel body of `proofs.«01_k».proof.KernelIdeal` at every other point, where the branch is not taken: its triple with nothing said of
   what it leaves outside its inputs. -/
module

public import proofs.«01_k».proof.Proof.KernelIdeal.BodyA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1680000 in
/-- The kernel body at every other point, where the branch is not taken: from the inputs' buffers at their contents and every other buffer at anything, it runs to
    its end and leaves the inputs' buffers as they were and the others at some contents. -/
theorem body_B (c : Dev nD) (i : grid0.Coords) (arg1 : Memref sig .tc .vmem S1x256x8960 .bf16) (harg1 : arg1.IsWhole) (arg2 : Memref sig .tc .vmem S140x140 .f32) (harg2 : arg2.IsWhole) (arg3 : Memref sig .tc .vmem S1536x4480 .i8) (harg3 : arg3.IsWhole) (arg4 : Memref sig .tc .vmem S1536x70 .i8) (harg4 : arg4.IsWhole) (arg5 : Memref sig .tc .vmem S1x1536 .f32) (harg5 : arg5.IsWhole) (arg6 : Memref sig .tc .vmem S1x256x1536 .bf16) (harg6 : arg6.IsWhole) (arg7 : Memref sig .tc .vmem S1x256x8960 .i8) (harg7 : arg7.IsWhole) (arg8 : Memref sig .tc .vmem S6x256 .f32) (harg8 : arg8.IsWhole) (arg9 : Memref sig .tc .vmem S1536x8960 .fp8e4m3) (harg9 : arg9.IsWhole) (arg10 : Memref sig .tc .vmem S4x144x160 .bf16) (harg10 : arg10.IsWhole) (arg11 : Memref sig .tc .vmem S8960x256 .bf16) (harg11 : arg11.IsWhole) (arg12 : Memref sig .tc .vmem S2x8960x128 .f32) (harg12 : arg12.IsWhole) (arg13 : Memref sig .tc .vmem S8960x256 .fp8e4m3) (harg13 : arg13.IsWhole) (hc0 : ¬cond0_0 i)
    (x0 : Vec F S1x256x8960 .bf16) (x1 : Vec F S140x140 .f32) (x2 : Vec F S1536x4480 .i8) (x3 : Vec F S1536x70 .i8) (x4 : Vec F S1x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.KernelIdeal.Run

end
-- ==== Proof.KernelIdeal.Frame.lean ====
/- The frame of `proofs.«01_k».proof.KernelIdeal`: the launch with nothing said of the outputs. -/
module

public import proofs.«01_k».proof.Proof.KernelIdeal.BodyB
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (`Pipeline.ΦA`: every scratch buffer at anything);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 9600000 in
/-- The body at any point, by the branch's condition: the inputs' memrefs hold their blocks, the rest is at anything
    before and after; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 6 = 0
  · iapply (body_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (body_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => Idealize.SL.BI.Entails.refl _) (hout := fun _ => Idealize.SL.BI.Entails.refl _)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: from any memory with zero counters every execution ends, with the argument arrays unchanged and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Spec.lean ====
/- The scalar functions that both programs are read down to: the butterfly of radix eight, the code of a value. -/
module

public import Idealize.ShloMosaic.Lib.Pointwise

@[expose] public section

noncomputable section

namespace Cert.Spec

open Idealize.ShloMosaic

/-- The rounded and clipped code of the value `v` at the multiplier `m`. -/
def kq (v m : EReal) : EReal :=
  min (Ideal.ofBits .f32 0x40E00000#32) (max (Ideal.ofBits .f32 0xC0E00000#32) (Ideal.liftRound Ideal.roundHalfEven (v * m)))

/-- The butterfly of eight values: three rounds of sums and differences. -/
def bfly (g : Fin 8 → EReal) : Fin 8 → EReal :=
  ![((g 0 + g 1) + (g 2 + g 3)) + ((g 4 + g 5) + (g 6 + g 7)),
    ((g 0 - g 1) + (g 2 - g 3)) + ((g 4 - g 5) + (g 6 - g 7)),
    ((g 0 + g 1) - (g 2 + g 3)) + ((g 4 + g 5) - (g 6 + g 7)),
    ((g 0 - g 1) - (g 2 - g 3)) + ((g 4 - g 5) - (g 6 - g 7)),
    ((g 0 + g 1) + (g 2 + g 3)) - ((g 4 + g 5) + (g 6 + g 7)),
    ((g 0 - g 1) + (g 2 - g 3)) - ((g 4 - g 5) + (g 6 - g 7)),
    ((g 0 + g 1) - (g 2 + g 3)) - ((g 4 + g 5) - (g 6 + g 7)),
    ((g 0 - g 1) - (g 2 - g 3)) - ((g 4 - g 5) - (g 6 - g 7))]

/-- The constant both programs scale by, and the largest code. -/
def cInv : EReal := Ideal.ofBits .f32 0x3C2D166C#32
def cSev : EReal := Ideal.ofBits .f32 0x40E00000#32

/-- The largest absolute value of a token's row. -/
def amaxOf (f : Fin 8960 → EReal) : EReal := Finset.univ.sup fun r => max (f r) (-(f r))

/-- The scale of a token from the scaled largest absolute value of its row. -/
def scaleOf (a : EReal) : EReal := if a = 0 then 1 else Ideal.div a cSev

end Cert.Spec
-- ==== Proof.Math.lean ====
/- The mathematics the two programs share, on extended reals: the Walsh–Hadamard transform of radix 64 in two butterflies, finite and infinite rows, the scale, the codes. -/
module

public import proofs.«01_k».proof.Proof.Spec
public import Idealize.ShloMosaic.Lib.Pointwise
public import Idealize.ShloMosaic.Lib.IdealHost

@[expose] public section

set_option maxRecDepth 16384

noncomputable section

namespace Cert.Spec

open Idealize.ShloMosaic

/-! ## Finite extended reals -/

/-- Neither infinity. -/
def IsFin (a : EReal) : Prop := a ≠ ⊤ ∧ a ≠ ⊥

theorem isFin_coe (r : ℝ) : IsFin (r : EReal) := ⟨EReal.coe_ne_top r, EReal.coe_ne_bot r⟩
theorem not_fin_top : ¬ IsFin ⊤ := fun h => h.1 rfl
theorem not_fin_bot : ¬ IsFin ⊥ := fun h => h.2 rfl
theorem IsFin.coe_toReal {a : EReal} (h : IsFin a) : ((a.toReal : ℝ) : EReal) = a := EReal.coe_toReal h.1 h.2

theorem isFin_neg {a : EReal} : IsFin (-a) ↔ IsFin a := by
  induction a with
  | bot => simp [IsFin]
  | top => simp [IsFin]
  | coe r => rw [← EReal.coe_neg]; exact ⟨fun _ => isFin_coe _, fun _ => isFin_coe _⟩

theorem isFin_add {a b : EReal} : IsFin (a + b) ↔ IsFin a ∧ IsFin b := by
  induction a with
  | bot => simp [IsFin]
  | top =>
    induction b with
    | bot => simp [IsFin]
    | top => simp [IsFin]
    | coe s => simp [IsFin]
  | coe r =>
    induction b with
    | bot => simp [IsFin]
    | top => simp [IsFin]
    | coe s => rw [← EReal.coe_add]; exact ⟨fun _ => ⟨isFin_coe _, isFin_coe _⟩, fun _ => isFin_coe _⟩

theorem isFin_sub {a b : EReal} : IsFin (a - b) ↔ IsFin a ∧ IsFin b := by
  rw [sub_eq_add_neg, isFin_add, isFin_neg]

theorem isFin_sum {ι : Type} (s : Finset ι) (f : ι → EReal) : IsFin (∑ i ∈ s, f i) ↔ ∀ i ∈ s, IsFin (f i) := by
  classical
  induction s using Finset.induction_on with
  | empty => simpa using isFin_coe 0
  | insert a s ha ih => rw [Finset.sum_insert ha, isFin_add, ih]; simp

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product with a nonzero factor and an infinite one is infinite. -/
theorem not_fin_mul_right {a b : EReal} (ha : ¬ IsFin a) (hb : b ≠ 0) : ¬ IsFin (a * b) := by
  induction a with
  | coe r => exact absurd (isFin_coe r) ha
  | top =>
    rcases lt_or_gt_of_ne hb with h | h
    · rw [EReal.top_mul_of_neg h]; exact not_fin_bot
    · rw [EReal.top_mul_of_pos h]; exact not_fin_top
  | bot =>
    rcases lt_or_gt_of_ne hb with h | h
    · rw [EReal.bot_mul_of_neg h]; exact not_fin_top
    · rw [EReal.bot_mul_of_pos h]; exact not_fin_bot
theorem not_fin_mul_left {a b : EReal} (ha : a ≠ 0) (hb : ¬ IsFin b) : ¬ IsFin (a * b) := by
  rw [mul_comm]; exact not_fin_mul_right hb ha
theorem isFin_mul {a b : EReal} (ha : IsFin a) (hb : IsFin b) : IsFin (a * b) := by
  rw [← ha.coe_toReal, ← hb.coe_toReal, ← EReal.coe_mul]; exact isFin_coe _

/-! ## The butterfly -/

theorem isFin_bfly (g : Fin 8 → EReal) (a : Fin 8) : IsFin (bfly g a) ↔ ∀ i, IsFin (g i) := by
  have key : IsFin (bfly g a) ↔ (((IsFin (g 0) ∧ IsFin (g 1)) ∧ (IsFin (g 2) ∧ IsFin (g 3))) ∧ ((IsFin (g 4) ∧ IsFin (g 5)) ∧ (IsFin (g 6) ∧ IsFin (g 7)))) := by
    fin_cases a <;> simp [bfly, isFin_add, isFin_sub]
  rw [key]
  constructor
  · rintro ⟨⟨⟨h0, h1⟩, h2, h3⟩, ⟨h4, h5⟩, h6, h7⟩ i
    fin_cases i <;> assumption
  · intro h
    exact ⟨⟨⟨h 0, h 1⟩, h 2, h 3⟩, ⟨h 4, h 5⟩, h 6, h 7⟩

/-- The butterfly on the reals. -/
def bflyR (g : Fin 8 → ℝ) : Fin 8 → ℝ :=
  ![((g 0 + g 1) + (g 2 + g 3)) + ((g 4 + g 5) + (g 6 + g 7)),
    ((g 0 - g 1) + (g 2 - g 3)) + ((g 4 - g 5) + (g 6 - g 7)),
    ((g 0 + g 1) - (g 2 + g 3)) + ((g 4 + g 5) - (g 6 + g 7)),
    ((g 0 - g 1) - (g 2 - g 3)) + ((g 4 - g 5) - (g 6 - g 7)),
    ((g 0 + g 1) + (g 2 + g 3)) - ((g 4 + g 5) + (g 6 + g 7)),
    ((g 0 - g 1) + (g 2 - g 3)) - ((g 4 - g 5) + (g 6 - g 7)),
    ((g 0 + g 1) - (g 2 + g 3)) - ((g 4 + g 5) - (g 6 + g 7)),
    ((g 0 - g 1) - (g 2 - g 3)) - ((g 4 - g 5) - (g 6 - g 7))]

theorem bfly_coe (g : Fin 8 → ℝ) (a : Fin 8) : bfly (fun i => (g i : EReal)) a = (bflyR g a : EReal) := by
  fin_cases a <;> simp [bfly, bflyR, EReal.coe_add, EReal.coe_sub]

/-- The signs of the butterfly. -/
def s8 : Fin 8 → Fin 8 → ℤ :=
  ![![1, 1, 1, 1, 1, 1, 1, 1], ![1, -1, 1, -1, 1, -1, 1, -1], ![1, 1, -1, -1, 1, 1, -1, -1], ![1, -1, -1, 1, 1, -1, -1, 1],
    ![1, 1, 1, 1, -1, -1, -1, -1], ![1, -1, 1, -1, -1, 1, -1, 1], ![1, 1, -1, -1, -1, -1, 1, 1], ![1, -1, -1, 1, -1, 1, 1, -1]]

theorem bflyR_eq (g : Fin 8 → ℝ) (a : Fin 8) : bflyR g a = ∑ i : Fin 8, (s8 a i : ℝ) * g i := by
  rw [Fin.sum_univ_eight]
  fin_cases a <;> simp [bflyR, s8] <;> ring

/-- A butterfly that vanishes is of values that vanish. -/
theorem bflyR_inj (g : Fin 8 → ℝ) (h : ∀ a, bflyR g a = 0) (i : Fin 8) : g i = 0 := by
  have h0 := h 0
  have h1 := h 1
  have h2 := h 2
  have h3 := h 3
  have h4 := h 4
  have h5 := h 5
  have h6 := h 6
  have h7 := h 7
  simp [bflyR] at h0 h1 h2 h3 h4 h5 h6 h7
  fin_cases i <;> simp <;> linarith

/-- The sign of the Walsh–Hadamard matrix: minus one to the number of common bits. -/
def sgI (q p : ℕ) : ℤ :=
  (IntOp.subi 1#32 (IntOp.muli 2#32 (IntOp.andi (IntOp.ctpop (IntOp.andi (BitVec.ofNat 32 q) (BitVec.ofNat 32 p))) 1#32))).toInt

theorem sgI_split : ∀ a b a' i : Fin 8, sgI (8 * a.val + b.val) (8 * a'.val + i.val) = s8 a a' * s8 b i := by decide +kernel

/-- Two butterflies across 64 values. -/
def two (u : Fin 64 → ℝ) (a b : Fin 8) : ℝ := bflyR (fun a' => bflyR (fun i => u ⟨8 * a'.val + i.val, by omega⟩) b) a

theorem sum64 (f : Fin 64 → ℝ) : ∑ p : Fin 64, f p = ∑ a : Fin 8, ∑ i : Fin 8, f ⟨8 * a.val + i.val, by omega⟩ := by
  rw [← Fintype.sum_prod_type']
  refine (Fintype.sum_equiv (finProdFinEquiv (m := 8) (n := 8)) (fun y : Fin 8 × Fin 8 => f ⟨8 * y.1.val + y.2.val, by omega⟩) f fun y => congrArg f (Fin.ext ?_)).symm
  show 8 * y.1.val + y.2.val = y.2.val + 8 * y.1.val
  omega

/-- Two butterflies are the row of the Walsh–Hadamard matrix. -/
theorem two_eq (u : Fin 64 → ℝ) (a b : Fin 8) : two u a b = ∑ p : Fin 64, (sgI (8 * a.val + b.val) p.val : ℝ) * u p := by
  rw [sum64, two, bflyR_eq]
  refine Finset.sum_congr rfl fun a' _ => ?_
  rw [bflyR_eq, Finset.mul_sum]
  refine Finset.sum_congr rfl fun i _ => ?_
  rw [sgI_split]
  push_cast
  ring

theorem two_inj (u : Fin 64 → ℝ) (h : ∀ a b, two u a b = 0) (p : Fin 64) : u p = 0 := by
  have h1 : ∀ b a' : Fin 8, bflyR (fun i => u ⟨8 * a'.val + i.val, by omega⟩) b = 0 := fun b => bflyR_inj _ fun a => h a b
  have h2 := bflyR_inj (fun i => u ⟨8 * (⟨p.val / 8, by omega⟩ : Fin 8).val + i.val, by have := i.isLt; simp only; omega⟩) (fun b => h1 b ⟨p.val / 8, by omega⟩) ⟨p.val % 8, by omega⟩
  have e : (⟨8 * (⟨p.val / 8, by omega⟩ : Fin 8).val + (⟨p.val % 8, by omega⟩ : Fin 8).val, by simp only; omega⟩ : Fin 64) = p := Fin.ext (by simp only; omega)
  rw [← e]
  exact h2

theorem sgI_ne (q p : ℕ) (hq : q < 64) (hp : p < 64) : sgI q p ≠ 0 := by
  have h := sgI_split ⟨q / 8, by omega⟩ ⟨q % 8, by omega⟩ ⟨p / 8, by omega⟩ ⟨p % 8, by omega⟩
  simp only at h
  rw [show 8 * (q / 8) + q % 8 = q by omega, show 8 * (p / 8) + p % 8 = p by omega] at h
  rw [h]
  have : ∀ a b a' i : Fin 8, s8 a a' * s8 b i ≠ 0 := by decide +kernel
  exact this _ _ _ _

/-! ## A token's row, as the kernel and as the reference compute it -/

/-- Two butterflies of the products with the matrix `H`. -/
def rowK (H : Fin 140 → Fin 140 → EReal) (x : Fin 8960 → EReal) (r : Fin 8960) : EReal :=
  bfly (fun a' => bfly (fun i => ∑ k : Fin 140, H ⟨r.val % 140, by omega⟩ k * x ⟨140 * (8 * a'.val + i.val) + k.val, by omega⟩) ⟨r.val % 1120 / 140, by omega⟩) ⟨r.val / 1120, by omega⟩

/-- The products with the matrix `H` of the Walsh–Hadamard transform, times the constant. -/
def rowW (H : Fin 140 → Fin 140 → EReal) (x : Fin 8960 → EReal) (r : Fin 8960) : EReal :=
  (∑ k : Fin 140, (∑ p : Fin 64, x ⟨p.val * 140 + k.val, by omega⟩ * ((sgI (r.val / 140) p.val : ℝ) : EReal)) * H ⟨r.val % 140, by omega⟩ k) * cInv

/-- The row in blocks of 140. -/
def blkx (x : Fin 8960 → EReal) (k : Fin 140) (p : Fin 64) : EReal := x ⟨140 * p.val + k.val, by omega⟩

theorem rowW_eq (H : Fin 140 → Fin 140 → EReal) (x : Fin 8960 → EReal) (r : Fin 8960) :
    rowW H x r = (∑ k : Fin 140, (∑ p : Fin 64, blkx x k p * ((sgI (r.val / 140) p.val : ℝ) : EReal)) * H ⟨r.val % 140, by omega⟩ k) * cInv := by
  unfold rowW
  refine congrArg (· * cInv) (Finset.sum_congr rfl fun k _ => congrArg (· * _) (Finset.sum_congr rfl fun p _ => congrArg (· * _) (congrArg x (Fin.ext ?_))))
  show p.val * 140 + k.val = 140 * p.val + k.val
  omega

theorem cInv_coe : ∃ c : ℝ, 0 < c ∧ cInv = (c : EReal) := by
  refine ⟨11343468 / 1073741824, by norm_num, ?_⟩
  simp [cInv, Ideal.ofBits, Ideal.ieee]
  norm_num
  rw [← EReal.coe_mul]
  refine congrArg _ ?_
  norm_num
theorem cSev_coe : cSev = ((7 : ℝ) : EReal) := by
  simp [cSev, Ideal.ofBits, Ideal.ieee]
  norm_num
  rw [← EReal.coe_mul]
  refine congrArg _ ?_
  norm_num
theorem cNeg_coe : Ideal.ofBits .f32 0xC0E00000#32 = ((-7 : ℝ) : EReal) := by
  simp [Ideal.ofBits, Ideal.ieee]
  norm_num
  rw [← EReal.coe_mul]
  refine congrArg _ ?_
  norm_num

/-- When every product of the row is finite, the kernel's value is the real transform of the products' sums. -/
theorem rowK_fin (H : Fin 140 → Fin 140 → EReal) (x : Fin 8960 → EReal) (r : Fin 8960)
    (hf : ∀ k p, IsFin (H ⟨r.val % 140, by omega⟩ k * blkx x k p)) :
    rowK H x r = ((two (fun p => ∑ k : Fin 140, (H ⟨r.val % 140, by omega⟩ k * blkx x k p).toReal) ⟨r.val / 1120, by omega⟩ ⟨r.val % 1120 / 140, by omega⟩ : ℝ) : EReal) := by
  have e : ∀ (a' i : Fin 8), (∑ k : Fin 140, H ⟨r.val % 140, by omega⟩ k * x ⟨140 * (8 * a'.val + i.val) + k.val, by omega⟩)
      = ((∑ k : Fin 140, (H ⟨r.val % 140, by omega⟩ k * blkx x k ⟨8 * a'.val + i.val, by omega⟩).toReal : ℝ) : EReal) := by
    intro a' i
    rw [coe_sum]
    exact Finset.sum_congr rfl fun k _ => ((hf k ⟨8 * a'.val + i.val, by omega⟩).coe_toReal).symm
  unfold rowK
  simp only [e]
  simp only [bfly_coe]
  rfl

/-- One column of the reference's value, when its products are finite. -/
theorem col_fin (h : EReal) (y : Fin 64 → EReal) (σ : Fin 64 → ℝ) (hf : ∀ p, IsFin (h * y p)) :
    (∑ p : Fin 64, y p * (σ p : EReal)) * h = ((∑ p : Fin 64, σ p * (h * y p).toReal : ℝ) : EReal) := by
  by_cases h0 : h = 0
  · subst h0
    simp
  by_cases hh : IsFin h
  · have hy : ∀ p, IsFin (y p) := fun p => by
      by_contra hn
      exact not_fin_mul_left h0 hn (hf p)
    have e1 : ∀ p, y p * (σ p : EReal) = (((y p).toReal * σ p : ℝ) : EReal) := fun p => by
      rw [EReal.coe_mul, (hy p).coe_toReal]
    simp only [e1]
    rw [← coe_sum, ← hh.coe_toReal, ← EReal.coe_mul]
    refine congrArg _ ?_
    rw [Finset.sum_mul]
    refine Finset.sum_congr rfl fun p _ => ?_
    rw [← (hy p).coe_toReal, ← EReal.coe_mul, EReal.toReal_coe, EReal.toReal_coe]
    ring
  · have hy : ∀ p, y p = 0 := fun p => by
      by_contra hn
      exact not_fin_mul_right hh hn (hf p)
    simp [hy]

theorem rowW_fin (H : Fin 140 → Fin 140 → EReal) (x : Fin 8960 → EReal) (r : Fin 8960)
    (hf : ∀ k p, IsFin (H ⟨r.val % 140, by omega⟩ k * blkx x k p)) : rowW H x r = rowK H x r * cInv := by
  rw [rowW_eq, rowK_fin H x r hf]
  refine congrArg (· * cInv) ?_
  rw [two_eq]
  have e : ∀ k : Fin 140, (∑ p : Fin 64, blkx x k p * ((sgI (r.val / 140) p.val : ℝ) : EReal)) * H ⟨r.val % 140, by omega⟩ k
      = ((∑ p : Fin 64, (sgI (r.val / 140) p.val : ℝ) * (H ⟨r.val % 140, by omega⟩ k * blkx x k p).toReal : ℝ) : EReal) := fun k =>
    col_fin _ _ (fun p => (sgI (r.val / 140) p.val : ℝ)) (hf k)
  simp only [e]
  rw [← coe_sum]
  refine congrArg _ ?_
  rw [Finset.sum_comm]
  refine Finset.sum_congr rfl fun p _ => ?_
  rw [Finset.mul_sum]
  have eq : 8 * (r.val / 1120) + r.val % 1120 / 140 = r.val / 140 := by omega
  simp only [eq]

/-! ## The largest absolute value -/

theorem amaxOf_top (f : Fin 8960 → EReal) (r : Fin 8960) (h : ¬ IsFin (f r)) : amaxOf f = ⊤ := by
  have hm : max (f r) (-(f r)) = ⊤ := by
    induction hfr : f r with
    | coe s => rw [hfr] at h; exact absurd (isFin_coe s) h
    | top => simp
    | bot => simp
  refine top_le_iff.mp ?_
  rw [← hm]
  exact Finset.le_sup (f := fun r => max (f r) (-(f r))) (Finset.mem_univ r)

theorem mulc_mono (c : ℝ) (hc : 0 < c) : Monotone fun a : EReal => a * (c : EReal) := fun a b h =>
  mul_le_mul_of_nonneg_right h (by exact_mod_cast hc.le)

theorem amaxOf_mul (f : Fin 8960 → EReal) (c : ℝ) (hc : 0 < c) : amaxOf (fun r => f r * (c : EReal)) = amaxOf f * (c : EReal) := by
  unfold amaxOf
  rw [Finset.comp_sup_eq_sup_comp_of_is_total (fun a : EReal => a * (c : EReal)) (mulc_mono c hc) (EReal.bot_mul_coe_of_pos hc)]
  refine Finset.sup_congr rfl fun r _ => ?_
  show max (f r * (c : EReal)) (-(f r * (c : EReal))) = max (f r) (-(f r)) * (c : EReal)
  rw [← EReal.neg_mul]
  exact ((mulc_mono c hc).map_max).symm

/-- Either both rows hold an infinite value, or the reference's row is the kernel's times the constant. -/
theorem rows_cases (H : Fin 140 → Fin 140 → EReal) (x : Fin 8960 → EReal) :
    (amaxOf (rowK H x) = ⊤ ∧ amaxOf (rowW H x) = ⊤) ∨ ∀ r, rowW H x r = rowK H x r * cInv := by
  obtain ⟨c, hc, hce⟩ := cInv_coe
  by_cases hf : ∀ j k p, IsFin (H j k * blkx x k p)
  · exact Or.inr fun r => rowW_fin H x r fun k p => hf _ k p
  left
  obtain ⟨j, hf⟩ := not_forall.mp hf
  obtain ⟨k, hf⟩ := not_forall.mp hf
  obtain ⟨p, hf⟩ := not_forall.mp hf
  have hH : H j k ≠ 0 := fun h0 => hf (by rw [h0, zero_mul]; exact isFin_coe 0)
  have hx : blkx x k p ≠ 0 := fun h0 => hf (by rw [h0, mul_zero]; exact isFin_coe 0)
  constructor
  · refine amaxOf_top _ ⟨j.val, by omega⟩ fun hfin => hf ?_
    unfold rowK at hfin
    rw [isFin_bfly] at hfin
    have h1 := hfin ⟨p.val / 8, by omega⟩
    rw [isFin_bfly] at h1
    have h2 := h1 ⟨p.val % 8, by omega⟩
    rw [isFin_sum] at h2
    have h3 := h2 k (Finset.mem_univ k)
    have e1 : (⟨j.val % 140, by omega⟩ : Fin 140) = j := Fin.ext (by show j.val % 140 = j.val; omega)
    have e2 : (⟨140 * (8 * (p.val / 8) + p.val % 8) + k.val, by omega⟩ : Fin 8960) = ⟨140 * p.val + k.val, by omega⟩ := Fin.ext (by show 140 * (8 * (p.val / 8) + p.val % 8) + k.val = 140 * p.val + k.val; omega)
    have h4 : IsFin (H ⟨j.val % 140, by omega⟩ k * x ⟨140 * (8 * (p.val / 8) + p.val % 8) + k.val, by omega⟩) := h3
    rw [e1, e2] at h4
    exact h4
  · -- the reference's value at block `q`, position `j`, is infinite when its column `k` is
    have main : ∀ q : Fin 64, ¬ IsFin ((∑ p : Fin 64, blkx x k p * ((sgI q.val p.val : ℝ) : EReal)) * H j k) → amaxOf (rowW H x) = ⊤ := by
      intro q hq
      refine amaxOf_top _ ⟨140 * q.val + j.val, by omega⟩ fun hfin => hq ?_
      rw [rowW_eq] at hfin
      have e1 : (140 * q.val + j.val) / 140 = q.val := by omega
      have e2 : (⟨(140 * q.val + j.val) % 140, by omega⟩ : Fin 140) = j := Fin.ext (by show (140 * q.val + j.val) % 140 = j.val; omega)
      simp only [e1, e2] at hfin
      have hs : IsFin (∑ k : Fin 140, (∑ p : Fin 64, blkx x k p * ((sgI q.val p.val : ℝ) : EReal)) * H j k) := by
        by_contra hn
        refine not_fin_mul_right hn ?_ hfin
        rw [hce]
        exact_mod_cast hc.ne'
      rw [isFin_sum] at hs
      exact hs k (Finset.mem_univ k)
    by_cases hxf : ∀ p, IsFin (blkx x k p)
    · -- the matrix is infinite, the row is real: one of the transformed values is not zero
      have hHi : ¬ IsFin (H j k) := fun h => hf (isFin_mul h (hxf p))
      have hne : ∃ a b, two (fun p => (blkx x k p).toReal) a b ≠ 0 := by
        by_contra hn
        have hz : ∀ a b, two (fun p => (blkx x k p).toReal) a b = 0 := fun a b => by
          by_contra h
          exact hn ⟨a, b, h⟩
        have := two_inj _ hz p
        refine hx ?_
        rw [← (hxf p).coe_toReal, this]
        rfl
      obtain ⟨a, b, hab⟩ := hne
      refine main ⟨8 * a.val + b.val, by omega⟩ (not_fin_mul_left ?_ hHi)
      have e1 : ∀ p, blkx x k p * ((sgI (8 * a.val + b.val) p.val : ℝ) : EReal) = (((sgI (8 * a.val + b.val) p.val : ℝ) * (blkx x k p).toReal : ℝ) : EReal) := fun p => by
        rw [EReal.coe_mul, (hxf p).coe_toReal, mul_comm]
      simp only [e1]
      rw [← coe_sum, ← two_eq]
      exact_mod_cast hab
    · obtain ⟨p', hp'⟩ := not_forall.mp hxf
      refine main ⟨0, by omega⟩ (not_fin_mul_right (fun hs => ?_) hH)
      rw [isFin_sum] at hs
      refine not_fin_mul_right hp' ?_ (hs p' (Finset.mem_univ p'))
      have := sgI_ne 0 p'.val (by omega) p'.isLt
      exact_mod_cast this

/-- The scaled largest absolute values agree. -/
theorem amax_eq (H : Fin 140 → Fin 140 → EReal) (x : Fin 8960 → EReal) : amaxOf (rowK H x) * cInv = amaxOf (rowW H x) := by
  obtain ⟨c, hc, hce⟩ := cInv_coe
  rcases rows_cases H x with ⟨h1, h2⟩ | h
  · rw [h1, h2, hce, EReal.top_mul_coe_of_pos hc]
  · rw [show rowW H x = fun r => rowK H x r * (c : EReal) from funext fun r => by rw [h r, hce], amaxOf_mul _ _ hc, hce]

theorem scaleOf_top : scaleOf ⊤ = ⊤ := by
  unfold scaleOf
  rw [if_neg (by simp), cSev_coe]
  unfold Ideal.div
  rw [if_neg (by exact_mod_cast (by norm_num : (7 : ℝ) ≠ 0)), ← EReal.coe_inv]
  exact EReal.top_mul_coe_of_pos (by norm_num)

theorem scaleOf_ne (a : EReal) : scaleOf a ≠ 0 := by
  unfold scaleOf
  split
  · exact one_ne_zero
  · rename_i h
    rw [cSev_coe]
    unfold Ideal.div
    rw [if_neg (by exact_mod_cast (by norm_num : (7 : ℝ) ≠ 0)), ← EReal.coe_inv]
    exact mul_ne_zero h (by exact_mod_cast (by norm_num : (7 : ℝ)⁻¹ ≠ 0))

/-- A value times the constant over the scale is the scaled value over the scale. -/
theorem quot_eq (H : Fin 140 → Fin 140 → EReal) (x : Fin 8960 → EReal) (r : Fin 8960) :
    rowK H x r * Ideal.div cInv (scaleOf (amaxOf (rowW H x))) = Ideal.div (rowW H x r) (scaleOf (amaxOf (rowW H x))) := by
  rcases rows_cases H x with ⟨h1, h2⟩ | h
  · rw [h2, scaleOf_top]
    unfold Ideal.div
    rw [if_neg (by simp), if_neg (by simp), EReal.inv_top, mul_zero, mul_zero, mul_zero]
  · unfold Ideal.div
    rw [if_neg (scaleOf_ne _), if_neg (scaleOf_ne _), h r, mul_assoc]

/-! ## The codes -/

/-- The code of a value already divided by the scale is an integer from minus seven to seven. -/
theorem code_int (w : EReal) : ∃ z : ℤ, -7 ≤ z ∧ z ≤ 7 ∧
    min (Ideal.ofBits .f32 0x40E00000#32) (max (Ideal.ofBits .f32 0xC0E00000#32) (Ideal.liftRound Ideal.roundHalfEven w)) = ((z : ℝ) : EReal) := by
  rw [show Ideal.ofBits .f32 0x40E00000#32 = ((7 : ℝ) : EReal) from cSev_coe, cNeg_coe]
  induction w with
  | bot =>
    refine ⟨-7, by omega, by omega, ?_⟩
    rw [Ideal.liftRound_bot, max_eq_left bot_le, min_eq_right (by exact_mod_cast (by norm_num : (-7 : ℝ) ≤ 7))]
    norm_num
  | top =>
    refine ⟨7, by omega, by omega, ?_⟩
    rw [Ideal.liftRound_top, max_eq_right le_top, min_eq_left le_top]
    norm_num
  | coe r =>
    rw [Ideal.liftRound_coe]
    refine ⟨min 7 (max (-7) (Ideal.roundHalfEven r)), by omega, by omega, ?_⟩
    rw [Int.cast_min, Int.cast_max, EReal.coe_strictMono.monotone.map_min, EReal.coe_strictMono.monotone.map_max]
    norm_num

/-- An integer code goes through eight bits unchanged. -/
theorem code_trip (z : ℤ) (h1 : -7 ≤ z) (h2 : z ≤ 7) : (Ideal.fptosi 8 ((z : ℝ) : EReal)).toInt = z := by
  have e : Ideal.toIntClamped (-(2 ^ (8 - 1) : Nat)) ((2 ^ (8 - 1) : Nat) - 1) ((z : ℝ) : EReal) = z := by
    rw [Ideal.toIntClamped_coe]
    simp only [Int.floor_intCast, Int.ceil_intCast, ite_self]
    norm_num
    omega
  unfold Ideal.fptosi
  rw [e]
  interval_cases z <;> rfl

end Cert.Spec

end
-- ==== Proof.ReferenceIdeal.Pay.lean ====
/- What the reference's payloads are at an index, at the ideal values. -/
module

public import proofs.«01_k».proof.Proof.Gen.ReferenceIdeal.Value
public import proofs.«01_k».proof.Proof.Spec
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.ReferenceIdeal.Val

open Cert.ReferenceIdeal.Gen Cert.Spec
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (ρ : Dev nD → PrngReg)

/-- The code of a value already divided by the scale: rounded to the nearest integer, ties to even, and clipped. -/
def cq (w : EReal) : EReal :=
  min (Ideal.ofBits .f32 0x40E00000#32) (max (Ideal.ofBits .f32 0xC0E00000#32) (Ideal.liftRound Ideal.roundHalfEven w))

/-- The signed codes in the low and in the high four bits of a byte. -/
def nib (a : BitVec 32) : BitVec 32 := Scalar.select (IntOp.cmpi .sge a 8#32) (IntOp.subi a 16#32) a
def loR (v : BitVec 8) : BitVec 32 := nib (IntOp.andi (BitVec.setWidth 32 v) 15#32)
def hiR (v : BitVec 8) : BitVec 32 := nib (IntOp.andi (IntOp.shrsi ArithUnit.vector (BitVec.setWidth 32 v) 4#32) 15#32)

/-- A signed code times two to the power of minus the exponent of its group. -/
def wR (n : BitVec 32) (e : BitVec 8) : EReal :=
  FloatOps.sitofp (F := Ideal) .bf16 n * FloatOps.exp2 (F := Ideal) (φ := .f32) (0 - FloatOps.sitofp (F := Ideal) .f32 (BitVec.setWidth 32 e))

theorem neg_inf_f32 : Ideal.ofBits .f32 0xFF800000#32 = ⊥ := by simp [Ideal.ofBits, Ideal.ieee]

/-! ## The scales and the codes -/

theorem p2 (v0 : Vec Ideal S6x256x8960 .f32) : k0_pay2 (F := Ideal) v0 = v0 := shapeCast_self (s := S6x256x8960) v0 _

theorem max_at (A : FVec Ideal S6x256x8960 .f32) (b : Fin 6) (s : Fin 256) :
    multiReduction (F := Ideal) .maximumf [2] S6x256 A 0xFF800000#32 reduces_S6x256x8960_S6x256 (.inl rfl) rfl (ix2 b s) = Finset.fold max (Ideal.ofBits .f32 0xFF800000#32) (fun x : Fin 8960 => A (ix3 b s x)) Finset.univ := by
  pointwise []

theorem sel_at (A : FVec Ideal S6x256 .f32) (b : Fin 6) (s : Fin 256) :
    select (cmpf .oeq A (broadcast S6x256 (Scalar.ofBits .f32 0x00000000#32))) (broadcast S6x256 (Scalar.ofBits .f32 0x3F800000#32)) (divf A (broadcast S6x256 (Scalar.ofBits .f32 0x40E00000#32))) (ix2 b s)
      = scaleOf (A (ix2 b s)) := by
  unfold scaleOf cSev
  pointwise []

theorem p3 (v0 : Vec Ideal S6x256x8960 .f32) : k0_pay3 (F := Ideal) v0 = (fun A : FVec Ideal S6x256 .f32 => select (cmpf .oeq A (broadcast S6x256 (Scalar.ofBits .f32 0x00000000#32))) (broadcast S6x256 (Scalar.ofBits .f32 0x3F800000#32)) (divf A (broadcast S6x256 (Scalar.ofBits .f32 0x40E00000#32))))
    (multiReduction (F := Ideal) .maximumf [2] S6x256 (absf (k0_pay2 v0)) 0xFF800000#32 reduces_S6x256x8960_S6x256 (.inl rfl) rfl) := rfl

theorem abs_at (A : FVec Ideal S6x256x8960 .f32) (b : Fin 6) (s : Fin 256) (r : Fin 8960) : absf A (ix3 b s r) = max (A (ix3 b s r)) (-(A (ix3 b s r))) := rfl

theorem fold_eq (f : Fin 8960 → EReal) : Finset.fold max ⊥ (fun r => max (f r) (-(f r))) Finset.univ = amaxOf f := rfl

/-- The scale of a token, off the transformed values of its row. -/
theorem scale_at (v0 : Vec Ideal S6x256x8960 .f32) (b : Fin 6) (s : Fin 256) :
    k0_pay3 (F := Ideal) v0 (ix2 b s) = scaleOf (amaxOf fun r => v0 (ix3 b s r)) := by
  refine (congrFun (p3 v0) _).trans ((sel_at _ b s).trans ?_)
  rw [max_at, p2, neg_inf_f32]
  simp only [abs_at]
  rw [fold_eq]

theorem p4 (v0 : Vec Ideal S6x256x8960 .f32) : k0_pay4 (F := Ideal) v0 = (fptosi 8 (minimumf (broadcast S6x256x8960 (Scalar.ofBits .f32 0x40E00000#32)) (maximumf (broadcast S6x256x8960 (Scalar.ofBits .f32 0xC0E00000#32)) (roundeven (divf (k0_pay2 (F := Ideal) v0) (broadcastTo S6x256x8960 (shapeCast S6x256x1 (k0_pay3 (F := Ideal) v0) shapeCasts_S6x256_S6x256x1) broadcasts_S6x256x1_S6x256x8960))))) : IVec S6x256x8960 8) := rfl

theorem col_r (P : FVec Ideal S6x256 .f32) (b : Fin 6) (s : Fin 256) (r : Fin 8960) :
    broadcastTo S6x256x8960 (shapeCast S6x256x1 P shapeCasts_S6x256_S6x256x1) broadcasts_S6x256x1_S6x256x8960 (ix3 b s r) = P (ix2 b s) := by
  pointwise []

theorem quot_at (A B : FVec Ideal S6x256x8960 .f32) (b : Fin 6) (s : Fin 256) (r : Fin 8960) :
    (fptosi 8 (minimumf (broadcast S6x256x8960 (Scalar.ofBits .f32 0x40E00000#32)) (maximumf (broadcast S6x256x8960 (Scalar.ofBits .f32 0xC0E00000#32)) (roundeven (divf A B)))) : IVec S6x256x8960 8) (ix3 b s r) = FloatOps.fptosi (F := Ideal) (φ := .f32) 8 (min (Ideal.ofBits .f32 0x40E00000#32) (max (Ideal.ofBits .f32 0xC0E00000#32) (Ideal.liftRound Ideal.roundHalfEven (Ideal.div (A (ix3 b s r)) (B (ix3 b s r)))))) := by
  pointwise []

/-- The code of a value. -/
theorem code_at (v0 : Vec Ideal S6x256x8960 .f32) (b : Fin 6) (s : Fin 256) (r : Fin 8960) :
    k0_pay4 (F := Ideal) v0 (ix3 b s r) = FloatOps.fptosi (F := Ideal) (φ := .f32) 8 (cq (Ideal.div (v0 (ix3 b s r)) (scaleOf (amaxOf fun r => v0 (ix3 b s r))))) := by
  refine (congrFun (p4 v0) _).trans ((quot_at _ _ b s r).trans ?_)
  rw [col_r, p2, scale_at]
  rfl

/-! ## The weights and the activations -/

theorem lo_at (v25 : Vec Ideal S1536x4480 .i8) (n : Fin 1536) (x : Fin 4480) : k0_pay9 (F := Ideal) v25 (ix2 n x) = loR (v25 (ix2 n x)) := by
  unfold loR nib
  pointwise [k0_pay9, k0_pay8]
theorem hi_at (v25 : Vec Ideal S1536x4480 .i8) (n : Fin 1536) (x : Fin 4480) : (select (cmpi .sge (andi (k0_pay10 (F := Ideal) v25) k0_pay11) (broadcast S1536x4480 8#32)) (subi (andi (k0_pay10 (F := Ideal) v25) k0_pay11) (broadcast S1536x4480 16#32)) (andi (k0_pay10 (F := Ideal) v25) k0_pay11)) (ix2 n x) = hiR (v25 (ix2 n x)) := by
  unfold hiR nib
  pointwise [k0_pay10, k0_pay8, k0_pay11]
theorem cvt_at (a : IVec S1536x4480 32) (n : Fin 1536) (x : Fin 4480) : (sitofp (F := Ideal) .bf16 a : FVec Ideal S1536x4480 .bf16) (ix2 n x) = FloatOps.sitofp (F := Ideal) .bf16 (a (ix2 n x)) := rfl
theorem exp_at (v43 : Vec Ideal S1536x70 .i8) (n : Fin 1536) (x : Fin 70) :
    (truncf (F := Ideal) .bf16 (exp2 (subf (broadcast S1536x70 (Scalar.ofBits (F := Ideal) .f32 0x00000000#32)) (sitofp (F := Ideal) .f32 (extui 32 v43 natLt_8_32)))) bitsLt_bf16_f32) (ix2 n x) = FloatOps.exp2 (F := Ideal) (φ := .f32) (0 - FloatOps.sitofp (F := Ideal) .f32 (BitVec.setWidth 32 (v43 (ix2 n x)))) := by
  pointwise []
theorem g0_at (E : FVec Ideal S1536x70 .bf16) (n : Fin 1536) (x : Fin 35) : extractStridedSlice S1536x35 ![0, 0] E slices_S1536x70_o0_0_S1536x35 (ix2 n x) = E (ix2 n ⟨x.val, by omega⟩) := by
  pointwise []
theorem g1_at (E : FVec Ideal S1536x70 .bf16) (n : Fin 1536) (x : Fin 35) : extractStridedSlice S1536x35 ![0, 35] E slices_S1536x70_o0_35_S1536x35 (ix2 n x) = E (ix2 n ⟨35 + x.val, by omega⟩) := by
  pointwise []
theorem wcol (A : FVec Ideal S1536x4480 .bf16) (E : FVec Ideal S1536x35 .bf16) (n : Fin 1536) (x : Fin 4480) :
    (truncf (F := Ideal) .fp8e4m3 (shapeCast S1536x4480 (mulf (shapeCast S1536x35x128 A shapeCasts_S1536x4480_S1536x35x128) (broadcastTo S1536x35x128 (shapeCast S1536x35x1 E shapeCasts_S1536x35_S1536x35x1) broadcasts_S1536x35x1_S1536x35x128)) shapeCasts_S1536x35x128_S1536x4480) bitsLt_fp8e4m3_bf16 : FVec Ideal S1536x4480 .fp8e4m3) (ix2 n x) = A (ix2 n x) * E (ix2 n ⟨x.val / 128, by omega⟩) := by
  pointwise []

/-- The weights of the low and of the high half of the columns. -/
theorem wlo_at (v25 : Vec Ideal S1536x4480 .i8) (v43 : Vec Ideal S1536x70 .i8) (n : Fin 1536) (x : Fin 4480) :
    (truncf (F := Ideal) .fp8e4m3 (shapeCast S1536x4480 (mulf (shapeCast S1536x35x128 (sitofp (F := Ideal) .bf16 (k0_pay9 (F := Ideal) v25)) shapeCasts_S1536x4480_S1536x35x128) (broadcastTo S1536x35x128 (shapeCast S1536x35x1 (extractStridedSlice S1536x35 ![0, 0] (truncf (F := Ideal) .bf16 (exp2 (subf (broadcast S1536x70 (Scalar.ofBits (F := Ideal) .f32 0x00000000#32)) (sitofp (F := Ideal) .f32 (extui 32 v43 natLt_8_32)))) bitsLt_bf16_f32) slices_S1536x70_o0_0_S1536x35) shapeCasts_S1536x35_S1536x35x1) broadcasts_S1536x35x1_S1536x35x128)) shapeCasts_S1536x35x128_S1536x4480) bitsLt_fp8e4m3_bf16 : FVec Ideal S1536x4480 .fp8e4m3) (ix2 n x) = wR (loR (v25 (ix2 n x))) (v43 (ix2 n ⟨x.val / 128, by omega⟩)) := by
  refine (wcol _ _ n x).trans ?_
  rw [cvt_at, lo_at, g0_at, exp_at]
  rfl
theorem whi_at (v25 : Vec Ideal S1536x4480 .i8) (v43 : Vec Ideal S1536x70 .i8) (n : Fin 1536) (x : Fin 4480) :
    (truncf (F := Ideal) .fp8e4m3 (shapeCast S1536x4480 (mulf (shapeCast S1536x35x128 (sitofp (F := Ideal) .bf16 (select (cmpi .sge (andi (k0_pay10 (F := Ideal) v25) k0_pay11) (broadcast S1536x4480 8#32)) (subi (andi (k0_pay10 (F := Ideal) v25) k0_pay11) (broadcast S1536x4480 16#32)) (andi (k0_pay10 (F := Ideal) v25) k0_pay11))) shapeCasts_S1536x4480_S1536x35x128) (broadcastTo S1536x35x128 (shapeCast S1536x35x1 (extractStridedSlice S1536x35 ![0, 35] (truncf (F := Ideal) .bf16 (exp2 (subf (broadcast S1536x70 (Scalar.ofBits (F := Ideal) .f32 0x00000000#32)) (sitofp (F := Ideal) .f32 (extui 32 v43 natLt_8_32)))) bitsLt_bf16_f32) slices_S1536x70_o0_35_S1536x35) shapeCasts_S1536x35_S1536x35x1) broadcasts_S1536x35x1_S1536x35x128)) shapeCasts_S1536x35x128_S1536x4480) bitsLt_fp8e4m3_bf16 : FVec Ideal S1536x4480 .fp8e4m3) (ix2 n x) = wR (hiR (v25 (ix2 n x))) (v43 (ix2 n ⟨35 + x.val / 128, by omega⟩)) := by
  refine (wcol _ _ n x).trans ?_
  rw [cvt_at, hi_at, g1_at, exp_at]
  rfl

theorem act0_at (v0 : Vec Ideal S6x256x8960 .f32) (b : Fin 6) (s : Fin 256) (x : Fin 4480) : k0_pay6 (F := Ideal) v0 (ix3 b s x) = FloatOps.sitofp (F := Ideal) .bf16 (k0_pay4 (F := Ideal) v0 (ix3 b s ⟨x.val, by omega⟩)) := by
  pointwise [k0_pay6, k0_pay5]
theorem act1_at (v0 : Vec Ideal S6x256x8960 .f32) (b : Fin 6) (s : Fin 256) (x : Fin 4480) : k0_pay7 (F := Ideal) v0 (ix3 b s x) = FloatOps.sitofp (F := Ideal) .bf16 (k0_pay4 (F := Ideal) v0 (ix3 b s ⟨4480 + x.val, by omega⟩)) := by
  pointwise [k0_pay7, k0_pay5]

/-! ## The projection -/

theorem mm_at (A : FVec Ideal S6x256x4480 .fp8e4m3) (B : FVec Ideal S1536x4480 .fp8e4m3) (b : Fin 6) (s : Fin 256) (n : Fin 1536) :
    (matmul (F := Ideal) dot_S6x256x4480_S1536x4480_S6x256x1536_2_1_01_0_n_n none A B (constant S6x256x1536 .f32 0x00000000#32)) (ix3 b s n) = ∑ x : Fin 4480, A (ix3 b s x) * B (ix2 n x) := by
  pointwise []
theorem out_at (A : FVec Ideal S6x256x1536 .f32) (P : FVec Ideal S6x256 .f32) (S : FVec Ideal S1536 .f32) (b : Fin 6) (s : Fin 256) (n : Fin 1536) :
    (truncf (F := Ideal) .bf16 (mulf (mulf A (broadcastTo S6x256x1536 (shapeCast S6x256x1 P shapeCasts_S6x256_S6x256x1) broadcasts_S6x256x1_S6x256x1536)) (broadcastTo S6x256x1536 (shapeCast S1x1x1536 S shapeCasts_S1536_S1x1x1536) broadcasts_S1x1x1536_S6x256x1536)) bitsLt_bf16_f32) (ix3 b s n) = A (ix3 b s n) * P (ix2 b s) * S (ix1 n) := by
  pointwise []

theorem add_at (A B : FVec Ideal S6x256x1536 .f32) (b : Fin 6) (s : Fin 256) (n : Fin 1536) : addf (F := Ideal) A B (ix3 b s n) = A (ix3 b s n) + B (ix3 b s n) := rfl

theorem p1 (v0 : Vec Ideal S6x256x8960 .f32) (v25 : Vec Ideal S1536x4480 .i8) (v43 : Vec Ideal S1536x70 .i8) (v72 : Vec Ideal S1536 .f32) :
    k0_pay1 (F := Ideal) (k0_pay3 v0) (k0_pay6 v0) (k0_pay7 v0) (k0_pay9 (F := Ideal) v25) (k0_pay10 (F := Ideal) v25) k0_pay11 v43 v72
      = (truncf (F := Ideal) .bf16 (mulf (mulf (addf (F := Ideal) (matmul (F := Ideal) dot_S6x256x4480_S1536x4480_S6x256x1536_2_1_01_0_n_n none (k0_pay6 v0) (truncf (F := Ideal) .fp8e4m3 (shapeCast S1536x4480 (mulf (shapeCast S1536x35x128 (sitofp (F := Ideal) .bf16 (k0_pay9 (F := Ideal) v25)) shapeCasts_S1536x4480_S1536x35x128) (broadcastTo S1536x35x128 (shapeCast S1536x35x1 (extractStridedSlice S1536x35 ![0, 0] (truncf (F := Ideal) .bf16 (exp2 (subf (broadcast S1536x70 (Scalar.ofBits (F := Ideal) .f32 0x00000000#32)) (sitofp (F := Ideal) .f32 (extui 32 v43 natLt_8_32)))) bitsLt_bf16_f32) slices_S1536x70_o0_0_S1536x35) shapeCasts_S1536x35_S1536x35x1) broadcasts_S1536x35x1_S1536x35x128)) shapeCasts_S1536x35x128_S1536x4480) bitsLt_fp8e4m3_bf16 : FVec Ideal S1536x4480 .fp8e4m3) (constant S6x256x1536 .f32 0x00000000#32)) (matmul (F := Ideal) dot_S6x256x4480_S1536x4480_S6x256x1536_2_1_01_0_n_n none (k0_pay7 v0) (truncf (F := Ideal) .fp8e4m3 (shapeCast S1536x4480 (mulf (shapeCast S1536x35x128 (sitofp (F := Ideal) .bf16 (select (cmpi .sge (andi (k0_pay10 (F := Ideal) v25) k0_pay11) (broadcast S1536x4480 8#32)) (subi (andi (k0_pay10 (F := Ideal) v25) k0_pay11) (broadcast S1536x4480 16#32)) (andi (k0_pay10 (F := Ideal) v25) k0_pay11))) shapeCasts_S1536x4480_S1536x35x128) (broadcastTo S1536x35x128 (shapeCast S1536x35x1 (extractStridedSlice S1536x35 ![0, 35] (truncf (F := Ideal) .bf16 (exp2 (subf (broadcast S1536x70 (Scalar.ofBits (F := Ideal) .f32 0x00000000#32)) (sitofp (F := Ideal) .f32 (extui 32 v43 natLt_8_32)))) bitsLt_bf16_f32) slices_S1536x70_o0_35_S1536x35) shapeCasts_S1536x35_S1536x35x1) broadcasts_S1536x35x1_S1536x35x128)) shapeCasts_S1536x35x128_S1536x4480) bitsLt_fp8e4m3_bf16 : FVec Ideal S1536x4480 .fp8e4m3) (constant S6x256x1536 .f32 0x00000000#32))) (broadcastTo S6x256x1536 (shapeCast S6x256x1 (k0_pay3 (F := Ideal) v0 : FVec Ideal S6x256 .f32) shapeCasts_S6x256_S6x256x1) broadcasts_S6x256x1_S6x256x1536)) (broadcastTo S6x256x1536 (shapeCast S1x1x1536 (v72 : FVec Ideal S1536 .f32) shapeCasts_S1536_S1x1x1536) broadcasts_S1x1x1536_S6x256x1536)) bitsLt_bf16_f32) := rfl

/-- The half rows' products of codes and weights, their sum, and the two scales. -/
theorem proj_at (v0 : Vec Ideal S6x256x8960 .f32) (v25 : Vec Ideal S1536x4480 .i8) (v43 : Vec Ideal S1536x70 .i8) (v72 : Vec Ideal S1536 .f32) (b : Fin 6) (s : Fin 256) (n : Fin 1536) :
    k0_pay1 (F := Ideal) (k0_pay3 v0) (k0_pay6 v0) (k0_pay7 v0) (k0_pay9 (F := Ideal) v25) (k0_pay10 (F := Ideal) v25) k0_pay11 v43 v72 (ix3 b s n)
      = ((∑ x : Fin 4480, FloatOps.sitofp (F := Ideal) .bf16 (k0_pay4 (F := Ideal) v0 (ix3 b s ⟨x.val, by omega⟩)) * wR (loR (v25 (ix2 n x))) (v43 (ix2 n ⟨x.val / 128, by omega⟩)))
          + ∑ x : Fin 4480, FloatOps.sitofp (F := Ideal) .bf16 (k0_pay4 (F := Ideal) v0 (ix3 b s ⟨4480 + x.val, by omega⟩)) * wR (hiR (v25 (ix2 n x))) (v43 (ix2 n ⟨35 + x.val / 128, by omega⟩)))
        * scaleOf (amaxOf fun r => v0 (ix3 b s r)) * v72 (ix1 n) := by
  refine (congrFun (p1 v0 v25 v43 v72) _).trans ((out_at _ _ _ b s n).trans ?_)
  rw [scale_at, add_at, mm_at, mm_at]
  rw [Finset.sum_congr rfl fun x _ => show k0_pay6 (F := Ideal) v0 (ix3 b s x) * _ = _ by rw [act0_at, wlo_at],
    Finset.sum_congr rfl fun x _ => show k0_pay7 (F := Ideal) v0 (ix3 b s x) * _ = _ by rw [act1_at, whi_at]]

end Cert.ReferenceIdeal.Val

end
-- ==== Proof.ReferenceIdeal.Run.lean ====
/- What the reference leaves in its results, at the ideal values, index by index. -/
module

public import proofs.«01_k».proof.Proof.Gen.ReferenceIdeal.Value
public import proofs.«01_k».proof.Proof.Spec
public import proofs.«01_k».proof.Proof.ReferenceIdeal.Pay
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.ReferenceIdeal.Val

open Cert.ReferenceIdeal.Gen Cert.Spec
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (ρ : Dev nD → PrngReg)

theorem wix0_0 : ∀ t : Fin cfg0.N, win0_0.index t 0 = 0 := by decide +kernel
theorem wix0_1 : ∀ t : Fin cfg0.N, win0_0.index t 1 = 0 := by decide +kernel
theorem wix0_2 : ∀ t : Fin cfg0.N, win0_0.index t 2 = 0 := by decide +kernel
theorem wix1_0 : ∀ t : Fin cfg0.N, win0_1.index t 0 = 0 := by decide +kernel
theorem wix1_1 : ∀ t : Fin cfg0.N, win0_1.index t 1 = 0 := by decide +kernel
theorem wix2_0 : ∀ t : Fin cfg0.N, win0_2.index t 0 = 0 := by decide +kernel
theorem wix2_1 : ∀ t : Fin cfg0.N, win0_2.index t 1 = 0 := by decide +kernel
theorem wix3_0 : ∀ t : Fin cfg0.N, win0_3.index t 0 = 0 := by decide +kernel
theorem wix4_0 : ∀ t : Fin cfg0.N, win0_4.index t 0 = 0 := by decide +kernel
theorem wix4_1 : ∀ t : Fin cfg0.N, win0_4.index t 1 = 0 := by decide +kernel
theorem wix4_2 : ∀ t : Fin cfg0.N, win0_4.index t 2 = 0 := by decide +kernel
theorem wix5_0 : ∀ t : Fin cfg0.N, win0_5.index t 0 = 0 := by decide +kernel
theorem wix5_1 : ∀ t : Fin cfg0.N, win0_5.index t 1 = 0 := by decide +kernel
theorem wix5_2 : ∀ t : Fin cfg0.N, win0_5.index t 2 = 0 := by decide +kernel
theorem wix6_0 : ∀ t : Fin cfg0.N, win0_6.index t 0 = 0 := by decide +kernel
theorem wix6_1 : ∀ t : Fin cfg0.N, win0_6.index t 1 = 0 := by decide +kernel

theorem rblk0 (c : Dev nD) (t : Fin cfg0.N) : (iblk m c 0 t : S6x256x8960.Idx → EReal) = V m c main_v18 := by
  funext y
  blk_ext [iblk, wix0_0, wix0_1, wix0_2]
theorem rblk1 (c : Dev nD) (t : Fin cfg0.N) : (iblk m c 1 t : S1536x4480.Idx → BitVec 8) = m ((c : Thread nD τ).loc main_arg2) := by
  funext y
  blk_ext [iblk, V_main_arg2, wix1_0, wix1_1]
theorem rblk2 (c : Dev nD) (t : Fin cfg0.N) : (iblk m c 2 t : S1536x70.Idx → BitVec 8) = m ((c : Thread nD τ).loc main_arg3) := by
  funext y
  blk_ext [iblk, V_main_arg3, wix2_0, wix2_1]
theorem rblk3 (c : Dev nD) (t : Fin cfg0.N) : (iblk m c 3 t : S1536.Idx → EReal) = m ((c : Thread nD τ).loc main_arg4) := by
  funext y
  blk_ext [iblk, V_main_arg4, wix3_0]

/-- The sign of the Walsh–Hadamard matrix at `(q, p)`, as the reference computes it. -/
def sgnR (q p : ℕ) : EReal :=
  FloatOps.sitofp (F := Ideal) .f32 (IntOp.subi 1#32 (IntOp.muli 2#32 (IntOp.andi (IntOp.ctpop (IntOp.andi (BitVec.ofNat 32 q) (BitVec.ofNat 32 p))) 1#32)))

/-- The transformed value of the token `x` at position `r`: the 64 by 64 Walsh–Hadamard matrix across the blocks of 140, then the matrix `H` within each block, then the constant. -/
def rowR (H : Fin 140 → Fin 140 → EReal) (x : Fin 8960 → EReal) (r : Fin 8960) : EReal :=
  (∑ k : Fin 140, (∑ p : Fin 64, x ⟨p.val * 140 + k.val, by omega⟩ * sgnR (r.val / 140) p.val) * H ⟨r.val % 140, by omega⟩ k) * cInv

/-- The rows of the tokens and the parameters, off the arguments. -/
def RX (c : Dev nD) (b : Fin 6) (s : Fin 256) (r : Fin 8960) : EReal := (m ((c : Thread nD τ).loc main_arg0) : S6x256x8960.Idx → EReal) (ix3 b s r)
def RH (c : Dev nD) (s k : Fin 140) : EReal := (m ((c : Thread nD τ).loc main_arg1) : S140x140.Idx → EReal) (ix2 s k)
def RT (c : Dev nD) (b : Fin 6) (s : Fin 256) (r : Fin 8960) : EReal := rowR (RH m c) (RX m c b s) r

/-- The codes of a row, its scale and its projection on one row of the weights. -/
def codeR (v : Fin 8960 → EReal) (r : Fin 8960) : BitVec 8 := FloatOps.fptosi (F := Ideal) (φ := .f32) 8 (cq (Ideal.div (v r) (scaleOf (amaxOf v))))
def projR (v : Fin 8960 → EReal) (w : Fin 4480 → BitVec 8) (e : Fin 70 → BitVec 8) (z : EReal) : EReal :=
  ((∑ x : Fin 4480, FloatOps.sitofp (F := Ideal) .bf16 (codeR v ⟨x.val, by omega⟩) * wR (loR (w x)) (e ⟨x.val / 128, by omega⟩))
    + ∑ x : Fin 4480, FloatOps.sitofp (F := Ideal) .bf16 (codeR v ⟨4480 + x.val, by omega⟩) * wR (hiR (w x)) (e ⟨35 + x.val / 128, by omega⟩))
  * scaleOf (amaxOf v) * z

/-- The results. -/
def RY (c : Dev nD) (y : S6x256x1536.Idx) : EReal :=
  projR (RT m c (y 0) (y 1)) (fun x => (m ((c : Thread nD τ).loc main_arg2) : S1536x4480.Idx → BitVec 8) (ix2 (y 2) x))
    (fun x => (m ((c : Thread nD τ).loc main_arg3) : S1536x70.Idx → BitVec 8) (ix2 (y 2) x)) ((m ((c : Thread nD τ).loc main_arg4) : S1536.Idx → EReal) (ix1 (y 2)))
def RQ (c : Dev nD) (y : S6x256x8960.Idx) : BitVec 8 := codeR (RT m c (y 0) (y 1)) (y 2)
def RS (c : Dev nD) (y : S6x256.Idx) : EReal := scaleOf (amaxOf (RT m c (y 0) (y 1)))

theorem v18_at (c : Dev nD) (b : Fin 6) (s : Fin 256) (r : Fin 8960) : (V m c main_v18 : S6x256x8960.Idx → EReal) (ix3 b s r) = RT m c b s r := by
  unfold RT rowR RX RH sgnR cInv
  entry_read
  pointwise []

/-- The projection at a block of transformed values. -/
theorem proj_row (v0 : Vec Ideal S6x256x8960 .f32) (v25 : Vec Ideal S1536x4480 .i8) (v43 : Vec Ideal S1536x70 .i8) (v72 : Vec Ideal S1536 .f32) (b : Fin 6) (s : Fin 256) (n : Fin 1536) :
    k0_pay1 (F := Ideal) (k0_pay3 v0) (k0_pay6 v0) (k0_pay7 v0) (k0_pay9 (F := Ideal) v25) (k0_pay10 (F := Ideal) v25) k0_pay11 v43 v72 (ix3 b s n)
      = projR (fun r => v0 (ix3 b s r)) (fun x => v25 (ix2 n x)) (fun x => v43 (ix2 n x)) (v72 (ix1 n)) := by
  refine (proj_at _ _ _ _ b s n).trans ?_
  simp only [code_at]
  rfl

theorem projR_congr {v v' : Fin 8960 → EReal} {w w' : Fin 4480 → BitVec 8} {e e' : Fin 70 → BitVec 8} {z z' : EReal} (hv : v = v') (hw : w = w') (he : e = e') (hz : z = z') :
    projR v w e z = projR v' w' e' z' := by
  rw [hv, hw, he, hz]

theorem v18_row (c : Dev nD) (b : Fin 6) (s : Fin 256) : (fun r => (V m c main_v18 : S6x256x8960.Idx → EReal) (ix3 b s r)) = RT m c b s := funext fun r => v18_at m c b s r

/-- The projections. -/
theorem fin4 (c : Dev nD) : (dats m 0 c).arrAt 4 cfg0.N = RY m c := by
  refine (dats m 0 c).arrAt_eq_of_covers 4 _ (by decide +kernel) fun t hf y => ?_
  blk_simp
  rw [after0_4]
  obtain ⟨b, s, n, rfl⟩ : ∃ (b : Fin 6) (s : Fin 256) (n : Fin 1536), y = ix3 b s n := ⟨y 0, y 1, y 2, eq_ix3 y⟩
  have e : (win0_4.blk t).view.emb (ix3 b s n) = (ix3 b s n : S6x256x1536.Idx) := by
    have e0 : (((cfg0.win 4).blk t).view.emb (ix3 b s n) 0 : ℕ) = b.val := by
      blk_simp [wix4_0]
      try simp [ix3]
      try omega
    have e1 : (((cfg0.win 4).blk t).view.emb (ix3 b s n) 1 : ℕ) = s.val := by
      blk_simp [wix4_1]
      try simp [ix3]
      try omega
    have e2 : (((cfg0.win 4).blk t).view.emb (ix3 b s n) 2 : ℕ) = n.val := by
      blk_simp [wix4_2]
      try simp [ix3]
      try omega
    refine funext fun a => Fin.ext ?_
    fin_cases a
    · exact e0
    · exact e1
    · exact e2
  refine Eq.trans ?_ (congrArg (RY m c) e).symm
  frame_out
  refine (proj_row _ _ _ _ b s n).trans ?_
  refine projR_congr ?_ ?_ ?_ ?_
  · rw [rblk0]
    exact v18_row m c b s
  · rw [rblk1]
    rfl
  · rw [rblk2]
    rfl
  · rw [rblk3]
    rfl

/-- The codes. -/
theorem fin5 (c : Dev nD) : (dats m 0 c).arrAt 5 cfg0.N = RQ m c := by
  refine (dats m 0 c).arrAt_eq_of_covers 5 _ (by decide +kernel) fun t hf y => ?_
  blk_simp
  rw [after0_5]
  obtain ⟨b, s, n, rfl⟩ : ∃ (b : Fin 6) (s : Fin 256) (n : Fin 8960), y = ix3 b s n := ⟨y 0, y 1, y 2, eq_ix3 y⟩
  have e : (win0_5.blk t).view.emb (ix3 b s n) = (ix3 b s n : S6x256x8960.Idx) := by
    have e0 : (((cfg0.win 5).blk t).view.emb (ix3 b s n) 0 : ℕ) = b.val := by
      blk_simp [wix5_0]
      try simp [ix3]
      try omega
    have e1 : (((cfg0.win 5).blk t).view.emb (ix3 b s n) 1 : ℕ) = s.val := by
      blk_simp [wix5_1]
      try simp [ix3]
      try omega
    have e2 : (((cfg0.win 5).blk t).view.emb (ix3 b s n) 2 : ℕ) = n.val := by
      blk_simp [wix5_2]
      try simp [ix3]
      try omega
    refine funext fun a => Fin.ext ?_
    fin_cases a
    · exact e0
    · exact e1
    · exact e2
  refine Eq.trans ?_ (congrArg (RQ m c) e).symm
  frame_out
  rw [rblk0]
  refine (code_at _ b s n).trans ?_
  exact congrArg (fun v => codeR v n) (v18_row m c b s)

/-- The scales. -/
theorem fin6 (c : Dev nD) : (dats m 0 c).arrAt 6 cfg0.N = RS m c := by
  refine (dats m 0 c).arrAt_eq_of_covers 6 _ (by decide +kernel) fun t hf y => ?_
  blk_simp
  rw [after0_6]
  obtain ⟨b, s, rfl⟩ : ∃ (b : Fin 6) (s : Fin 256), y = ix2 b s := ⟨y 0, y 1, eq_ix2 y⟩
  have e : (win0_6.blk t).view.emb (ix2 b s) = (ix2 b s : S6x256.Idx) := by
    have e0 : (((cfg0.win 6).blk t).view.emb (ix2 b s) 0 : ℕ) = b.val := by
      blk_simp [wix6_0]
      try simp [ix2]
      try omega
    have e1 : (((cfg0.win 6).blk t).view.emb (ix2 b s) 1 : ℕ) = s.val := by
      blk_simp [wix6_1]
      try simp [ix2]
      try omega
    refine funext fun a => Fin.ext ?_
    fin_cases a
    · exact e0
    · exact e1
  refine Eq.trans ?_ (congrArg (RS m c) e).symm
  frame_out
  rw [rblk0]
  refine (scale_at _ b s).trans ?_
  exact congrArg (fun v => scaleOf (amaxOf v)) (v18_row m c b s)

/-- What a run of the reference leaves in its three results; its arguments are as they were. -/
theorem run_values : θ_run defs (onTc (τ := τ) (main (F := Ideal))) ⟨m, fun _ => 0, ρ⟩ fun r => ∀ c : Dev nD,
      r.2.mem ((c : Thread nD τ).loc main_v19_0) = RY m c
      ∧ r.2.mem ((c : Thread nD τ).loc main_v19_1) = RQ m c
      ∧ r.2.mem ((c : Thread nD τ).loc main_v19_2) = RS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (fin4 m c), (h c).2.1.trans (fin5 m c), (h c).2.2.1.trans (fin6 m c), (h c).2.2.2⟩)
    (Cert.ReferenceIdeal.Value.run_blocks m ρ)

end Cert.ReferenceIdeal.Val

end
-- ==== Proof.KernelIdeal.Tools.lean ====
/- Small facts about loads, stores and butterflies that the loops' modules share. -/
module

public import proofs.«01_k».proof.Proof.Gen.KernelIdeal.Loops
public import Idealize.ShloMosaic.Lib.Pointwise
public import Idealize.ShloMosaic.Lib.Writes

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen

/-! How the lists of writes of a counted loop are read at an index. -/

/-- A unit-stride rectangle sends the index `x` to the index whose coordinates are the offsets plus those of `x`. -/
theorem unit_idx {s : Shape} {off off' size : Fin s.rank → ℕ} (inb : ∀ a, off a + size a ≤ s.size a)
    (heq : off = off') (x : (Rect.unit off size inb).shape.Idx) (y : s.Idx)
    (hy : ∀ a, (y a).val = off' a + (x a).val) : (Rect.unit off size inb).toLoadRect.idx x = y := by
  subst heq
  refine funext fun a => Fin.ext ?_
  show off a + 1 * (x a).val = (y a).val
  rw [hy a, Nat.one_mul]

/-- The same for the rectangle as an embedding. -/
theorem unit_emb {s : Shape} {off off' size : Fin s.rank → ℕ} (inb : ∀ a, off a + size a ≤ s.size a)
    (heq : off = off') (x : (Rect.unit off size inb).shape.Idx) (y : s.Idx)
    (hy : ∀ a, (y a).val = off' a + (x a).val) : (Rect.unit off size inb).emb x = y :=
  unit_idx inb heq x y hy

/-- A piece list that grows by one trip's pieces at a time holds exactly the pieces of the trips done. -/
theorem mem_of_succ {α : Type*} {T : ℕ} (L : ℕ → List α) (tr : Fin T → List α) (h0 : L 0 = [])
    (hs : ∀ k : Fin T, L (k.val + 1) = tr k ++ L k.val) (p : α) :
    ∀ n, n ≤ T → (p ∈ L n ↔ ∃ k : Fin T, k.val < n ∧ p ∈ tr k)
  | 0, _ => by simp [h0]
  | n + 1, hn => by
    rw [show L (n + 1) = tr ⟨n, hn⟩ ++ L n from hs ⟨n, hn⟩, List.mem_append, mem_of_succ L tr h0 hs p n (by omega)]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with h' | h'
      · exact Or.inr ⟨k, h', h⟩
      · obtain rfl : k = ⟨n, hn⟩ := Fin.ext h'
        exact Or.inl h

/-- What a loop of stores leaves at an index that one of its pieces covers, all pieces agreeing with one function. -/
theorem read_trips {sig : RefSig} {κ : Kind} {sp : Space} {s : Shape} {e : EltTy} {Val : EltTy → Type}
    (v : View sig κ sp s e) (f : v.ty.Contents Val) {T : ℕ} (L : ℕ → List (View.Piece Val s e))
    (tr : Fin T → List (View.Piece Val s e)) (h0 : L 0 = [])
    (hs : ∀ k : Fin T, L (k.val + 1) = tr k ++ L k.val) (G : s.Idx → Val e)
    (hG : ∀ k, ∀ p ∈ tr k, ∀ x : p.1.shape.Idx, p.2 x = G (p.1.emb x)) (y : s.Idx)
    (hy : ∃ k, ∃ p ∈ tr k, y ∈ p.1.set) :
    v.read Val (v.writes Val f (L T)) y = G y := by
  refine View.read_writes_apply_of_pieces v f G _ (fun p hp => ?_) y ?_
  · obtain ⟨k, _, hk⟩ := (mem_of_succ L tr h0 hs p T le_rfl).mp hp
    exact hG k p hk
  · obtain ⟨k, p, hp, h⟩ := hy
    exact ⟨p, (mem_of_succ L tr h0 hs p T le_rfl).mpr ⟨k, k.isLt, hp⟩, h⟩

/-- An index lies in a unit-stride rectangle if each coordinate lies in the rectangle's range. -/
theorem mem_unit {s : Shape} {off off' size : Fin s.rank → ℕ} (inb : ∀ a, off a + size a ≤ s.size a)
    (heq : off = off') (y : s.Idx) (hy : ∀ a, off' a ≤ (y a).val ∧ (y a).val < off' a + size a) :
    y ∈ (Rect.unit off size inb).set := by
  subst heq
  rw [Rect.mem_set_unit]
  exact hy

end Cert.KernelIdeal.Val
-- ==== Proof.KernelIdeal.T1.lean ====
/- The loop that unpacks the weights: what it leaves, column by column. -/
module

public import proofs.«01_k».proof.Proof.Gen.KernelIdeal.Loops
public import proofs.«01_k».proof.Proof.KernelIdeal.Tools

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen

/-- The signed code in the low four bits of a byte. -/
def lo4 (v : BitVec 8) : BitVec 32 :=
  Scalar.select (IntOp.cmpi .sge (IntOp.andi (BitVec.setWidth 32 v) 15#32) 8#32) (IntOp.subi (IntOp.andi (BitVec.setWidth 32 v) 15#32) 16#32) (IntOp.andi (BitVec.setWidth 32 v) 15#32)

/-- The signed code in the high four bits of a byte. -/
def hi4 (v : BitVec 8) : BitVec 32 :=
  Scalar.select (IntOp.cmpi .sge (IntOp.shrsi ArithUnit.vector (BitVec.setWidth 32 v) 4#32) 8#32) (IntOp.subi (IntOp.shrsi ArithUnit.vector (BitVec.setWidth 32 v) 4#32) 16#32) (IntOp.shrsi ArithUnit.vector (BitVec.setWidth 32 v) 4#32)

/-- A signed code times two to the power of minus the exponent of its group. -/
def wval (n : BitVec 32) (e : BitVec 8) : EReal :=
  FloatOps.sitofp (F := Ideal) .bf16 n * FloatOps.exp2 (F := Ideal) (φ := .f32) (0 - FloatOps.sitofp (F := Ideal) .f32 (BitVec.setWidth 32 e))

/-- The unpacked weights: the low codes fill the first half of the columns, the high codes the second. -/
def W8 (WP : S1536x4480.Idx → BitVec 8) (GE : S1536x70.Idx → BitVec 8) (y : S1536x8960.Idx) : EReal :=
  if h : (y 1).val < 4480 then wval (lo4 (WP (ix2 (y 0) ⟨(y 1).val, h⟩))) (GE (ix2 (y 0) ⟨(y 1).val / 128, by omega⟩))
  else wval (hi4 (WP (ix2 (y 0) ⟨(y 1).val - 4480, by have : (y 1).val < 8960 := (y 1).isLt; omega⟩))) (GE (ix2 (y 0) ⟨(y 1).val / 128, by have : (y 1).val < 8960 := (y 1).isLt; omega⟩))

theorem k0_t1_trips : k0_t1_loop.trips = 12 := by decide +kernel

theorem forall_ix2 {P : S128x128.Idx → Prop} (h : ∀ a b : Fin 128, P (ix2 a b)) : ∀ x, P x := fun x => by
  rw [eq_ix2 x]
  exact h (x 0) (x 1)

theorem ex_here {α : Type*} {P : α → Prop} {p : α} {L : List α} (h : P p) : ∃ q ∈ p :: L, P q := ⟨p, List.mem_cons_self, h⟩

theorem ex_later {α : Type*} {P : α → Prop} {p : α} {L : List α} (h : ∃ q ∈ L, P q) : ∃ q ∈ p :: L, P q :=
  h.elim fun q hq => ⟨q, List.mem_cons_of_mem p hq.1, hq.2⟩

section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
variable (arg0 : BitVec 32) (k0_h1 : k0_cond1 i = 1#1)
  (k : Fin k0_t1_loop.trips) (X3 : BufTy.Contents (Elt Ideal) arg3.view.ty) (X4 : BufTy.Contents (Elt Ideal) arg4.view.ty)

include k in
theorem k1_lt : k.val < 12 := lt_of_lt_of_eq k.isLt k0_t1_trips

theorem W8_lo (g : Fin 35) (offL offS : Fin 2 → ℕ) (inbL : ∀ a, offL a + S128x128.size a ≤ S1536x4480.size a) (inbS : ∀ a, offS a + S128x128.size a ≤ S1536x8960.size a)
    (hL : offL = ![128 * k.val, 128 * g.val]) (hS : offS = ![128 * k.val, 128 * g.val]) (a b : Fin 128) :
    W8 (arg3.view.read (Elt Ideal) X3) (arg4.view.read (Elt Ideal) X4) ((Rect.unit (s := S1536x8960) offS S128x128.size inbS).emb (ix2 a b))
      = wval (lo4 (View.readAt (Elt Ideal) arg3.view (Rect.unit (s := S1536x4480) offL S128x128.size inbL).toLoadRect X3 (ix2 a b)))
          (View.readAt (Elt Ideal) arg4.view (Rect.unit (s := S1536x70) (k0_off1 k) ![128, 70] (k0_off1_inb i k k0_h1)).toLoadRect X4 (ix2 a ⟨g.val, by omega⟩)) := by
  have hk := k1_lt k
  rw [unit_emb (s := S1536x8960) inbS hS (ix2 a b) (ix2 ⟨128 * k.val + a.val, by omega⟩ ⟨128 * g.val + b.val, by omega⟩) (by intro q; fin_cases q <;> simp [ix2])]
  rw [View.readAt_apply, View.readAt_apply,
    unit_idx (s := S1536x4480) inbL hL (ix2 a b) (ix2 ⟨128 * k.val + a.val, by omega⟩ ⟨128 * g.val + b.val, by omega⟩) (by intro q; fin_cases q <;> simp [ix2]),
    unit_idx (s := S1536x70) (k0_off1_inb i k k0_h1) (k0_off1_eq k) (ix2 a ⟨g.val, by omega⟩) (ix2 ⟨128 * k.val + a.val, by omega⟩ ⟨g.val, by omega⟩) (by intro q; fin_cases q <;> simp [ix2])]
  unfold W8
  refine (dif_pos (show 128 * g.val + b.val < 4480 by omega)).trans ?_
  refine congrArg₂ wval rfl (congrArg _ (congrArg (ix2 _) (Fin.ext ?_)))
  show (128 * g.val + b.val) / 128 = g.val
  omega

theorem W8_hi (g : Fin 35) (offL offS : Fin 2 → ℕ) (inbL : ∀ a, offL a + S128x128.size a ≤ S1536x4480.size a) (inbS : ∀ a, offS a + S128x128.size a ≤ S1536x8960.size a)
    (hL : offL = ![128 * k.val, 128 * g.val]) (hS : offS = ![128 * k.val, 4480 + 128 * g.val]) (a b : Fin 128) :
    W8 (arg3.view.read (Elt Ideal) X3) (arg4.view.read (Elt Ideal) X4) ((Rect.unit (s := S1536x8960) offS S128x128.size inbS).emb (ix2 a b))
      = wval (hi4 (View.readAt (Elt Ideal) arg3.view (Rect.unit (s := S1536x4480) offL S128x128.size inbL).toLoadRect X3 (ix2 a b)))
          (View.readAt (Elt Ideal) arg4.view (Rect.unit (s := S1536x70) (k0_off1 k) ![128, 70] (k0_off1_inb i k k0_h1)).toLoadRect X4 (ix2 a ⟨35 + g.val, by omega⟩)) := by
  have hk := k1_lt k
  rw [unit_emb (s := S1536x8960) inbS hS (ix2 a b) (ix2 ⟨128 * k.val + a.val, by omega⟩ ⟨4480 + 128 * g.val + b.val, by omega⟩) (by intro q; fin_cases q <;> simp [ix2])]
  rw [View.readAt_apply, View.readAt_apply,
    unit_idx (s := S1536x4480) inbL hL (ix2 a b) (ix2 ⟨128 * k.val + a.val, by omega⟩ ⟨128 * g.val + b.val, by omega⟩) (by intro q; fin_cases q <;> simp [ix2]),
    unit_idx (s := S1536x70) (k0_off1_inb i k k0_h1) (k0_off1_eq k) (ix2 a ⟨35 + g.val, by omega⟩) (ix2 ⟨128 * k.val + a.val, by omega⟩ ⟨35 + g.val, by omega⟩) (by intro q; fin_cases q <;> simp [ix2])]
  unfold W8
  refine (dif_neg (show ¬ 4480 + 128 * g.val + b.val < 4480 by omega)).trans ?_
  refine congrArg₂ wval (congrArg hi4 (congrArg _ (congrArg (ix2 _) (Fin.ext ?_)))) (congrArg _ (congrArg (ix2 _) (Fin.ext ?_)))
  · show 4480 + 128 * g.val + b.val - 4480 = 128 * g.val + b.val
    omega
  · show (4480 + 128 * g.val + b.val) / 128 = 35 + g.val
    omega

/-- The seventy stores of a trip agree with the unpacked weights. -/
theorem trip1_pieces : ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X3 X4 k, ∀ x : p.1.shape.Idx, p.2 x = W8 (arg3.view.read (Elt Ideal) X3) (arg4.view.read (Elt Ideal) X4) (p.1.emb x) := by
  unfold tripL_k0_t1 trip_k0_t1
  dsimp only
  refine List.forall_mem_cons.mpr ⟨forall_ix2 fun a b => Eq.trans ?_ (W8_hi i arg3 arg4 k0_h1 k X3 X4 34 (k0_off104 k) (k0_off106 k) (k0_off104_inb i k k0_h1) (k0_off106_inb i k k0_h1) (k0_off104_eq k) (k0_off106_eq k) a b).symm, ?_⟩
  rotate_left
  refine List.forall_mem_cons.mpr ⟨forall_ix2 fun a b => Eq.trans ?_ (W8_lo i arg3 arg4 k0_h1 k X3 X4 34 (k0_off104 k) (k0_off105 k) (k0_off104_inb i k k0_h1) (k0_off105_inb i k k0_h1) (k0_off104_eq k) (k0_off105_eq k) a b).symm, ?_⟩
  rotate_left
  refine List.forall_mem_cons.mpr ⟨forall_ix2 fun a b => Eq.trans ?_ (W8_hi i arg3 arg4 k0_h1 k X3 X4 33 (k0_off101 k) (k0_off103 k) (k0_off101_inb i k k0_h1) (k0_off103_inb i k k0_h1) (k0_off101_eq k) (k0_off103_eq k) a b).symm, ?_⟩
  rotate_left
  refine List.forall_mem_cons.mpr ⟨forall_ix2 fun a b => Eq.trans ?_ (W8_lo i arg3 arg4 k0_h1 k X3 X4 33 (k0_off101 k) (k0_off102 k) (k0_off101_inb i k k0_h1) (k0_off102_inb i k k0_h1) (k0_off101_eq k) (k0_off102_eq k) a b).symm, ?_⟩
  rotate_left
  refine List.forall_mem_cons.mpr ⟨forall_ix2 fun a b => Eq.trans ?_ (W8_hi i arg3 arg4 k0_h1 k X3 X4 32 (k0_off98 k) (k0_off100 k) (k0_off98_inb i k k0_h1) (k0_off100_inb i k k0_h1) (k0_off98_eq k) (k0_off100_eq k) a b).symm, ?_⟩
  rotate_left
  refine List.forall_mem_cons.mpr ⟨forall_ix2 fun a b => Eq.trans ?_ (W8_lo i arg3 arg4 k0_h1 k X3 X4 32 (k0_off98 k) (k0_off99 k) (k0_off98_inb i k k0_h1) (k0_off99_inb i k k0_h1) (k0_off98_eq k) (k0_off99_eq k) a b).symm, ?_⟩
  rotate_left
  refine List.forall_mem_cons.mpr ⟨forall_ix2 fun a b => Eq.trans ?_ (W8_hi i arg3 arg4 k0_h1 k X3 X4 31 (k0_off95 k) (k0_off97 k) (k0_off95_inb i k k0_h1) (k0_off97_inb i k k0_h1) (k0_off95_eq k) (k0_off97_eq k) a b).symm, ?_⟩
  rotate_left
  refine List.forall_mem_cons.mpr ⟨forall_ix2 fun a b => Eq.trans ?_ (W8_lo i arg3 arg4 k0_h1 k X3 X4 31 (k0_off95 k) (k0_off96 k) (k0_off95_inb i k k0_h1) (k0_off96_inb i k k0_h1) (k0_off95_eq k) (k0_off96_eq k) a b).symm, ?_⟩
  rotate_left
  refine List.forall_mem_cons.mpr ⟨forall_ix2 fun a b => Eq.trans ?_ (W8_hi i arg3 arg4 k0_h1 k X3 X4 30 (k0_off92 k) (k0_off94 k) (k0_off92_inb i k k0_h1) (k0_off94_inb i k k0_h1) (k0_off92_eq k) (k0_off94_eq k) a b).symm, ?_⟩
  rotate_left
  refine List.forall_mem_cons.mpr ⟨forall_ix2 fun a b => Eq.trans ?_ (W8_lo i arg3 arg4 k0_h1 k X3 X4 30 (k0_off92 k) (k0_off93 k) (k0_off92_inb i k k0_h1) (k0_off93_inb i k k0_h1) (k0_off92_eq k) (k0_off93_eq k) a b).symm, ?_⟩
  rotate_left
  refine List.forall_mem_cons.mpr ⟨forall_ix2 fun a b => Eq.trans ?_ (W8_hi i arg3 arg4 k0_h1 k X3 X4 29 (k0_off89 k) (k0_off91 k) (k0_off89_inb i k k0_h1) (k0_off91_inb i k k0_h1) (k0_off89_eq k) (k0_off91_eq k) a b).symm, ?_⟩
  rotate_left
  refine List.forall_mem_cons.mpr ⟨forall_ix2 fun a b => Eq.trans ?_ (W8_lo i arg3 arg4 k0_h1 k X3 X4 29 (k0_off89 k) (k0_off90 k) (k0_off89_inb i k k0_h1) (k0_off90_inb i k k0_h1) (k0_off89_eq k) (k0_off90_eq k) a b).symm, ?_⟩
  rotate_left
  refine List.forall_mem_cons.mpr ⟨forall_ix2 fun a b => Eq.trans ?_ (W8_hi i arg3 arg4 k0_h1 k X3 X4 28 (k0_off86 k) (k0_off88 k) (k0_off86_inb i k k0_h1) (k0_off88_inb i k k0_h1) (k0_off86_eq k) (k0_off88_eq k) a b).symm, ?_⟩
  rotate_left
  refine List.forall_mem_cons.mpr ⟨forall_ix2 fun a b => Eq.trans ?_ (W8_lo i arg3 arg4 k0_h1 k X3 X4 28 (k0_off86 k) (k0_off87 k) (k0_off86_inb i k k0_h1) (k0_off87_inb i k k0_h1) (k0_off86_eq k) (k0_off87_eq k) a b).symm, ?_⟩
  rotate_left
  refine List.forall_mem_cons.mpr ⟨forall_ix2 fun a b => Eq.trans ?_ (W8_hi i arg3 arg4 k0_h1 k X3 X4 27 (k0_off83 k) (k0_off85 k) (k0_off83_inb i k k0_h1) (k0_off85_inb i k k0_h1) (k0_off83_eq k) (k0_off85_eq k) a b).symm, ?_⟩
  rotate_left
  refine List.forall_mem_cons.mpr ⟨forall_ix2 fun a b => Eq.trans ?_ (W8_lo i arg3 arg4 k0_h1 k X3 X4 27 (k0_off83 k) (k0_off84 k) (k0_off83_inb i k k0_h1) (k0_off84_inb i k k0_h1) (k0_off83_eq k) (k0_off84_eq k) a b).symm, ?_⟩
  rotate_left
  refine List.forall_mem_cons.mpr ⟨forall_ix2 fun a b => Eq.trans ?_ (W8_hi i arg3 arg4 k0_h1 k X3 X4 26 (k0_off80 k) (k0_off82 k) (k0_off80_inb i k k0_h1) (k0_off82_inb i k k0_h1) (k0_off80_eq k) (k0_off82_eq k) a b).symm, ?_⟩
  rotate_left
  refine List.forall_mem_cons.mpr ⟨forall_ix2 fun a b => Eq.trans ?_ (W8_lo i arg3 arg4 k0_h1 k X3 X4 26 (k0_off80 k) (k0_off81 k) (k0_off80_inb i k k0_h1) (k0_off81_inb i k k0_h1) (k0_off80_eq k) (k0_off81_eq k) a b).symm, ?_⟩
  rotate_left
  refine List.forall_mem_cons.mpr ⟨forall_ix2 fun a b => Eq.trans ?_ (W8_hi i arg3 arg4 k0_h1 k X3 X4 25 (k0_off77 k) (k0_off79 k) (k0_off77_inb i k k0_h1) (k0_off79_inb i k k0_h1) (k0_off77_eq k) (k0_off79_eq k) a b).symm, ?_⟩
  rotate_left
  refine List.forall_mem_cons.mpr ⟨forall_ix2 fun a b => Eq.trans ?_ (W8_lo i arg3 arg4 k0_h1 k X3 X4 25 (k0_off77 k) (k0_off78 k) (k0_off77_inb i k k0_h1) (k0_off78_inb i k k0_h1) (k0_off77_eq k) (k0_off78_eq k) a b).symm, ?_⟩
  rotate_left
  refine List.forall_mem_cons.mpr ⟨forall_ix2 fun a b => Eq.trans ?_ (W8_hi i arg3 arg4 k0_h1 k X3 X4 24 (k0_off74 k) (k0_off76 k) (k0_off74_inb i k k0_h1) (k0_off76_inb i k k0_h1) (k0_off74_eq k) (k0_off76_eq k) a b).symm, ?_⟩
  rotate_left
  refine List.forall_mem_cons.mpr ⟨forall_ix2 fun a b => Eq.trans ?_ (W8_lo i arg3 arg4 k0_h1 k X3 X4 24 (k0_off74 k) (k0_off75 k) (k0_off74_inb i k k0_h1) (k0_off75_inb i k k0_h1) (k0_off74_eq k) (k0_off75_eq k) a b).symm, ?_⟩
  rotate_left
  refine List.forall_mem_cons.mpr ⟨forall_ix2 fun a b => Eq.trans ?_ (W8_hi i arg3 arg4 k0_h1 k X3 X4 23 (k0_off71 k) (k0_off73 k) (k0_off71_inb i k k0_h1) (k0_off73_inb i k k0_h1) (k0_off71_eq k) (k0_off73_eq k) a b).symm, ?_⟩
  rotate_left
  refine List.forall_mem_cons.mpr ⟨forall_ix2 fun a b => Eq.trans ?_ (W8_lo i arg3 arg4 k0_h1 k X3 X4 23 (k0_off71 k) (k0_off72 k) (k0_off71_inb i k k0_h1) (k0_off72_inb i k k0_h1) (k0_off71_eq k) (k0_off72_eq k) a b).symm, ?_⟩
  rotate_left
  refine List.forall_mem_cons.mpr ⟨forall_ix2 fun a b => Eq.trans ?_ (W8_hi i arg3 arg4 k0_h1 k X3 X4 22 (k0_off68 k) (k0_off70 k) (k0_off68_inb i k k0_h1) (k0_off70_inb i k k0_h1) (k0_off68_eq k) (k0_off70_eq k) a b).symm, ?_⟩
  rotate_left
  refine List.forall_mem_cons.mpr ⟨forall_ix2 fun a b => Eq.trans ?_ (W8_lo i arg3 arg4 k0_h1 k X3 X4 22 (k0_off68 k) (k0_off69 k) (k0_off68_inb i k k0_h1) (k0_off69_inb i k k0_h1) (k0_off68_eq k) (k0_off69_eq k) a b).symm, ?_⟩
  rotate_left
  refine List.forall_mem_cons.mpr ⟨forall_ix2 fun a b => Eq.trans ?_ (W8_hi i arg3 arg4 k0_h1 k X3 X4 21 (k0_off65 k) (k0_off67 k) (k0_off65_inb i k k0_h1) (k0_off67_inb i k k0_h1) (k0_off65_eq k) (k0_off67_eq k) a b).symm, ?_⟩
  rotate_left
  refine List.forall_mem_cons.mpr ⟨forall_ix2 fun a b => Eq.trans ?_ (W8_lo i arg3 arg4 k0_h1 k X3 X4 21 (k0_off65 k) (k0_off66 k) (k0_off65_inb i k k0_h1) (k0_off66_inb i k k0_h1) (k0_off65_eq k) (k0_off66_eq k) a b).symm, ?_⟩
  rotate_left
  refine List.forall_mem_cons.mpr ⟨forall_ix2 fun a b => Eq.trans ?_ (W8_hi i arg3 arg4 k0_h1 k X3 X4 20 (k0_off62 k) (k0_off64 k) (k0_off62_inb i k k0_h1) (k0_off64_inb i k k0_h1) (k0_off62_eq k) (k0_off64_eq k) a b).symm, ?_⟩
  rotate_left
  refine List.forall_mem_cons.mpr ⟨forall_ix2 fun a b => Eq.trans ?_ (W8_lo i arg3 arg4 k0_h1 k X3 X4 20 (k0_off62 k) (k0_off63 k) (k0_off62_inb i k k0_h1) (k0_off63_inb i k k0_h1) (k0_off62_eq k) (k0_off63_eq k) a b).symm, ?_⟩
  rotate_left
  refine List.forall_mem_cons.mpr ⟨forall_ix2 fun a b => Eq.trans ?_ (W8_hi i arg3 arg4 k0_h1 k X3 X4 19 (k0_off59 k) (k0_off61 k) (k0_off59_inb i k k0_h1) (k0_off61_inb i k k0_h1) (k0_off59_eq k) (k0_off61_eq k) a b).symm, ?_⟩
  rotate_left
  refine List.forall_mem_cons.mpr ⟨forall_ix2 fun a b => Eq.trans ?_ (W8_lo i arg3 arg4 k0_h1 k X3 X4 19 (k0_off59 k) (k0_off60 k) (k0_off59_inb i k k0_h1) (k0_off60_inb i k k0_h1) (k0_off59_eq k) (k0_off60_eq k) a b).symm, ?_⟩
  rotate_left
  refine List.forall_mem_cons.mpr ⟨forall_ix2 fun a b => Eq.trans ?_ (W8_hi i arg3 arg4 k0_h1 k X3 X4 18 (k0_off56 k) (k0_off58 k) (k0_off56_inb i k k0_h1) (k0_off58_inb i k k0_h1) (k0_off56_eq k) (k0_off58_eq k) a b).symm, ?_⟩
  rotate_left
  refine List.forall_mem_cons.mpr ⟨forall_ix2 fun a b => Eq.trans ?_ (W8_lo i arg3 arg4 k0_h1 k X3 X4 18 (k0_off56 k) (k0_off57 k) (k0_off56_inb i k k0_h1) (k0_off57_inb i k k0_h1) (k0_off56_eq k) (k0_off57_eq k) a b).symm, ?_⟩
  rotate_left
  refine List.forall_mem_cons.mpr ⟨forall_ix2 fun a b => Eq.trans ?_ (W8_hi i arg3 arg4 k0_h1 k X3 X4 17 (k0_off53 k) (k0_off55 k) (k0_off53_inb i k k0_h1) (k0_off55_inb i k k0_h1) (k0_off53_eq k) (k0_off55_eq k) a b).symm, ?_⟩
  rotate_left
  refine List.forall_mem_cons.mpr ⟨forall_ix2 fun a b => Eq.trans ?_ (W8_lo i arg3 arg4 k0_h1 k X3 X4 17 (k0_off53 k) (k0_off54 k) (k0_off53_inb i k k0_h1) (k0_off54_inb i k k0_h1) (k0_off53_eq k) (k0_off54_eq k) a b).symm, ?_⟩
  rotate_left
  refine List.forall_mem_cons.mpr ⟨forall_ix2 fun a b => Eq.trans ?_ (W8_hi i arg3 arg4 k0_h1 k X3 X4 16 (k0_off50 k) (k0_off52 k) (k0_off50_inb i k k0_h1) (k0_off52_inb i k k0_h1) (k0_off50_eq k) (k0_off52_eq k) a b).symm, ?_⟩
  rotate_left
  refine List.forall_mem_cons.mpr ⟨forall_ix2 fun a b => Eq.trans ?_ (W8_lo i arg3 arg4 k0_h1 k X3 X4 16 (k0_off50 k) (k0_off51 k) (k0_off50_inb i k k0_h1) (k0_off51_inb i k k0_h1) (k0_off50_eq k) (k0_off51_eq k) a b).symm, ?_⟩
  rotate_left
  refine List.forall_mem_cons.mpr ⟨forall_ix2 fun a b => Eq.trans ?_ (W8_hi i arg3 arg4 k0_h1 k X3 X4 15 (k0_off47 k) (k0_off49 k) (k0_off47_inb i k k0_h1) (k0_off49_inb i k k0_h1) (k0_off47_eq k) (k0_off49_eq k) a b).symm, ?_⟩
  rotate_left
  refine List.forall_mem_cons.mpr ⟨forall_ix2 fun a b => Eq.trans ?_ (W8_lo i arg3 arg4 k0_h1 k X3 X4 15 (k0_off47 k) (k0_off48 k) (k0_off47_inb i k k0_h1) (k0_off48_inb i k k0_h1) (k0_off47_eq k) (k0_off48_eq k) a b).symm, ?_⟩
  rotate_left
  refine List.forall_mem_cons.mpr ⟨forall_ix2 fun a b => Eq.trans ?_ (W8_hi i arg3 arg4 k0_h1 k X3 X4 14 (k0_off44 k) (k0_off46 k) (k0_off44_inb i k k0_h1) (k0_off46_inb i k k0_h1) (k0_off44_eq k) (k0_off46_eq k) a b).symm, ?_⟩
  rotate_left
  refine List.forall_mem_cons.mpr ⟨forall_ix2 fun a b => Eq.trans ?_ (W8_lo i arg3 arg4 k0_h1 k X3 X4 14 (k0_off44 k) (k0_off45 k) (k0_off44_inb i k k0_h1) (k0_off45_inb i k k0_h1) (k0_off44_eq k) (k0_off45_eq k) a b).symm, ?_⟩
  rotate_left
  refine List.forall_mem_cons.mpr ⟨forall_ix2 fun a b => Eq.trans ?_ (W8_hi i arg3 arg4 k0_h1 k X3 X4 13 (k0_off41 k) (k0_off43 k) (k0_off41_inb i k k0_h1) (k0_off43_inb i k k0_h1) (k0_off41_eq k) (k0_off43_eq k) a b).symm, ?_⟩
  rotate_left
  refine List.forall_mem_cons.mpr ⟨forall_ix2 fun a b => Eq.trans ?_ (W8_lo i arg3 arg4 k0_h1 k X3 X4 13 (k0_off41 k) (k0_off42 k) (k0_off41_inb i k k0_h1) (k0_off42_inb i k k0_h1) (k0_off41_eq k) (k0_off42_eq k) a b).symm, ?_⟩
  rotate_left
  refine List.forall_mem_cons.mpr ⟨forall_ix2 fun a b => Eq.trans ?_ (W8_hi i arg3 arg4 k0_h1 k X3 X4 12 (k0_off38 k) (k0_off40 k) (k0_off38_inb i k k0_h1) (k0_off40_inb i k k0_h1) (k0_off38_eq k) (k0_off40_eq k) a b).symm, ?_⟩
  rotate_left
  refine List.forall_mem_cons.mpr ⟨forall_ix2 fun a b => Eq.trans ?_ (W8_lo i arg3 arg4 k0_h1 k X3 X4 12 (k0_off38 k) (k0_off39 k) (k0_off38_inb i k k0_h1) (k0_off39_inb i k k0_h1) (k0_off38_eq k) (k0_off39_eq k) a b).symm, ?_⟩
  rotate_left
  refine List.forall_mem_cons.mpr ⟨forall_ix2 fun a b => Eq.trans ?_ (W8_hi i arg3 arg4 k0_h1 k X3 X4 11 (k0_off35 k) (k0_off37 k) (k0_off35_inb i k k0_h1) (k0_off37_inb i k k0_h1) (k0_off35_eq k) (k0_off37_eq k) a b).symm, ?_⟩
  rotate_left
  refine List.forall_mem_cons.mpr ⟨forall_ix2 fun a b => Eq.trans ?_ (W8_lo i arg3 arg4 k0_h1 k X3 X4 11 (k0_off35 k) (k0_off36 k) (k0_off35_inb i k k0_h1) (k0_off36_inb i k k0_h1) (k0_off35_eq k) (k0_off36_eq k) a b).symm, ?_⟩
  rotate_left
  refine List.forall_mem_cons.mpr ⟨forall_ix2 fun a b => Eq.trans ?_ (W8_hi i arg3 arg4 k0_h1 k X3 X4 10 (k0_off32 k) (k0_off34 k) (k0_off32_inb i k k0_h1) (k0_off34_inb i k k0_h1) (k0_off32_eq k) (k0_off34_eq k) a b).symm, ?_⟩
  rotate_left
  refine List.forall_mem_cons.mpr ⟨forall_ix2 fun a b => Eq.trans ?_ (W8_lo i arg3 arg4 k0_h1 k X3 X4 10 (k0_off32 k) (k0_off33 k) (k0_off32_inb i k k0_h1) (k0_off33_inb i k k0_h1) (k0_off32_eq k) (k0_off33_eq k) a b).symm, ?_⟩
  rotate_left
  refine List.forall_mem_cons.mpr ⟨forall_ix2 fun a b => Eq.trans ?_ (W8_hi i arg3 arg4 k0_h1 k X3 X4 9 (k0_off29 k) (k0_off31 k) (k0_off29_inb i k k0_h1) (k0_off31_inb i k k0_h1) (k0_off29_eq k) (k0_off31_eq k) a b).symm, ?_⟩
  rotate_left
  refine List.forall_mem_cons.mpr ⟨forall_ix2 fun a b => Eq.trans ?_ (W8_lo i arg3 arg4 k0_h1 k X3 X4 9 (k0_off29 k) (k0_off30 k) (k0_off29_inb i k k0_h1) (k0_off30_inb i k k0_h1) (k0_off29_eq k) (k0_off30_eq k) a b).symm, ?_⟩
  rotate_left
  refine List.forall_mem_cons.mpr ⟨forall_ix2 fun a b => Eq.trans ?_ (W8_hi i arg3 arg4 k0_h1 k X3 X4 8 (k0_off26 k) (k0_off28 k) (k0_off26_inb i k k0_h1) (k0_off28_inb i k k0_h1) (k0_off26_eq k) (k0_off28_eq k) a b).symm, ?_⟩
  rotate_left
  refine List.forall_mem_cons.mpr ⟨forall_ix2 fun a b => Eq.trans ?_ (W8_lo i arg3 arg4 k0_h1 k X3 X4 8 (k0_off26 k) (k0_off27 k) (k0_off26_inb i k k0_h1) (k0_off27_inb i k k0_h1) (k0_off26_eq k) (k0_off27_eq k) a b).symm, ?_⟩
  rotate_left
  refine List.forall_mem_cons.mpr ⟨forall_ix2 fun a b => Eq.trans ?_ (W8_hi i arg3 arg4 k0_h1 k X3 X4 7 (k0_off23 k) (k0_off25 k) (k0_off23_inb i k k0_h1) (k0_off25_inb i k k0_h1) (k0_off23_eq k) (k0_off25_eq k) a b).symm, ?_⟩
  rotate_left
  refine List.forall_mem_cons.mpr ⟨forall_ix2 fun a b => Eq.trans ?_ (W8_lo i arg3 arg4 k0_h1 k X3 X4 7 (k0_off23 k) (k0_off24 k) (k0_off23_inb i k k0_h1) (k0_off24_inb i k k0_h1) (k0_off23_eq k) (k0_off24_eq k) a b).symm, ?_⟩
  rotate_left
  refine List.forall_mem_cons.mpr ⟨forall_ix2 fun a b => Eq.trans ?_ (W8_hi i arg3 arg4 k0_h1 k X3 X4 6 (k0_off20 k) (k0_off22 k) (k0_off20_inb i k k0_h1) (k0_off22_inb i k k0_h1) (k0_off20_eq k) (k0_off22_eq k) a b).symm, ?_⟩
  rotate_left
  refine List.forall_mem_cons.mpr ⟨forall_ix2 fun a b => Eq.trans ?_ (W8_lo i arg3 arg4 k0_h1 k X3 X4 6 (k0_off20 k) (k0_off21 k) (k0_off20_inb i k k0_h1) (k0_off21_inb i k k0_h1) (k0_off20_eq k) (k0_off21_eq k) a b).symm, ?_⟩
  rotate_left
  refine List.forall_mem_cons.mpr ⟨forall_ix2 fun a b => Eq.trans ?_ (W8_hi i arg3 arg4 k0_h1 k X3 X4 5 (k0_off17 k) (k0_off19 k) (k0_off17_inb i k k0_h1) (k0_off19_inb i k k0_h1) (k0_off17_eq k) (k0_off19_eq k) a b).symm, ?_⟩
  rotate_left
  refine List.forall_mem_cons.mpr ⟨forall_ix2 fun a b => Eq.trans ?_ (W8_lo i arg3 arg4 k0_h1 k X3 X4 5 (k0_off17 k) (k0_off18 k) (k0_off17_inb i k k0_h1) (k0_off18_inb i k k0_h1) (k0_off17_eq k) (k0_off18_eq k) a b).symm, ?_⟩
  rotate_left
  refine List.forall_mem_cons.mpr ⟨forall_ix2 fun a b => Eq.trans ?_ (W8_hi i arg3 arg4 k0_h1 k X3 X4 4 (k0_off14 k) (k0_off16 k) (k0_off14_inb i k k0_h1) (k0_off16_inb i k k0_h1) (k0_off14_eq k) (k0_off16_eq k) a b).symm, ?_⟩
  rotate_left
  refine List.forall_mem_cons.mpr ⟨forall_ix2 fun a b => Eq.trans ?_ (W8_lo i arg3 arg4 k0_h1 k X3 X4 4 (k0_off14 k) (k0_off15 k) (k0_off14_inb i k k0_h1) (k0_off15_inb i k k0_h1) (k0_off14_eq k) (k0_off15_eq k) a b).symm, ?_⟩
  rotate_left
  refine List.forall_mem_cons.mpr ⟨forall_ix2 fun a b => Eq.trans ?_ (W8_hi i arg3 arg4 k0_h1 k X3 X4 3 (k0_off11 k) (k0_off13 k) (k0_off11_inb i k k0_h1) (k0_off13_inb i k k0_h1) (k0_off11_eq k) (k0_off13_eq k) a b).symm, ?_⟩
  rotate_left
  refine List.forall_mem_cons.mpr ⟨forall_ix2 fun a b => Eq.trans ?_ (W8_lo i arg3 arg4 k0_h1 k X3 X4 3 (k0_off11 k) (k0_off12 k) (k0_off11_inb i k k0_h1) (k0_off12_inb i k k0_h1) (k0_off11_eq k) (k0_off12_eq k) a b).symm, ?_⟩
  rotate_left
  refine List.forall_mem_cons.mpr ⟨forall_ix2 fun a b => Eq.trans ?_ (W8_hi i arg3 arg4 k0_h1 k X3 X4 2 (k0_off8 k) (k0_off10 k) (k0_off8_inb i k k0_h1) (k0_off10_inb i k k0_h1) (k0_off8_eq k) (k0_off10_eq k) a b).symm, ?_⟩
  rotate_left
  refine List.forall_mem_cons.mpr ⟨forall_ix2 fun a b => Eq.trans ?_ (W8_lo i arg3 arg4 k0_h1 k X3 X4 2 (k0_off8 k) (k0_off9 k) (k0_off8_inb i k k0_h1) (k0_off9_inb i k k0_h1) (k0_off8_eq k) (k0_off9_eq k) a b).symm, ?_⟩
  rotate_left
  refine List.forall_mem_cons.mpr ⟨forall_ix2 fun a b => Eq.trans ?_ (W8_hi i arg3 arg4 k0_h1 k X3 X4 1 (k0_off5 k) (k0_off7 k) (k0_off5_inb i k k0_h1) (k0_off7_inb i k k0_h1) (k0_off5_eq k) (k0_off7_eq k) a b).symm, ?_⟩
  rotate_left
  refine List.forall_mem_cons.mpr ⟨forall_ix2 fun a b => Eq.trans ?_ (W8_lo i arg3 arg4 k0_h1 k X3 X4 1 (k0_off5 k) (k0_off6 k) (k0_off5_inb i k k0_h1) (k0_off6_inb i k k0_h1) (k0_off5_eq k) (k0_off6_eq k) a b).symm, ?_⟩
  rotate_left
  refine List.forall_mem_cons.mpr ⟨forall_ix2 fun a b => Eq.trans ?_ (W8_hi i arg3 arg4 k0_h1 k X3 X4 0 (k0_off2 k) (k0_off4 k) (k0_off2_inb i k k0_h1) (k0_off4_inb i k k0_h1) (k0_off2_eq k) (k0_off4_eq k) a b).symm, ?_⟩
  rotate_left
  refine List.forall_mem_cons.mpr ⟨forall_ix2 fun a b => Eq.trans ?_ (W8_lo i arg3 arg4 k0_h1 k X3 X4 0 (k0_off2 k) (k0_off3 k) (k0_off2_inb i k k0_h1) (k0_off3_inb i k k0_h1) (k0_off2_eq k) (k0_off3_eq k) a b).symm, ?_⟩
  rotate_left
  · intro p hp
    exact absurd hp List.not_mem_nil
  all_goals
    generalize hB : wval _ _ = B
    dsimp only
    try simp only [trip_k0_t1.sl.r_74, trip_k0_t1.sl.r_56, trip_k0_t1.sl.r_61, trip_k0_t1.sl.r_30, trip_k0_t1.sl.r_1, trip_k0_t1.sl.v1872, trip_k0_t1.sl.r_64, trip_k0_t1.sl.r_71, trip_k0_t1.sl.r_42, trip_k0_t1.sl.r_59, trip_k0_t1.sl.r_17, trip_k0_t1.sl.r_62, trip_k0_t1.sl.r_47, trip_k0_t1.sl.r_34, trip_k0_t1.sl.r_46, trip_k0_t1.sl.r_11, trip_k0_t1.sl.r_57, trip_k0_t1.sl.r_73, trip_k0_t1.sl.r_45, trip_k0_t1.sl.r_38, trip_k0_t1.sl.r_23, trip_k0_t1.sl.r_35, trip_k0_t1.sl.r_67, trip_k0_t1.sl.r_66, trip_k0_t1.sl.v702, trip_k0_t1.sl.r_13, trip_k0_t1.sl.r_8, trip_k0_t1.sl.r_16, trip_k0_t1.sl.r_32, trip_k0_t1.sl.r_77, trip_k0_t1.sl.v1170, trip_k0_t1.sl.r_15, trip_k0_t1.sl.r_70, trip_k0_t1.sl.r_65, trip_k0_t1.sl.r_58, trip_k0_t1.sl.r_54, trip_k0_t1.sl.r_6, trip_k0_t1.sl.r_68, trip_k0_t1.sl.r_81, trip_k0_t1.sl.r_52, trip_k0_t1.sl.v1404, trip_k0_t1.sl.r_48, trip_k0_t1.sl.r_80, trip_k0_t1.sl.r_41, trip_k0_t1.sl.r_20, trip_k0_t1.sl.r_44, trip_k0_t1.sl.r_55, trip_k0_t1.sl.r_69, trip_k0_t1.sl.r, trip_k0_t1.sl.r_40, trip_k0_t1.sl.r_26, trip_k0_t1.sl.r_19, trip_k0_t1.sl.r_76, trip_k0_t1.sl.r_31, trip_k0_t1.sl.r_4, trip_k0_t1.sl.r_51, trip_k0_t1.sl.r_78, trip_k0_t1.sl.r_29, trip_k0_t1.sl.r_53, trip_k0_t1.sl.r_22, trip_k0_t1.sl.r_28, trip_k0_t1.sl.r_5, trip_k0_t1.sl.r_75, trip_k0_t1.sl.r_14, trip_k0_t1.sl.r_33, trip_k0_t1.sl.r_50, trip_k0_t1.sl.r_24, trip_k0_t1.sl.r_21, trip_k0_t1.sl.r_60, trip_k0_t1.sl.v516, trip_k0_t1.sl.r_9, trip_k0_t1.sl.r_43, trip_k0_t1.sl.r_63, trip_k0_t1.sl.r_79, trip_k0_t1.sl.r_39, trip_k0_t1.sl.r_49, trip_k0_t1.sl.r_37, trip_k0_t1.sl.r_27, trip_k0_t1.sl.r_18, trip_k0_t1.sl.r_72, trip_k0_t1.sl.r_25, trip_k0_t1.sl.r_10, trip_k0_t1.sl.v1638, trip_k0_t1.sl.r_3, trip_k0_t1.sl.r_12, trip_k0_t1.sl.r_36, trip_k0_t1.sl.r_2, trip_k0_t1.sl.r_7, trip_k0_t1.sl.v936]
    unfold_payloads
    pointwise []
    subst hB
    rfl

/-- A trip stores every row of its block of 128. -/
theorem trip1_mem (y : S1536x8960.Idx) (hy : (y 0).val / 128 = k.val) : ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X3 X4 k, y ∈ p.1.set := by
  have hk := k1_lt k
  have h1 : (y 1).val < 8960 := (y 1).isLt
  unfold tripL_k0_t1 trip_k0_t1
  dsimp only
  by_cases h_69 : (y 1).val / 128 = 69
  · refine ex_here (mem_unit (s := S1536x8960) (k0_off106_inb i k k0_h1) (k0_off106_eq k) y ?_)
    intro q; fin_cases q <;> simp <;> omega
  refine ex_later ?_
  by_cases h_34 : (y 1).val / 128 = 34
  · refine ex_here (mem_unit (s := S1536x8960) (k0_off105_inb i k k0_h1) (k0_off105_eq k) y ?_)
    intro q; fin_cases q <;> simp <;> omega
  refine ex_later ?_
  by_cases h_68 : (y 1).val / 128 = 68
  · refine ex_here (mem_unit (s := S1536x8960) (k0_off103_inb i k k0_h1) (k0_off103_eq k) y ?_)
    intro q; fin_cases q <;> simp <;> omega
  refine ex_later ?_
  by_cases h_33 : (y 1).val / 128 = 33
  · refine ex_here (mem_unit (s := S1536x8960) (k0_off102_inb i k k0_h1) (k0_off102_eq k) y ?_)
    intro q; fin_cases q <;> simp <;> omega
  refine ex_later ?_
  by_cases h_67 : (y 1).val / 128 = 67
  · refine ex_here (mem_unit (s := S1536x8960) (k0_off100_inb i k k0_h1) (k0_off100_eq k) y ?_)
    intro q; fin_cases q <;> simp <;> omega
  refine ex_later ?_
  by_cases h_32 : (y 1).val / 128 = 32
  · refine ex_here (mem_unit (s := S1536x8960) (k0_off99_inb i k k0_h1) (k0_off99_eq k) y ?_)
    intro q; fin_cases q <;> simp <;> omega
  refine ex_later ?_
  by_cases h_66 : (y 1).val / 128 = 66
  · refine ex_here (mem_unit (s := S1536x8960) (k0_off97_inb i k k0_h1) (k0_off97_eq k) y ?_)
    intro q; fin_cases q <;> simp <;> omega
  refine ex_later ?_
  by_cases h_31 : (y 1).val / 128 = 31
  · refine ex_here (mem_unit (s := S1536x8960) (k0_off96_inb i k k0_h1) (k0_off96_eq k) y ?_)
    intro q; fin_cases q <;> simp <;> omega
  refine ex_later ?_
  by_cases h_65 : (y 1).val / 128 = 65
  · refine ex_here (mem_unit (s := S1536x8960) (k0_off94_inb i k k0_h1) (k0_off94_eq k) y ?_)
    intro q; fin_cases q <;> simp <;> omega
  refine ex_later ?_
  by_cases h_30 : (y 1).val / 128 = 30
  · refine ex_here (mem_unit (s := S1536x8960) (k0_off93_inb i k k0_h1) (k0_off93_eq k) y ?_)
    intro q; fin_cases q <;> simp <;> omega
  refine ex_later ?_
  by_cases h_64 : (y 1).val / 128 = 64
  · refine ex_here (mem_unit (s := S1536x8960) (k0_off91_inb i k k0_h1) (k0_off91_eq k) y ?_)
    intro q; fin_cases q <;> simp <;> omega
  refine ex_later ?_
  by_cases h_29 : (y 1).val / 128 = 29
  · refine ex_here (mem_unit (s := S1536x8960) (k0_off90_inb i k k0_h1) (k0_off90_eq k) y ?_)
    intro q; fin_cases q <;> simp <;> omega
  refine ex_later ?_
  by_cases h_63 : (y 1).val / 128 = 63
  · refine ex_here (mem_unit (s := S1536x8960) (k0_off88_inb i k k0_h1) (k0_off88_eq k) y ?_)
    intro q; fin_cases q <;> simp <;> omega
  refine ex_later ?_
  by_cases h_28 : (y 1).val / 128 = 28
  · refine ex_here (mem_unit (s := S1536x8960) (k0_off87_inb i k k0_h1) (k0_off87_eq k) y ?_)
    intro q; fin_cases q <;> simp <;> omega
  refine ex_later ?_
  by_cases h_62 : (y 1).val / 128 = 62
  · refine ex_here (mem_unit (s := S1536x8960) (k0_off85_inb i k k0_h1) (k0_off85_eq k) y ?_)
    intro q; fin_cases q <;> simp <;> omega
  refine ex_later ?_
  by_cases h_27 : (y 1).val / 128 = 27
  · refine ex_here (mem_unit (s := S1536x8960) (k0_off84_inb i k k0_h1) (k0_off84_eq k) y ?_)
    intro q; fin_cases q <;> simp <;> omega
  refine ex_later ?_
  by_cases h_61 : (y 1).val / 128 = 61
  · refine ex_here (mem_unit (s := S1536x8960) (k0_off82_inb i k k0_h1) (k0_off82_eq k) y ?_)
    intro q; fin_cases q <;> simp <;> omega
  refine ex_later ?_
  by_cases h_26 : (y 1).val / 128 = 26
  · refine ex_here (mem_unit (s := S1536x8960) (k0_off81_inb i k k0_h1) (k0_off81_eq k) y ?_)
    intro q; fin_cases q <;> simp <;> omega
  refine ex_later ?_
  by_cases h_60 : (y 1).val / 128 = 60
  · refine ex_here (mem_unit (s := S1536x8960) (k0_off79_inb i k k0_h1) (k0_off79_eq k) y ?_)
    intro q; fin_cases q <;> simp <;> omega
  refine ex_later ?_
  by_cases h_25 : (y 1).val / 128 = 25
  · refine ex_here (mem_unit (s := S1536x8960) (k0_off78_inb i k k0_h1) (k0_off78_eq k) y ?_)
    intro q; fin_cases q <;> simp <;> omega
  refine ex_later ?_
  by_cases h_59 : (y 1).val / 128 = 59
  · refine ex_here (mem_unit (s := S1536x8960) (k0_off76_inb i k k0_h1) (k0_off76_eq k) y ?_)
    intro q; fin_cases q <;> simp <;> omega
  refine ex_later ?_
  by_cases h_24 : (y 1).val / 128 = 24
  · refine ex_here (mem_unit (s := S1536x8960) (k0_off75_inb i k k0_h1) (k0_off75_eq k) y ?_)
    intro q; fin_cases q <;> simp <;> omega
  refine ex_later ?_
  by_cases h_58 : (y 1).val / 128 = 58
  · refine ex_here (mem_unit (s := S1536x8960) (k0_off73_inb i k k0_h1) (k0_off73_eq k) y ?_)
    intro q; fin_cases q <;> simp <;> omega
  refine ex_later ?_
  by_cases h_23 : (y 1).val / 128 = 23
  · refine ex_here (mem_unit (s := S1536x8960) (k0_off72_inb i k k0_h1) (k0_off72_eq k) y ?_)
    intro q; fin_cases q <;> simp <;> omega
  refine ex_later ?_
  by_cases h_57 : (y 1).val / 128 = 57
  · refine ex_here (mem_unit (s := S1536x8960) (k0_off70_inb i k k0_h1) (k0_off70_eq k) y ?_)
    intro q; fin_cases q <;> simp <;> omega
  refine ex_later ?_
  by_cases h_22 : (y 1).val / 128 = 22
  · refine ex_here (mem_unit (s := S1536x8960) (k0_off69_inb i k k0_h1) (k0_off69_eq k) y ?_)
    intro q; fin_cases q <;> simp <;> omega
  refine ex_later ?_
  by_cases h_56 : (y 1).val / 128 = 56
  · refine ex_here (mem_unit (s := S1536x8960) (k0_off67_inb i k k0_h1) (k0_off67_eq k) y ?_)
    intro q; fin_cases q <;> simp <;> omega
  refine ex_later ?_
  by_cases h_21 : (y 1).val / 128 = 21
  · refine ex_here (mem_unit (s := S1536x8960) (k0_off66_inb i k k0_h1) (k0_off66_eq k) y ?_)
    intro q; fin_cases q <;> simp <;> omega
  refine ex_later ?_
  by_cases h_55 : (y 1).val / 128 = 55
  · refine ex_here (mem_unit (s := S1536x8960) (k0_off64_inb i k k0_h1) (k0_off64_eq k) y ?_)
    intro q; fin_cases q <;> simp <;> omega
  refine ex_later ?_
  by_cases h_20 : (y 1).val / 128 = 20
  · refine ex_here (mem_unit (s := S1536x8960) (k0_off63_inb i k k0_h1) (k0_off63_eq k) y ?_)
    intro q; fin_cases q <;> simp <;> omega
  refine ex_later ?_
  by_cases h_54 : (y 1).val / 128 = 54
  · refine ex_here (mem_unit (s := S1536x8960) (k0_off61_inb i k k0_h1) (k0_off61_eq k) y ?_)
    intro q; fin_cases q <;> simp <;> omega
  refine ex_later ?_
  by_cases h_19 : (y 1).val / 128 = 19
  · refine ex_here (mem_unit (s := S1536x8960) (k0_off60_inb i k k0_h1) (k0_off60_eq k) y ?_)
    intro q; fin_cases q <;> simp <;> omega
  refine ex_later ?_
  by_cases h_53 : (y 1).val / 128 = 53
  · refine ex_here (mem_unit (s := S1536x8960) (k0_off58_inb i k k0_h1) (k0_off58_eq k) y ?_)
    intro q; fin_cases q <;> simp <;> omega
  refine ex_later ?_
  by_cases h_18 : (y 1).val / 128 = 18
  · refine ex_here (mem_unit (s := S1536x8960) (k0_off57_inb i k k0_h1) (k0_off57_eq k) y ?_)
    intro q; fin_cases q <;> simp <;> omega
  refine ex_later ?_
  by_cases h_52 : (y 1).val / 128 = 52
  · refine ex_here (mem_unit (s := S1536x8960) (k0_off55_inb i k k0_h1) (k0_off55_eq k) y ?_)
    intro q; fin_cases q <;> simp <;> omega
  refine ex_later ?_
  by_cases h_17 : (y 1).val / 128 = 17
  · refine ex_here (mem_unit (s := S1536x8960) (k0_off54_inb i k k0_h1) (k0_off54_eq k) y ?_)
    intro q; fin_cases q <;> simp <;> omega
  refine ex_later ?_
  by_cases h_51 : (y 1).val / 128 = 51
  · refine ex_here (mem_unit (s := S1536x8960) (k0_off52_inb i k k0_h1) (k0_off52_eq k) y ?_)
    intro q; fin_cases q <;> simp <;> omega
  refine ex_later ?_
  by_cases h_16 : (y 1).val / 128 = 16
  · refine ex_here (mem_unit (s := S1536x8960) (k0_off51_inb i k k0_h1) (k0_off51_eq k) y ?_)
    intro q; fin_cases q <;> simp <;> omega
  refine ex_later ?_
  by_cases h_50 : (y 1).val / 128 = 50
  · refine ex_here (mem_unit (s := S1536x8960) (k0_off49_inb i k k0_h1) (k0_off49_eq k) y ?_)
    intro q; fin_cases q <;> simp <;> omega
  refine ex_later ?_
  by_cases h_15 : (y 1).val / 128 = 15
  · refine ex_here (mem_unit (s := S1536x8960) (k0_off48_inb i k k0_h1) (k0_off48_eq k) y ?_)
    intro q; fin_cases q <;> simp <;> omega
  refine ex_later ?_
  by_cases h_49 : (y 1).val / 128 = 49
  · refine ex_here (mem_unit (s := S1536x8960) (k0_off46_inb i k k0_h1) (k0_off46_eq k) y ?_)
    intro q; fin_cases q <;> simp <;> omega
  refine ex_later ?_
  by_cases h_14 : (y 1).val / 128 = 14
  · refine ex_here (mem_unit (s := S1536x8960) (k0_off45_inb i k k0_h1) (k0_off45_eq k) y ?_)
    intro q; fin_cases q <;> simp <;> omega
  refine ex_later ?_
  by_cases h_48 : (y 1).val / 128 = 48
  · refine ex_here (mem_unit (s := S1536x8960) (k0_off43_inb i k k0_h1) (k0_off43_eq k) y ?_)
    intro q; fin_cases q <;> simp <;> omega
  refine ex_later ?_
  by_cases h_13 : (y 1).val / 128 = 13
  · refine ex_here (mem_unit (s := S1536x8960) (k0_off42_inb i k k0_h1) (k0_off42_eq k) y ?_)
    intro q; fin_cases q <;> simp <;> omega
  refine ex_later ?_
  by_cases h_47 : (y 1).val / 128 = 47
  · refine ex_here (mem_unit (s := S1536x8960) (k0_off40_inb i k k0_h1) (k0_off40_eq k) y ?_)
    intro q; fin_cases q <;> simp <;> omega
  refine ex_later ?_
  by_cases h_12 : (y 1).val / 128 = 12
  · refine ex_here (mem_unit (s := S1536x8960) (k0_off39_inb i k k0_h1) (k0_off39_eq k) y ?_)
    intro q; fin_cases q <;> simp <;> omega
  refine ex_later ?_
  by_cases h_46 : (y 1).val / 128 = 46
  · refine ex_here (mem_unit (s := S1536x8960) (k0_off37_inb i k k0_h1) (k0_off37_eq k) y ?_)
    intro q; fin_cases q <;> simp <;> omega
  refine ex_later ?_
  by_cases h_11 : (y 1).val / 128 = 11
  · refine ex_here (mem_unit (s := S1536x8960) (k0_off36_inb i k k0_h1) (k0_off36_eq k) y ?_)
    intro q; fin_cases q <;> simp <;> omega
  refine ex_later ?_
  by_cases h_45 : (y 1).val / 128 = 45
  · refine ex_here (mem_unit (s := S1536x8960) (k0_off34_inb i k k0_h1) (k0_off34_eq k) y ?_)
    intro q; fin_cases q <;> simp <;> omega
  refine ex_later ?_
  by_cases h_10 : (y 1).val / 128 = 10
  · refine ex_here (mem_unit (s := S1536x8960) (k0_off33_inb i k k0_h1) (k0_off33_eq k) y ?_)
    intro q; fin_cases q <;> simp <;> omega
  refine ex_later ?_
  by_cases h_44 : (y 1).val / 128 = 44
  · refine ex_here (mem_unit (s := S1536x8960) (k0_off31_inb i k k0_h1) (k0_off31_eq k) y ?_)
    intro q; fin_cases q <;> simp <;> omega
  refine ex_later ?_
  by_cases h_9 : (y 1).val / 128 = 9
  · refine ex_here (mem_unit (s := S1536x8960) (k0_off30_inb i k k0_h1) (k0_off30_eq k) y ?_)
    intro q; fin_cases q <;> simp <;> omega
  refine ex_later ?_
  by_cases h_43 : (y 1).val / 128 = 43
  · refine ex_here (mem_unit (s := S1536x8960) (k0_off28_inb i k k0_h1) (k0_off28_eq k) y ?_)
    intro q; fin_cases q <;> simp <;> omega
  refine ex_later ?_
  by_cases h_8 : (y 1).val / 128 = 8
  · refine ex_here (mem_unit (s := S1536x8960) (k0_off27_inb i k k0_h1) (k0_off27_eq k) y ?_)
    intro q; fin_cases q <;> simp <;> omega
  refine ex_later ?_
  by_cases h_42 : (y 1).val / 128 = 42
  · refine ex_here (mem_unit (s := S1536x8960) (k0_off25_inb i k k0_h1) (k0_off25_eq k) y ?_)
    intro q; fin_cases q <;> simp <;> omega
  refine ex_later ?_
  by_cases h_7 : (y 1).val / 128 = 7
  · refine ex_here (mem_unit (s := S1536x8960) (k0_off24_inb i k k0_h1) (k0_off24_eq k) y ?_)
    intro q; fin_cases q <;> simp <;> omega
  refine ex_later ?_
  by_cases h_41 : (y 1).val / 128 = 41
  · refine ex_here (mem_unit (s := S1536x8960) (k0_off22_inb i k k0_h1) (k0_off22_eq k) y ?_)
    intro q; fin_cases q <;> simp <;> omega
  refine ex_later ?_
  by_cases h_6 : (y 1).val / 128 = 6
  · refine ex_here (mem_unit (s := S1536x8960) (k0_off21_inb i k k0_h1) (k0_off21_eq k) y ?_)
    intro q; fin_cases q <;> simp <;> omega
  refine ex_later ?_
  by_cases h_40 : (y 1).val / 128 = 40
  · refine ex_here (mem_unit (s := S1536x8960) (k0_off19_inb i k k0_h1) (k0_off19_eq k) y ?_)
    intro q; fin_cases q <;> simp <;> omega
  refine ex_later ?_
  by_cases h_5 : (y 1).val / 128 = 5
  · refine ex_here (mem_unit (s := S1536x8960) (k0_off18_inb i k k0_h1) (k0_off18_eq k) y ?_)
    intro q; fin_cases q <;> simp <;> omega
  refine ex_later ?_
  by_cases h_39 : (y 1).val / 128 = 39
  · refine ex_here (mem_unit (s := S1536x8960) (k0_off16_inb i k k0_h1) (k0_off16_eq k) y ?_)
    intro q; fin_cases q <;> simp <;> omega
  refine ex_later ?_
  by_cases h_4 : (y 1).val / 128 = 4
  · refine ex_here (mem_unit (s := S1536x8960) (k0_off15_inb i k k0_h1) (k0_off15_eq k) y ?_)
    intro q; fin_cases q <;> simp <;> omega
  refine ex_later ?_
  by_cases h_38 : (y 1).val / 128 = 38
  · refine ex_here (mem_unit (s := S1536x8960) (k0_off13_inb i k k0_h1) (k0_off13_eq k) y ?_)
    intro q; fin_cases q <;> simp <;> omega
  refine ex_later ?_
  by_cases h_3 : (y 1).val / 128 = 3
  · refine ex_here (mem_unit (s := S1536x8960) (k0_off12_inb i k k0_h1) (k0_off12_eq k) y ?_)
    intro q; fin_cases q <;> simp <;> omega
  refine ex_later ?_
  by_cases h_37 : (y 1).val / 128 = 37
  · refine ex_here (mem_unit (s := S1536x8960) (k0_off10_inb i k k0_h1) (k0_off10_eq k) y ?_)
    intro q; fin_cases q <;> simp <;> omega
  refine ex_later ?_
  by_cases h_2 : (y 1).val / 128 = 2
  · refine ex_here (mem_unit (s := S1536x8960) (k0_off9_inb i k k0_h1) (k0_off9_eq k) y ?_)
    intro q; fin_cases q <;> simp <;> omega
  refine ex_later ?_
  by_cases h_36 : (y 1).val / 128 = 36
  · refine ex_here (mem_unit (s := S1536x8960) (k0_off7_inb i k k0_h1) (k0_off7_eq k) y ?_)
    intro q; fin_cases q <;> simp <;> omega
  refine ex_later ?_
  by_cases h_1 : (y 1).val / 128 = 1
  · refine ex_here (mem_unit (s := S1536x8960) (k0_off6_inb i k k0_h1) (k0_off6_eq k) y ?_)
    intro q; fin_cases q <;> simp <;> omega
  refine ex_later ?_
  by_cases h_35 : (y 1).val / 128 = 35
  · refine ex_here (mem_unit (s := S1536x8960) (k0_off4_inb i k k0_h1) (k0_off4_eq k) y ?_)
    intro q; fin_cases q <;> simp <;> omega
  refine ex_later ?_
  by_cases h_0 : (y 1).val / 128 = 0
  · refine ex_here (mem_unit (s := S1536x8960) (k0_off3_inb i k k0_h1) (k0_off3_eq k) y ?_)
    intro q; fin_cases q <;> simp <;> omega
  refine ex_later ?_
  exfalso
  omega

/-- After the unpacking loop the weights buffer holds the unpacked weights. -/
theorem loop1_read (f : BufTy.Contents (Elt Ideal) arg9.view.ty) (y : S1536x8960.Idx) :
    arg9.view.read (Elt Ideal) (arg9.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X3 X4 k0_t1_loop.trips)) y
      = W8 (arg3.view.read (Elt Ideal) X3) (arg4.view.read (Elt Ideal) X4) y :=
  read_trips arg9.view f (fun n => pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X3 X4 n) (fun k => tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X3 X4 k) rfl
    (fun k => pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 k0_h1 X3 X4 k) _
    (fun k => trip1_pieces 𝒱 c bd i arg1 harg1 arg2 harg2 arg3 harg3 arg4 harg4 arg5 harg5 arg6 harg6 arg7 harg7 arg8 harg8 arg9 harg9 arg10 harg10 arg11 harg11 arg12 harg12 arg13 harg13 k0_h1 k X3 X4) y
    ⟨⟨(y 0).val / 128, by rw [k0_t1_trips]; have : (y 0).val < 1536 := (y 0).isLt; omega⟩, trip1_mem 𝒱 c bd i arg1 harg1 arg2 harg2 arg3 harg3 arg4 harg4 arg5 harg5 arg6 harg6 arg7 harg7 arg8 harg8 arg9 harg9 arg10 harg10 arg11 harg11 arg12 harg12 arg13 harg13 k0_h1 _ X3 X4 y rfl⟩
end
end Cert.KernelIdeal.Val
-- ==== Proof.KernelIdeal.T2.lean ====
/- The loop of the first stage: the products with the shifted copies of the matrix and the butterfly within a slab. -/
module

public import proofs.«01_k».proof.Proof.Gen.KernelIdeal.Loops
public import proofs.«01_k».proof.Proof.KernelIdeal.Tools
public import proofs.«01_k».proof.Proof.Spec

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen
open Cert.Spec

/-- The 140 by 140 matrix `H` shifted right by `4 σ` columns, with zeros around it. -/
def padH (H : Fin 140 → Fin 140 → EReal) (σ : Fin 4) (r : Fin 144) (q : Fin 160) : EReal :=
  if h : r.val < 140 ∧ 4 * σ.val ≤ q.val ∧ q.val < 4 * σ.val + 140 then H ⟨r.val, h.1⟩ ⟨q.val - 4 * σ.val, by omega⟩ else 0

/-- One row of the product of `H` with the block `p` of 140 rows of the transposed tokens. -/
def dotU (H : Fin 140 → Fin 140 → EReal) (X : S8960x256.Idx → EReal) (p : Fin 64) (s : Fin 140) (t : Fin 256) : EReal :=
  ∑ k : Fin 140, H s k * X (ix2 ⟨140 * p.val + k.val, by omega⟩ t)

/-- The first stage of the transform at every row: within each slab of 1120 rows the butterfly of eight products. -/
def G2 (H : Fin 140 → Fin 140 → EReal) (X : S8960x256.Idx → EReal) (y : S2x8960x128.Idx) : EReal :=
  bfly (fun i => dotU H X ⟨8 * ((y 1).val / 1120) + i.val, by have : (y 1).val < 8960 := (y 1).isLt; omega⟩
      ⟨(y 1).val % 140, by omega⟩ ⟨128 * (y 0).val + (y 2).val, by have : (y 0).val < 2 := (y 0).isLt; have : (y 2).val < 128 := (y 2).isLt; omega⟩)
    ⟨(y 1).val % 1120 / 140, by omega⟩

theorem G2_at (H : Fin 140 → Fin 140 → EReal) (X : S8960x256.Idx → EReal) (h : Fin 2) (k : ℕ) (hk : k < 8) (a : Fin 8) (s : Fin 140) (l : Fin 128) :
    G2 H X (ix3 h ⟨1120 * k + (140 * a.val + s.val), by omega⟩ l)
      = bfly (fun i => dotU H X ⟨8 * k + i.val, by omega⟩ s ⟨128 * h.val + l.val, by omega⟩) a := by
  unfold G2
  refine congr (congrArg bfly (funext fun i => ?_)) (Fin.ext ?_)
  · have e1 : (1120 * k + (140 * a.val + s.val)) / 1120 = k := by omega
    have e2 : (1120 * k + (140 * a.val + s.val)) % 140 = s.val := by omega
    refine congr (congr (congrArg (dotU H X) (Fin.ext ?_)) (Fin.ext ?_)) rfl
    · show 8 * ((1120 * k + (140 * a.val + s.val)) / 1120) + i.val = 8 * k + i.val
      rw [e1]
    · show (1120 * k + (140 * a.val + s.val)) % 140 = s.val
      exact e2
  · show (1120 * k + (140 * a.val + s.val)) % 1120 / 140 = a.val
    omega

/-- A product over a window of `n` columns in which the matrix is shifted by `4 σ` is the product over its own 140 columns. -/
theorem sum_window {n : ℕ} (hn : n ≤ 160) (H : Fin 140 → Fin 140 → EReal) (σ : Fin 4) (hσ : 4 * σ.val + 140 ≤ n) (s : Fin 140) (g : Fin n → EReal) :
    ∑ x : Fin n, padH H σ ⟨s.val, by omega⟩ ⟨x.val, by omega⟩ * g x = ∑ k : Fin 140, H s k * g ⟨4 * σ.val + k.val, by omega⟩ := by
  symm
  refine Finset.sum_of_injOn (fun k : Fin 140 => (⟨4 * σ.val + k.val, by omega⟩ : Fin n)) ?_ (fun _ _ => by simp) ?_ ?_
  · intro a _ b _ hab
    have := congrArg Fin.val hab
    exact Fin.ext (by simpa using this)
  · intro x _ hx
    have : ¬ (s.val < 140 ∧ 4 * σ.val ≤ x.val ∧ x.val < 4 * σ.val + 140) := by
      rintro ⟨_, h1, h2⟩
      exact hx ⟨⟨x.val - 4 * σ.val, by omega⟩, by simp, Fin.ext (by simp; omega)⟩
    unfold padH
    rw [dif_neg this, zero_mul]
  · intro k _
    unfold padH
    rw [dif_pos ⟨s.isLt, by simp, by simp⟩]
    refine congrArg (fun z => H s z * _) (Fin.ext ?_)
    simp

theorem k0_t2_trips : k0_t2_loop.trips = 8 := by decide +kernel

theorem off2_0 : ∀ k : Fin k0_t2_loop.trips, k0_off107 k 0#32 = ![1120 * k.val + 0, 0] := by decide +kernel
theorem off2_1 : ∀ k : Fin k0_t2_loop.trips, k0_off108 k 128#32 = ![1120 * k.val + 128, 0] := by decide +kernel
theorem off2_2 : ∀ k : Fin k0_t2_loop.trips, k0_off108 k 272#32 = ![1120 * k.val + 272, 0] := by decide +kernel
theorem off2_3 : ∀ k : Fin k0_t2_loop.trips, k0_off107 k 416#32 = ![1120 * k.val + 416, 0] := by decide +kernel
theorem off2_4 : ∀ k : Fin k0_t2_loop.trips, k0_off107 k 560#32 = ![1120 * k.val + 560, 0] := by decide +kernel
theorem off2_5 : ∀ k : Fin k0_t2_loop.trips, k0_off108 k 688#32 = ![1120 * k.val + 688, 0] := by decide +kernel
theorem off2_6 : ∀ k : Fin k0_t2_loop.trips, k0_off108 k 832#32 = ![1120 * k.val + 832, 0] := by decide +kernel
theorem off2_7 : ∀ k : Fin k0_t2_loop.trips, k0_off107 k 976#32 = ![1120 * k.val + 976, 0] := by decide +kernel
section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
variable (arg0 : BitVec 32) (v418 : FVec Ideal S256x128 .bf16)
  (k : Fin k0_t2_loop.trips) (X10 : BufTy.Contents (Elt Ideal) arg10.view.ty) (X11 : BufTy.Contents (Elt Ideal) arg11.view.ty)
  (H : Fin 140 → Fin 140 → EReal)

include k in
theorem k2_lt : k.val < 8 := lt_of_lt_of_eq k.isLt k0_t2_trips

/-- The eight windowed products of one trip at one row and one token. -/
def W2 (s : Fin 140) (t : Fin 256) : Fin 8 → EReal :=
  ![∑ x : Fin 144, View.readAt (Elt Ideal) arg10.view (Rect.unit (s := S4x144x160) ![0, 0, 0] ![1, 144, 144] inb_S4x144x160_S1x144x144_0_0_0).toLoadRect X10 (ix3 (0 : Fin 1) ⟨s.val, by omega⟩ x)
      * View.readAt (Elt Ideal) arg11.view (Rect.unit (s := S8960x256) (k0_off107 k 0#32) ![144, 256] (k0_off107_inb k 0)).toLoadRect X11 (ix2 x t),
    ∑ x : Fin 160, View.readAt (Elt Ideal) arg10.view (Rect.unit (s := S4x144x160) ![3, 0, 0] ![1, 144, 160] inb_S4x144x160_S1x144x160_3_0_0).toLoadRect X10 (ix3 (0 : Fin 1) ⟨s.val, by omega⟩ x)
      * View.readAt (Elt Ideal) arg11.view (Rect.unit (s := S8960x256) (k0_off108 k 128#32) ![160, 256] (k0_off108_inb k 0)).toLoadRect X11 (ix2 x t),
    ∑ x : Fin 160, View.readAt (Elt Ideal) arg10.view (Rect.unit (s := S4x144x160) ![2, 0, 0] ![1, 144, 160] inb_S4x144x160_S1x144x160_2_0_0).toLoadRect X10 (ix3 (0 : Fin 1) ⟨s.val, by omega⟩ x)
      * View.readAt (Elt Ideal) arg11.view (Rect.unit (s := S8960x256) (k0_off108 k 272#32) ![160, 256] (k0_off108_inb k 1)).toLoadRect X11 (ix2 x t),
    ∑ x : Fin 144, View.readAt (Elt Ideal) arg10.view (Rect.unit (s := S4x144x160) ![1, 0, 0] ![1, 144, 144] inb_S4x144x160_S1x144x144_1_0_0).toLoadRect X10 (ix3 (0 : Fin 1) ⟨s.val, by omega⟩ x)
      * View.readAt (Elt Ideal) arg11.view (Rect.unit (s := S8960x256) (k0_off107 k 416#32) ![144, 256] (k0_off107_inb k 1)).toLoadRect X11 (ix2 x t),
    ∑ x : Fin 144, View.readAt (Elt Ideal) arg10.view (Rect.unit (s := S4x144x160) ![0, 0, 0] ![1, 144, 144] inb_S4x144x160_S1x144x144_0_0_0).toLoadRect X10 (ix3 (0 : Fin 1) ⟨s.val, by omega⟩ x)
      * View.readAt (Elt Ideal) arg11.view (Rect.unit (s := S8960x256) (k0_off107 k 560#32) ![144, 256] (k0_off107_inb k 2)).toLoadRect X11 (ix2 x t),
    ∑ x : Fin 160, View.readAt (Elt Ideal) arg10.view (Rect.unit (s := S4x144x160) ![3, 0, 0] ![1, 144, 160] inb_S4x144x160_S1x144x160_3_0_0).toLoadRect X10 (ix3 (0 : Fin 1) ⟨s.val, by omega⟩ x)
      * View.readAt (Elt Ideal) arg11.view (Rect.unit (s := S8960x256) (k0_off108 k 688#32) ![160, 256] (k0_off108_inb k 2)).toLoadRect X11 (ix2 x t),
    ∑ x : Fin 160, View.readAt (Elt Ideal) arg10.view (Rect.unit (s := S4x144x160) ![2, 0, 0] ![1, 144, 160] inb_S4x144x160_S1x144x160_2_0_0).toLoadRect X10 (ix3 (0 : Fin 1) ⟨s.val, by omega⟩ x)
      * View.readAt (Elt Ideal) arg11.view (Rect.unit (s := S8960x256) (k0_off108 k 832#32) ![160, 256] (k0_off108_inb k 3)).toLoadRect X11 (ix2 x t),
    ∑ x : Fin 144, View.readAt (Elt Ideal) arg10.view (Rect.unit (s := S4x144x160) ![1, 0, 0] ![1, 144, 144] inb_S4x144x160_S1x144x144_1_0_0).toLoadRect X10 (ix3 (0 : Fin 1) ⟨s.val, by omega⟩ x)
      * View.readAt (Elt Ideal) arg11.view (Rect.unit (s := S8960x256) (k0_off107 k 976#32) ![144, 256] (k0_off107_inb k 3)).toLoadRect X11 (ix2 x t)]

theorem win2_0 (hH : ∀ σ r q, arg10.view.read (Elt Ideal) X10 (ix3 σ r q) = padH H σ r q) (s : Fin 140) (t : Fin 256) :
    (∑ x : Fin 144, View.readAt (Elt Ideal) arg10.view (Rect.unit (s := S4x144x160) ![0, 0, 0] ![1, 144, 144] inb_S4x144x160_S1x144x144_0_0_0).toLoadRect X10 (ix3 (0 : Fin 1) ⟨s.val, by omega⟩ x)
      * View.readAt (Elt Ideal) arg11.view (Rect.unit (s := S8960x256) (k0_off107 k 0#32) ![144, 256] (k0_off107_inb k 0)).toLoadRect X11 (ix2 x t)) = dotU H (arg11.view.read (Elt Ideal) X11) ⟨8 * k.val + 0, by have := k2_lt k; omega⟩ s t := by
  have hk := k2_lt k
  refine Eq.trans (Finset.sum_congr rfl fun x _ => congrArg₂ (· * ·) (x' := padH H 0 ⟨s.val, by omega⟩ ⟨x.val, by omega⟩) (y' := arg11.view.read (Elt Ideal) X11 (ix2 ⟨1120 * k.val + 0 + x.val, by omega⟩ t)) ?_ ?_)
    ((sum_window (n := 144) (by omega) H 0 (by decide) s (fun x => arg11.view.read (Elt Ideal) X11 (ix2 ⟨1120 * k.val + 0 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_0 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_1 (hH : ∀ σ r q, arg10.view.read (Elt Ideal) X10 (ix3 σ r q) = padH H σ r q) (s : Fin 140) (t : Fin 256) :
    (∑ x : Fin 160, View.readAt (Elt Ideal) arg10.view (Rect.unit (s := S4x144x160) ![3, 0, 0] ![1, 144, 160] inb_S4x144x160_S1x144x160_3_0_0).toLoadRect X10 (ix3 (0 : Fin 1) ⟨s.val, by omega⟩ x)
      * View.readAt (Elt Ideal) arg11.view (Rect.unit (s := S8960x256) (k0_off108 k 128#32) ![160, 256] (k0_off108_inb k 0)).toLoadRect X11 (ix2 x t)) = dotU H (arg11.view.read (Elt Ideal) X11) ⟨8 * k.val + 1, by have := k2_lt k; omega⟩ s t := by
  have hk := k2_lt k
  refine Eq.trans (Finset.sum_congr rfl fun x _ => congrArg₂ (· * ·) (x' := padH H 3 ⟨s.val, by omega⟩ ⟨x.val, by omega⟩) (y' := arg11.view.read (Elt Ideal) X11 (ix2 ⟨1120 * k.val + 128 + x.val, by omega⟩ t)) ?_ ?_)
    ((sum_window (n := 160) (by omega) H 3 (by decide) s (fun x => arg11.view.read (Elt Ideal) X11 (ix2 ⟨1120 * k.val + 128 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_1 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_2 (hH : ∀ σ r q, arg10.view.read (Elt Ideal) X10 (ix3 σ r q) = padH H σ r q) (s : Fin 140) (t : Fin 256) :
    (∑ x : Fin 160, View.readAt (Elt Ideal) arg10.view (Rect.unit (s := S4x144x160) ![2, 0, 0] ![1, 144, 160] inb_S4x144x160_S1x144x160_2_0_0).toLoadRect X10 (ix3 (0 : Fin 1) ⟨s.val, by omega⟩ x)
      * View.readAt (Elt Ideal) arg11.view (Rect.unit (s := S8960x256) (k0_off108 k 272#32) ![160, 256] (k0_off108_inb k 1)).toLoadRect X11 (ix2 x t)) = dotU H (arg11.view.read (Elt Ideal) X11) ⟨8 * k.val + 2, by have := k2_lt k; omega⟩ s t := by
  have hk := k2_lt k
  refine Eq.trans (Finset.sum_congr rfl fun x _ => congrArg₂ (· * ·) (x' := padH H 2 ⟨s.val, by omega⟩ ⟨x.val, by omega⟩) (y' := arg11.view.read (Elt Ideal) X11 (ix2 ⟨1120 * k.val + 272 + x.val, by omega⟩ t)) ?_ ?_)
    ((sum_window (n := 160) (by omega) H 2 (by decide) s (fun x => arg11.view.read (Elt Ideal) X11 (ix2 ⟨1120 * k.val + 272 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_2 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_3 (hH : ∀ σ r q, arg10.view.read (Elt Ideal) X10 (ix3 σ r q) = padH H σ r q) (s : Fin 140) (t : Fin 256) :
    (∑ x : Fin 144, View.readAt (Elt Ideal) arg10.view (Rect.unit (s := S4x144x160) ![1, 0, 0] ![1, 144, 144] inb_S4x144x160_S1x144x144_1_0_0).toLoadRect X10 (ix3 (0 : Fin 1) ⟨s.val, by omega⟩ x)
      * View.readAt (Elt Ideal) arg11.view (Rect.unit (s := S8960x256) (k0_off107 k 416#32) ![144, 256] (k0_off107_inb k 1)).toLoadRect X11 (ix2 x t)) = dotU H (arg11.view.read (Elt Ideal) X11) ⟨8 * k.val + 3, by have := k2_lt k; omega⟩ s t := by
  have hk := k2_lt k
  refine Eq.trans (Finset.sum_congr rfl fun x _ => congrArg₂ (· * ·) (x' := padH H 1 ⟨s.val, by omega⟩ ⟨x.val, by omega⟩) (y' := arg11.view.read (Elt Ideal) X11 (ix2 ⟨1120 * k.val + 416 + x.val, by omega⟩ t)) ?_ ?_)
    ((sum_window (n := 144) (by omega) H 1 (by decide) s (fun x => arg11.view.read (Elt Ideal) X11 (ix2 ⟨1120 * k.val + 416 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_3 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_4 (hH : ∀ σ r q, arg10.view.read (Elt Ideal) X10 (ix3 σ r q) = padH H σ r q) (s : Fin 140) (t : Fin 256) :
    (∑ x : Fin 144, View.readAt (Elt Ideal) arg10.view (Rect.unit (s := S4x144x160) ![0, 0, 0] ![1, 144, 144] inb_S4x144x160_S1x144x144_0_0_0).toLoadRect X10 (ix3 (0 : Fin 1) ⟨s.val, by omega⟩ x)
      * View.readAt (Elt Ideal) arg11.view (Rect.unit (s := S8960x256) (k0_off107 k 560#32) ![144, 256] (k0_off107_inb k 2)).toLoadRect X11 (ix2 x t)) = dotU H (arg11.view.read (Elt Ideal) X11) ⟨8 * k.val + 4, by have := k2_lt k; omega⟩ s t := by
  have hk := k2_lt k
  refine Eq.trans (Finset.sum_congr rfl fun x _ => congrArg₂ (· * ·) (x' := padH H 0 ⟨s.val, by omega⟩ ⟨x.val, by omega⟩) (y' := arg11.view.read (Elt Ideal) X11 (ix2 ⟨1120 * k.val + 560 + x.val, by omega⟩ t)) ?_ ?_)
    ((sum_window (n := 144) (by omega) H 0 (by decide) s (fun x => arg11.view.read (Elt Ideal) X11 (ix2 ⟨1120 * k.val + 560 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_4 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_5 (hH : ∀ σ r q, arg10.view.read (Elt Ideal) X10 (ix3 σ r q) = padH H σ r q) (s : Fin 140) (t : Fin 256) :
    (∑ x : Fin 160, View.readAt (Elt Ideal) arg10.view (Rect.unit (s := S4x144x160) ![3, 0, 0] ![1, 144, 160] inb_S4x144x160_S1x144x160_3_0_0).toLoadRect X10 (ix3 (0 : Fin 1) ⟨s.val, by omega⟩ x)
      * View.readAt (Elt Ideal) arg11.view (Rect.unit (s := S8960x256) (k0_off108 k 688#32) ![160, 256] (k0_off108_inb k 2)).toLoadRect X11 (ix2 x t)) = dotU H (arg11.view.read (Elt Ideal) X11) ⟨8 * k.val + 5, by have := k2_lt k; omega⟩ s t := by
  have hk := k2_lt k
  refine Eq.trans (Finset.sum_congr rfl fun x _ => congrArg₂ (· * ·) (x' := padH H 3 ⟨s.val, by omega⟩ ⟨x.val, by omega⟩) (y' := arg11.view.read (Elt Ideal) X11 (ix2 ⟨1120 * k.val + 688 + x.val, by omega⟩ t)) ?_ ?_)
    ((sum_window (n := 160) (by omega) H 3 (by decide) s (fun x => arg11.view.read (Elt Ideal) X11 (ix2 ⟨1120 * k.val + 688 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_5 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_6 (hH : ∀ σ r q, arg10.view.read (Elt Ideal) X10 (ix3 σ r q) = padH H σ r q) (s : Fin 140) (t : Fin 256) :
    (∑ x : Fin 160, View.readAt (Elt Ideal) arg10.view (Rect.unit (s := S4x144x160) ![2, 0, 0] ![1, 144, 160] inb_S4x144x160_S1x144x160_2_0_0).toLoadRect X10 (ix3 (0 : Fin 1) ⟨s.val, by omega⟩ x)
      * View.readAt (Elt Ideal) arg11.view (Rect.unit (s := S8960x256) (k0_off108 k 832#32) ![160, 256] (k0_off108_inb k 3)).toLoadRect X11 (ix2 x t)) = dotU H (arg11.view.read (Elt Ideal) X11) ⟨8 * k.val + 6, by have := k2_lt k; omega⟩ s t := by
  have hk := k2_lt k
  refine Eq.trans (Finset.sum_congr rfl fun x _ => congrArg₂ (· * ·) (x' := padH H 2 ⟨s.val, by omega⟩ ⟨x.val, by omega⟩) (y' := arg11.view.read (Elt Ideal) X11 (ix2 ⟨1120 * k.val + 832 + x.val, by omega⟩ t)) ?_ ?_)
    ((sum_window (n := 160) (by omega) H 2 (by decide) s (fun x => arg11.view.read (Elt Ideal) X11 (ix2 ⟨1120 * k.val + 832 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_6 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem win2_7 (hH : ∀ σ r q, arg10.view.read (Elt Ideal) X10 (ix3 σ r q) = padH H σ r q) (s : Fin 140) (t : Fin 256) :
    (∑ x : Fin 144, View.readAt (Elt Ideal) arg10.view (Rect.unit (s := S4x144x160) ![1, 0, 0] ![1, 144, 144] inb_S4x144x160_S1x144x144_1_0_0).toLoadRect X10 (ix3 (0 : Fin 1) ⟨s.val, by omega⟩ x)
      * View.readAt (Elt Ideal) arg11.view (Rect.unit (s := S8960x256) (k0_off107 k 976#32) ![144, 256] (k0_off107_inb k 3)).toLoadRect X11 (ix2 x t)) = dotU H (arg11.view.read (Elt Ideal) X11) ⟨8 * k.val + 7, by have := k2_lt k; omega⟩ s t := by
  have hk := k2_lt k
  refine Eq.trans (Finset.sum_congr rfl fun x _ => congrArg₂ (· * ·) (x' := padH H 1 ⟨s.val, by omega⟩ ⟨x.val, by omega⟩) (y' := arg11.view.read (Elt Ideal) X11 (ix2 ⟨1120 * k.val + 976 + x.val, by omega⟩ t)) ?_ ?_)
    ((sum_window (n := 144) (by omega) H 1 (by decide) s (fun x => arg11.view.read (Elt Ideal) X11 (ix2 ⟨1120 * k.val + 976 + x.val, by omega⟩ t))).trans ?_)
  · rw [View.readAt_apply, ← hH]
    refine congrArg _ (unit_idx (s := S4x144x160) _ rfl _ _ ?_)
    intro q; fin_cases q <;> simp [ix3]
  · rw [View.readAt_apply]
    refine congrArg _ (unit_idx (s := S8960x256) _ (off2_7 k) _ _ ?_)
    intro q; fin_cases q <;> simp [ix2]
  · unfold dotU
    refine Finset.sum_congr rfl fun x _ => ?_
    refine congrArg (fun z => H s x * arg11.view.read (Elt Ideal) X11 (ix2 z t)) (Fin.ext ?_)
    simp
    omega

theorem W2_eq (hH : ∀ σ r q, arg10.view.read (Elt Ideal) X10 (ix3 σ r q) = padH H σ r q) (s : Fin 140) (t : Fin 256) :
    W2 arg10 arg11 k X10 X11 s t = fun i => dotU H (arg11.view.read (Elt Ideal) X11) ⟨8 * k.val + i.val, by have := k2_lt k; omega⟩ s t := by
  funext i
  fin_cases i
  · exact win2_0 arg10 arg11 k X10 X11 H hH s t
  · exact win2_1 arg10 arg11 k X10 X11 H hH s t
  · exact win2_2 arg10 arg11 k X10 X11 H hH s t
  · exact win2_3 arg10 arg11 k X10 X11 H hH s t
  · exact win2_4 arg10 arg11 k X10 X11 H hH s t
  · exact win2_5 arg10 arg11 k X10 X11 H hH s t
  · exact win2_6 arg10 arg11 k X10 X11 H hH s t
  · exact win2_7 arg10 arg11 k X10 X11 H hH s t

theorem pay2_0_0 (hH : ∀ σ r q, arg10.view.read (Elt Ideal) X10 (ix3 σ r q) = padH H σ r q) (z : Fin 1) (s : Fin 140) (l : Fin 128) :
    k0_pay210 (trip_k0_t2.sl.r_9 arg10 arg11 X10 X11 k) (ix3 z s l) = G2 H (arg11.view.read (Elt Ideal) X11) (ix3 (0 : Fin 2) ⟨1120 * k.val + (140 * 0 + s.val), by have := k2_lt k; omega⟩ l) := by
  refine Eq.trans ?_ ((congrArg (fun g => bfly g 0) (W2_eq arg10 arg11 k X10 X11 H hH s ⟨128 * 0 + l.val, by omega⟩)).trans (G2_at H _ 0 k.val (k2_lt k) 0 s l).symm)
  generalize hB : (fun g => bfly g 0) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_1 (hH : ∀ σ r q, arg10.view.read (Elt Ideal) X10 (ix3 σ r q) = padH H σ r q) (z : Fin 1) (s : Fin 140) (l : Fin 128) :
    k0_pay212 (trip_k0_t2.sl.r_11 arg10 arg11 X10 X11 k) (ix3 z s l) = G2 H (arg11.view.read (Elt Ideal) X11) (ix3 (0 : Fin 2) ⟨1120 * k.val + (140 * 1 + s.val), by have := k2_lt k; omega⟩ l) := by
  refine Eq.trans ?_ ((congrArg (fun g => bfly g 1) (W2_eq arg10 arg11 k X10 X11 H hH s ⟨128 * 0 + l.val, by omega⟩)).trans (G2_at H _ 0 k.val (k2_lt k) 1 s l).symm)
  generalize hB : (fun g => bfly g 1) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_2 (hH : ∀ σ r q, arg10.view.read (Elt Ideal) X10 (ix3 σ r q) = padH H σ r q) (z : Fin 1) (s : Fin 140) (l : Fin 128) :
    k0_pay214 (trip_k0_t2.sl.r_5 arg10 arg11 X10 X11 k) (trip_k0_t2.sl.r_7 arg10 arg11 X10 X11 k) (ix3 z s l) = G2 H (arg11.view.read (Elt Ideal) X11) (ix3 (0 : Fin 2) ⟨1120 * k.val + (140 * 2 + s.val), by have := k2_lt k; omega⟩ l) := by
  refine Eq.trans ?_ ((congrArg (fun g => bfly g 2) (W2_eq arg10 arg11 k X10 X11 H hH s ⟨128 * 0 + l.val, by omega⟩)).trans (G2_at H _ 0 k.val (k2_lt k) 2 s l).symm)
  generalize hB : (fun g => bfly g 2) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_3 (hH : ∀ σ r q, arg10.view.read (Elt Ideal) X10 (ix3 σ r q) = padH H σ r q) (z : Fin 1) (s : Fin 140) (l : Fin 128) :
    trip_k0_t2.sl.v600 arg10 arg11 X10 X11 k (ix3 z s l) = G2 H (arg11.view.read (Elt Ideal) X11) (ix3 (0 : Fin 2) ⟨1120 * k.val + (140 * 3 + s.val), by have := k2_lt k; omega⟩ l) := by
  refine Eq.trans ?_ ((congrArg (fun g => bfly g 3) (W2_eq arg10 arg11 k X10 X11 H hH s ⟨128 * 0 + l.val, by omega⟩)).trans (G2_at H _ 0 k.val (k2_lt k) 3 s l).symm)
  generalize hB : (fun g => bfly g 3) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_4 (hH : ∀ σ r q, arg10.view.read (Elt Ideal) X10 (ix3 σ r q) = padH H σ r q) (z : Fin 1) (s : Fin 140) (l : Fin 128) :
    trip_k0_t2.sl.v612 arg10 arg11 X10 X11 k (ix3 z s l) = G2 H (arg11.view.read (Elt Ideal) X11) (ix3 (0 : Fin 2) ⟨1120 * k.val + (140 * 4 + s.val), by have := k2_lt k; omega⟩ l) := by
  refine Eq.trans ?_ ((congrArg (fun g => bfly g 4) (W2_eq arg10 arg11 k X10 X11 H hH s ⟨128 * 0 + l.val, by omega⟩)).trans (G2_at H _ 0 k.val (k2_lt k) 4 s l).symm)
  generalize hB : (fun g => bfly g 4) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_5 (hH : ∀ σ r q, arg10.view.read (Elt Ideal) X10 (ix3 σ r q) = padH H σ r q) (z : Fin 1) (s : Fin 140) (l : Fin 128) :
    trip_k0_t2.sl.v624 arg10 arg11 X10 X11 k (ix3 z s l) = G2 H (arg11.view.read (Elt Ideal) X11) (ix3 (0 : Fin 2) ⟨1120 * k.val + (140 * 5 + s.val), by have := k2_lt k; omega⟩ l) := by
  refine Eq.trans ?_ ((congrArg (fun g => bfly g 5) (W2_eq arg10 arg11 k X10 X11 H hH s ⟨128 * 0 + l.val, by omega⟩)).trans (G2_at H _ 0 k.val (k2_lt k) 5 s l).symm)
  generalize hB : (fun g => bfly g 5) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_6 (hH : ∀ σ r q, arg10.view.read (Elt Ideal) X10 (ix3 σ r q) = padH H σ r q) (z : Fin 1) (s : Fin 140) (l : Fin 128) :
    k0_pay395 (trip_k0_t2.sl.r_13 arg10 arg11 X10 X11 k) (ix3 z s l) = G2 H (arg11.view.read (Elt Ideal) X11) (ix3 (0 : Fin 2) ⟨1120 * k.val + (140 * 6 + s.val), by have := k2_lt k; omega⟩ l) := by
  refine Eq.trans ?_ ((congrArg (fun g => bfly g 6) (W2_eq arg10 arg11 k X10 X11 H hH s ⟨128 * 0 + l.val, by omega⟩)).trans (G2_at H _ 0 k.val (k2_lt k) 6 s l).symm)
  generalize hB : (fun g => bfly g 6) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_0_7 (hH : ∀ σ r q, arg10.view.read (Elt Ideal) X10 (ix3 σ r q) = padH H σ r q) (z : Fin 1) (s : Fin 140) (l : Fin 128) :
    k0_pay397 (trip_k0_t2.sl.r_15 arg10 arg11 X10 X11 k) (ix3 z s l) = G2 H (arg11.view.read (Elt Ideal) X11) (ix3 (0 : Fin 2) ⟨1120 * k.val + (140 * 7 + s.val), by have := k2_lt k; omega⟩ l) := by
  refine Eq.trans ?_ ((congrArg (fun g => bfly g 7) (W2_eq arg10 arg11 k X10 X11 H hH s ⟨128 * 0 + l.val, by omega⟩)).trans (G2_at H _ 0 k.val (k2_lt k) 7 s l).symm)
  generalize hB : (fun g => bfly g 7) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_0 (hH : ∀ σ r q, arg10.view.read (Elt Ideal) X10 (ix3 σ r q) = padH H σ r q) (z : Fin 1) (s : Fin 140) (l : Fin 128) :
    k0_pay211 (trip_k0_t2.sl.r_9 arg10 arg11 X10 X11 k) (ix3 z s l) = G2 H (arg11.view.read (Elt Ideal) X11) (ix3 (1 : Fin 2) ⟨1120 * k.val + (140 * 0 + s.val), by have := k2_lt k; omega⟩ l) := by
  refine Eq.trans ?_ ((congrArg (fun g => bfly g 0) (W2_eq arg10 arg11 k X10 X11 H hH s ⟨128 * 1 + l.val, by omega⟩)).trans (G2_at H _ 1 k.val (k2_lt k) 0 s l).symm)
  generalize hB : (fun g => bfly g 0) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_1 (hH : ∀ σ r q, arg10.view.read (Elt Ideal) X10 (ix3 σ r q) = padH H σ r q) (z : Fin 1) (s : Fin 140) (l : Fin 128) :
    k0_pay213 (trip_k0_t2.sl.r_11 arg10 arg11 X10 X11 k) (ix3 z s l) = G2 H (arg11.view.read (Elt Ideal) X11) (ix3 (1 : Fin 2) ⟨1120 * k.val + (140 * 1 + s.val), by have := k2_lt k; omega⟩ l) := by
  refine Eq.trans ?_ ((congrArg (fun g => bfly g 1) (W2_eq arg10 arg11 k X10 X11 H hH s ⟨128 * 1 + l.val, by omega⟩)).trans (G2_at H _ 1 k.val (k2_lt k) 1 s l).symm)
  generalize hB : (fun g => bfly g 1) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_2 (hH : ∀ σ r q, arg10.view.read (Elt Ideal) X10 (ix3 σ r q) = padH H σ r q) (z : Fin 1) (s : Fin 140) (l : Fin 128) :
    trip_k0_t2.sl.v594 arg10 arg11 X10 X11 k (ix3 z s l) = G2 H (arg11.view.read (Elt Ideal) X11) (ix3 (1 : Fin 2) ⟨1120 * k.val + (140 * 2 + s.val), by have := k2_lt k; omega⟩ l) := by
  refine Eq.trans ?_ ((congrArg (fun g => bfly g 2) (W2_eq arg10 arg11 k X10 X11 H hH s ⟨128 * 1 + l.val, by omega⟩)).trans (G2_at H _ 1 k.val (k2_lt k) 2 s l).symm)
  generalize hB : (fun g => bfly g 2) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_3 (hH : ∀ σ r q, arg10.view.read (Elt Ideal) X10 (ix3 σ r q) = padH H σ r q) (z : Fin 1) (s : Fin 140) (l : Fin 128) :
    trip_k0_t2.sl.v606 arg10 arg11 X10 X11 k (ix3 z s l) = G2 H (arg11.view.read (Elt Ideal) X11) (ix3 (1 : Fin 2) ⟨1120 * k.val + (140 * 3 + s.val), by have := k2_lt k; omega⟩ l) := by
  refine Eq.trans ?_ ((congrArg (fun g => bfly g 3) (W2_eq arg10 arg11 k X10 X11 H hH s ⟨128 * 1 + l.val, by omega⟩)).trans (G2_at H _ 1 k.val (k2_lt k) 3 s l).symm)
  generalize hB : (fun g => bfly g 3) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_4 (hH : ∀ σ r q, arg10.view.read (Elt Ideal) X10 (ix3 σ r q) = padH H σ r q) (z : Fin 1) (s : Fin 140) (l : Fin 128) :
    trip_k0_t2.sl.v618 arg10 arg11 X10 X11 k (ix3 z s l) = G2 H (arg11.view.read (Elt Ideal) X11) (ix3 (1 : Fin 2) ⟨1120 * k.val + (140 * 4 + s.val), by have := k2_lt k; omega⟩ l) := by
  refine Eq.trans ?_ ((congrArg (fun g => bfly g 4) (W2_eq arg10 arg11 k X10 X11 H hH s ⟨128 * 1 + l.val, by omega⟩)).trans (G2_at H _ 1 k.val (k2_lt k) 4 s l).symm)
  generalize hB : (fun g => bfly g 4) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_5 (hH : ∀ σ r q, arg10.view.read (Elt Ideal) X10 (ix3 σ r q) = padH H σ r q) (z : Fin 1) (s : Fin 140) (l : Fin 128) :
    k0_pay394 (trip_k0_t2.sl.v625 arg10 arg11 X10 X11 k) (ix3 z s l) = G2 H (arg11.view.read (Elt Ideal) X11) (ix3 (1 : Fin 2) ⟨1120 * k.val + (140 * 5 + s.val), by have := k2_lt k; omega⟩ l) := by
  refine Eq.trans ?_ ((congrArg (fun g => bfly g 5) (W2_eq arg10 arg11 k X10 X11 H hH s ⟨128 * 1 + l.val, by omega⟩)).trans (G2_at H _ 1 k.val (k2_lt k) 5 s l).symm)
  generalize hB : (fun g => bfly g 5) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_6 (hH : ∀ σ r q, arg10.view.read (Elt Ideal) X10 (ix3 σ r q) = padH H σ r q) (z : Fin 1) (s : Fin 140) (l : Fin 128) :
    k0_pay396 (trip_k0_t2.sl.r_13 arg10 arg11 X10 X11 k) (ix3 z s l) = G2 H (arg11.view.read (Elt Ideal) X11) (ix3 (1 : Fin 2) ⟨1120 * k.val + (140 * 6 + s.val), by have := k2_lt k; omega⟩ l) := by
  refine Eq.trans ?_ ((congrArg (fun g => bfly g 6) (W2_eq arg10 arg11 k X10 X11 H hH s ⟨128 * 1 + l.val, by omega⟩)).trans (G2_at H _ 1 k.val (k2_lt k) 6 s l).symm)
  generalize hB : (fun g => bfly g 6) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem pay2_1_7 (hH : ∀ σ r q, arg10.view.read (Elt Ideal) X10 (ix3 σ r q) = padH H σ r q) (z : Fin 1) (s : Fin 140) (l : Fin 128) :
    k0_pay398 (trip_k0_t2.sl.r_15 arg10 arg11 X10 X11 k) (ix3 z s l) = G2 H (arg11.view.read (Elt Ideal) X11) (ix3 (1 : Fin 2) ⟨1120 * k.val + (140 * 7 + s.val), by have := k2_lt k; omega⟩ l) := by
  refine Eq.trans ?_ ((congrArg (fun g => bfly g 7) (W2_eq arg10 arg11 k X10 X11 H hH s ⟨128 * 1 + l.val, by omega⟩)).trans (G2_at H _ 1 k.val (k2_lt k) 7 s l).symm)
  generalize hB : (fun g => bfly g 7) _ = B
  simp only [trip_k0_t2.sl.v609, trip_k0_t2.sl.v605, trip_k0_t2.sl.v611, trip_k0_t2.sl.r_16, trip_k0_t2.sl.r_9, trip_k0_t2.sl.v619, trip_k0_t2.sl.v622, trip_k0_t2.sl.v595, trip_k0_t2.sl.r_14, trip_k0_t2.sl.v607, trip_k0_t2.sl.r_2, trip_k0_t2.sl.v610, trip_k0_t2.sl.r_15, trip_k0_t2.sl.v621, trip_k0_t2.sl.r, trip_k0_t2.sl.v618, trip_k0_t2.sl.r_4, trip_k0_t2.sl.v608, trip_k0_t2.sl.r_11, trip_k0_t2.sl.v600, trip_k0_t2.sl.v601, trip_k0_t2.sl.v617, trip_k0_t2.sl.r_1, trip_k0_t2.sl.v592, trip_k0_t2.sl.v599, trip_k0_t2.sl.v606, trip_k0_t2.sl.v625, trip_k0_t2.sl.v623, trip_k0_t2.sl.v598, trip_k0_t2.sl.arg14, trip_k0_t2.sl.r_8, trip_k0_t2.sl.r_3, trip_k0_t2.sl.v596, trip_k0_t2.sl.r_12, trip_k0_t2.sl.v604, trip_k0_t2.sl.v612, trip_k0_t2.sl.v593, trip_k0_t2.sl.v616, trip_k0_t2.sl.r_7, trip_k0_t2.sl.r_5, trip_k0_t2.sl.v597, trip_k0_t2.sl.r_10, trip_k0_t2.sl.v594, trip_k0_t2.sl.r_13, trip_k0_t2.sl.r_6, trip_k0_t2.sl.v613, trip_k0_t2.sl.v624, trip_k0_t2.sl.v620]
  unfold_payloads
  pointwise []
  subst hB
  rfl

theorem emb2_0 (r : Fin 8) (z : Fin 1) (s : Fin 140) (l : Fin 128) :
    (Rect.unit (s := S2x8960x128) (k0_off109 k (BitVec.ofNat 32 (140 * r.val))) S1x140x128.size (k0_off109_inb k r)).emb (ix3 z s l)
      = ix3 (0 : Fin 2) ⟨1120 * k.val + (140 * r.val + s.val), by have := k2_lt k; omega⟩ l := by
  refine unit_emb (s := S2x8960x128) (k0_off109_inb k r) (k0_off109_eq k r) _ _ ?_
  intro q; fin_cases q <;> simp [ix3] <;> omega

theorem mem2_0 (r : Fin 8) (y : S2x8960x128.Idx) (h0 : (y 0).val = 0) (h1 : (y 1).val / 1120 = k.val) (h2 : (y 1).val % 1120 / 140 = r.val) :
    y ∈ (Rect.unit (s := S2x8960x128) (k0_off109 k (BitVec.ofNat 32 (140 * r.val))) S1x140x128.size (k0_off109_inb k r)).set := by
  have hk := k2_lt k
  have hy1 : (y 1).val < 8960 := (y 1).isLt
  have hy2 : (y 2).val < 128 := (y 2).isLt
  have hr := r.isLt
  refine mem_unit (s := S2x8960x128) (k0_off109_inb k r) (k0_off109_eq k r) y ?_
  intro q
  fin_cases q <;> simp <;> omega

theorem emb2_1 (r : Fin 8) (z : Fin 1) (s : Fin 140) (l : Fin 128) :
    (Rect.unit (s := S2x8960x128) (k0_off110 k (BitVec.ofNat 32 (140 * r.val))) S1x140x128.size (k0_off110_inb k r)).emb (ix3 z s l)
      = ix3 (1 : Fin 2) ⟨1120 * k.val + (140 * r.val + s.val), by have := k2_lt k; omega⟩ l := by
  refine unit_emb (s := S2x8960x128) (k0_off110_inb k r) (k0_off110_eq k r) _ _ ?_
  intro q; fin_cases q <;> simp [ix3] <;> omega

theorem mem2_1 (r : Fin 8) (y : S2x8960x128.Idx) (h0 : (y 0).val = 1) (h1 : (y 1).val / 1120 = k.val) (h2 : (y 1).val % 1120 / 140 = r.val) :
    y ∈ (Rect.unit (s := S2x8960x128) (k0_off110 k (BitVec.ofNat 32 (140 * r.val))) S1x140x128.size (k0_off110_inb k r)).set := by
  have hk := k2_lt k
  have hy1 : (y 1).val < 8960 := (y 1).isLt
  have hy2 : (y 2).val < 128 := (y 2).isLt
  have hr := r.isLt
  refine mem_unit (s := S2x8960x128) (k0_off110_inb k r) (k0_off110_eq k r) y ?_
  intro q
  fin_cases q <;> simp <;> omega

/-- The sixteen stores of a trip agree with the first stage of the transform. -/
theorem trip2_pieces (hH : ∀ σ r q, arg10.view.read (Elt Ideal) X10 (ix3 σ r q) = padH H σ r q) : ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k, ∀ x : p.1.shape.Idx, p.2 x = G2 H (arg11.view.read (Elt Ideal) X11) (p.1.emb x) := by
  unfold tripL_k0_t2 trip_k0_t2
  dsimp only
  intro p hp x
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_7 arg10 arg11 k X10 X11 H hH z s l).trans (congrArg (G2 H (arg11.view.read (Elt Ideal) X11)) (emb2_1 k 7 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_7 arg10 arg11 k X10 X11 H hH z s l).trans (congrArg (G2 H (arg11.view.read (Elt Ideal) X11)) (emb2_0 k 7 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_6 arg10 arg11 k X10 X11 H hH z s l).trans (congrArg (G2 H (arg11.view.read (Elt Ideal) X11)) (emb2_1 k 6 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_6 arg10 arg11 k X10 X11 H hH z s l).trans (congrArg (G2 H (arg11.view.read (Elt Ideal) X11)) (emb2_0 k 6 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_5 arg10 arg11 k X10 X11 H hH z s l).trans (congrArg (G2 H (arg11.view.read (Elt Ideal) X11)) (emb2_1 k 5 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_5 arg10 arg11 k X10 X11 H hH z s l).trans (congrArg (G2 H (arg11.view.read (Elt Ideal) X11)) (emb2_0 k 5 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_4 arg10 arg11 k X10 X11 H hH z s l).trans (congrArg (G2 H (arg11.view.read (Elt Ideal) X11)) (emb2_1 k 4 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_4 arg10 arg11 k X10 X11 H hH z s l).trans (congrArg (G2 H (arg11.view.read (Elt Ideal) X11)) (emb2_0 k 4 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_3 arg10 arg11 k X10 X11 H hH z s l).trans (congrArg (G2 H (arg11.view.read (Elt Ideal) X11)) (emb2_1 k 3 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_3 arg10 arg11 k X10 X11 H hH z s l).trans (congrArg (G2 H (arg11.view.read (Elt Ideal) X11)) (emb2_0 k 3 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_2 arg10 arg11 k X10 X11 H hH z s l).trans (congrArg (G2 H (arg11.view.read (Elt Ideal) X11)) (emb2_1 k 2 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_2 arg10 arg11 k X10 X11 H hH z s l).trans (congrArg (G2 H (arg11.view.read (Elt Ideal) X11)) (emb2_0 k 2 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_1 arg10 arg11 k X10 X11 H hH z s l).trans (congrArg (G2 H (arg11.view.read (Elt Ideal) X11)) (emb2_1 k 1 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_1 arg10 arg11 k X10 X11 H hH z s l).trans (congrArg (G2 H (arg11.view.read (Elt Ideal) X11)) (emb2_0 k 1 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_1_0 arg10 arg11 k X10 X11 H hH z s l).trans (congrArg (G2 H (arg11.view.read (Elt Ideal) X11)) (emb2_1 k 0 z s l).symm)
  rcases List.mem_cons.mp hp with rfl | hp
  · obtain ⟨z, s, l, rfl⟩ : ∃ (z : Fin 1) (s : Fin 140) (l : Fin 128), x = ix3 z s l := ⟨x 0, x 1, x 2, eq_ix3 x⟩
    exact (pay2_0_0 arg10 arg11 k X10 X11 H hH z s l).trans (congrArg (G2 H (arg11.view.read (Elt Ideal) X11)) (emb2_0 k 0 z s l).symm)
  exact absurd hp List.not_mem_nil

/-- A trip stores every row of its slab of 1120 rows. -/
theorem trip2_mem (y : S2x8960x128.Idx) (hy : (y 1).val / 1120 = k.val) : ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k, y ∈ p.1.set := by
  have hk := k2_lt k
  have h1 : (y 1).val < 8960 := (y 1).isLt
  have h0 : (y 0).val < 2 := (y 0).isLt
  unfold tripL_k0_t2 trip_k0_t2
  dsimp only
  simp only [List.mem_cons, List.not_mem_nil, or_false, exists_eq_or_imp, exists_eq_left]
  have hh : (y 0).val = 0 ∨ (y 0).val = 1 := by omega
  have ha : (y 1).val % 1120 / 140 < 8 := by omega
  obtain ⟨A, hA⟩ : ∃ A : Fin 8, (y 1).val % 1120 / 140 = A.val := ⟨⟨_, ha⟩, rfl⟩
  rcases hh with hh | hh
  · fin_cases A
    · exact Or.inr (Or.inr (Or.inr (Or.inr (Or.inr (Or.inr (Or.inr (Or.inr (Or.inr (Or.inr (Or.inr (Or.inr (Or.inr (Or.inr (Or.inr ((mem2_0 k 0 y hh hy hA))))))))))))))))
    · exact Or.inr (Or.inr (Or.inr (Or.inr (Or.inr (Or.inr (Or.inr (Or.inr (Or.inr (Or.inr (Or.inr (Or.inr (Or.inr (Or.inl (mem2_0 k 1 y hh hy hA))))))))))))))
    · exact Or.inr (Or.inr (Or.inr (Or.inr (Or.inr (Or.inr (Or.inr (Or.inr (Or.inr (Or.inr (Or.inr (Or.inl (mem2_0 k 2 y hh hy hA))))))))))))
    · exact Or.inr (Or.inr (Or.inr (Or.inr (Or.inr (Or.inr (Or.inr (Or.inr (Or.inr (Or.inl (mem2_0 k 3 y hh hy hA))))))))))
    · exact Or.inr (Or.inr (Or.inr (Or.inr (Or.inr (Or.inr (Or.inr (Or.inl (mem2_0 k 4 y hh hy hA))))))))
    · exact Or.inr (Or.inr (Or.inr (Or.inr (Or.inr (Or.inl (mem2_0 k 5 y hh hy hA))))))
    · exact Or.inr (Or.inr (Or.inr (Or.inl (mem2_0 k 6 y hh hy hA))))
    · exact Or.inr (Or.inl (mem2_0 k 7 y hh hy hA))
  · fin_cases A
    · exact Or.inr (Or.inr (Or.inr (Or.inr (Or.inr (Or.inr (Or.inr (Or.inr (Or.inr (Or.inr (Or.inr (Or.inr (Or.inr (Or.inr (Or.inl (mem2_1 k 0 y hh hy hA)))))))))))))))
    · exact Or.inr (Or.inr (Or.inr (Or.inr (Or.inr (Or.inr (Or.inr (Or.inr (Or.inr (Or.inr (Or.inr (Or.inr (Or.inl (mem2_1 k 1 y hh hy hA)))))))))))))
    · exact Or.inr (Or.inr (Or.inr (Or.inr (Or.inr (Or.inr (Or.inr (Or.inr (Or.inr (Or.inr (Or.inl (mem2_1 k 2 y hh hy hA)))))))))))
    · exact Or.inr (Or.inr (Or.inr (Or.inr (Or.inr (Or.inr (Or.inr (Or.inr (Or.inl (mem2_1 k 3 y hh hy hA)))))))))
    · exact Or.inr (Or.inr (Or.inr (Or.inr (Or.inr (Or.inr (Or.inl (mem2_1 k 4 y hh hy hA)))))))
    · exact Or.inr (Or.inr (Or.inr (Or.inr (Or.inl (mem2_1 k 5 y hh hy hA)))))
    · exact Or.inr (Or.inr (Or.inl (mem2_1 k 6 y hh hy hA)))
    · exact Or.inl (mem2_1 k 7 y hh hy hA)

/-- After the first loop the rows buffer holds the first stage of the transform. -/
theorem loop2_read (hH : ∀ σ r q, arg10.view.read (Elt Ideal) X10 (ix3 σ r q) = padH H σ r q) (f : BufTy.Contents (Elt Ideal) arg12.view.ty) (y : S2x8960x128.Idx) :
    arg12.view.read (Elt Ideal) (arg12.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) y
      = G2 H (arg11.view.read (Elt Ideal) X11) y :=
  read_trips arg12.view f (fun n => pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 n) (fun k => tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k) rfl
    (fun k => pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k) _
    (fun k => trip2_pieces 𝒱 c bd i arg1 harg1 arg2 harg2 arg3 harg3 arg4 harg4 arg5 harg5 arg6 harg6 arg7 harg7 arg8 harg8 arg9 harg9 arg10 harg10 arg11 harg11 arg12 harg12 arg13 harg13 arg0 v418 k X10 X11 H hH) y
    ⟨⟨(y 1).val / 1120, by rw [k0_t2_trips]; have : (y 1).val < 8960 := (y 1).isLt; omega⟩, trip2_mem 𝒱 c bd i arg1 harg1 arg2 harg2 arg3 harg3 arg4 harg4 arg5 harg5 arg6 harg6 arg7 harg7 arg8 harg8 arg9 harg9 arg10 harg10 arg11 harg11 arg12 harg12 arg13 harg13 arg0 v418 _ X10 X11 y rfl⟩
end
end Cert.KernelIdeal.Val
-- ==== Proof.KernelIdeal.T3.lean ====
/- The loop of the second butterfly, across the slabs, and of the running maximum. -/
module

public import proofs.«01_k».proof.Proof.Gen.KernelIdeal.Loops
public import proofs.«01_k».proof.Proof.KernelIdeal.Tools
public import proofs.«01_k».proof.Proof.Spec

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen
open Cert.Spec

/-- The second butterfly of a whole array of rows: across the eight slabs of 1120 rows. -/
def G3 (R : S2x8960x128.Idx → EReal) (y : S2x8960x128.Idx) : EReal :=
  bfly (fun a => R (ix3 (y 0) ⟨1120 * a.val + (y 1).val % 1120, by omega⟩ (y 2))) ⟨(y 1).val / 1120, by have : (y 1).val < 8960 := (y 1).isLt; omega⟩

theorem G3_at (R : S2x8960x128.Idx → EReal) (h : Fin 2) (a : Fin 8) (k s : ℕ) (hk : k < 35) (hs : s < 32) (l : Fin 128) :
    G3 R (ix3 h ⟨1120 * a.val + (32 * k + s), by omega⟩ l)
      = bfly (fun a' => R (ix3 h ⟨1120 * a'.val + (32 * k + s), by omega⟩ l)) a := by
  unfold G3
  refine congr (congrArg bfly (funext fun a' => congrArg R ?_)) (Fin.ext ?_)
  · refine congrArg₂ (ix3 h) (Fin.ext ?_) rfl
    show 1120 * a'.val + (1120 * a.val + (32 * k + s)) % 1120 = 1120 * a'.val + (32 * k + s)
    omega
  · show (1120 * a.val + (32 * k + s)) / 1120 = a.val
    omega

theorem k0_t3_trips : k0_t3_loop.trips = 35 := by decide +kernel

section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
variable (arg0 : BitVec 32) (v418 : FVec Ideal S256x128 .bf16)
  (k : Fin k0_t3_loop.trips) (f : BufTy.Contents (Elt Ideal) arg12.view.ty)

include k in
theorem k3_lt : k.val < 35 := lt_of_lt_of_eq k.isLt k0_t3_trips

theorem ld3_0 (r : Fin 8) (z : Fin 1) (s : Fin 32) (l : Fin 128) :
    View.readAt (Elt Ideal) arg12.view (Rect.unit (s := S2x8960x128) (k0_off111 k (BitVec.ofNat 32 (1120 * r.val))) S1x32x128.size (k0_off111_inb k r)).toLoadRect f (ix3 z s l)
      = arg12.view.read (Elt Ideal) f (ix3 (0 : Fin 2) ⟨1120 * r.val + (32 * k.val + s.val), by have := k3_lt k; omega⟩ l) := by
  rw [View.readAt_apply]
  refine congrArg _ (unit_idx (s := S2x8960x128) (k0_off111_inb k r) (k0_off111_eq k r) _ _ ?_)
  intro q; fin_cases q <;> simp [ix3] <;> omega

theorem emb3_0 (r : Fin 8) (z : Fin 1) (s : Fin 32) (l : Fin 128) :
    (Rect.unit (s := S2x8960x128) (k0_off111 k (BitVec.ofNat 32 (1120 * r.val))) S1x32x128.size (k0_off111_inb k r)).emb (ix3 z s l)
      = ix3 (0 : Fin 2) ⟨1120 * r.val + (32 * k.val + s.val), by have := k3_lt k; omega⟩ l := by
  refine unit_emb (s := S2x8960x128) (k0_off111_inb k r) (k0_off111_eq k r) _ _ ?_
  intro q; fin_cases q <;> simp [ix3] <;> omega

theorem mem3_0 (r : Fin 8) (y : S2x8960x128.Idx) :
    y ∈ (Rect.unit (s := S2x8960x128) (k0_off111 k (BitVec.ofNat 32 (1120 * r.val))) S1x32x128.size (k0_off111_inb k r)).set
      ↔ (y 0).val = 0 ∧ (y 1).val / 1120 = r.val ∧ (y 1).val % 1120 / 32 = k.val := by
  have hk := k3_lt k
  have h1 : (y 1).val < 8960 := (y 1).isLt
  have h0 : (y 0).val < 2 := (y 0).isLt
  have h2 : (y 2).val < 128 := (y 2).isLt
  have hr := r.isLt
  rw [Rect.mem_set_unit, k0_off111_eq k r]
  constructor
  · intro H
    have H0 := H 0
    have H1 := H 1
    simp at H0 H1
    omega
  · rintro ⟨e0, e1, e2⟩ q
    fin_cases q <;> simp <;> omega

theorem ld3_1 (r : Fin 8) (z : Fin 1) (s : Fin 32) (l : Fin 128) :
    View.readAt (Elt Ideal) arg12.view (Rect.unit (s := S2x8960x128) (k0_off112 k (BitVec.ofNat 32 (1120 * r.val))) S1x32x128.size (k0_off112_inb k r)).toLoadRect f (ix3 z s l)
      = arg12.view.read (Elt Ideal) f (ix3 (1 : Fin 2) ⟨1120 * r.val + (32 * k.val + s.val), by have := k3_lt k; omega⟩ l) := by
  rw [View.readAt_apply]
  refine congrArg _ (unit_idx (s := S2x8960x128) (k0_off112_inb k r) (k0_off112_eq k r) _ _ ?_)
  intro q; fin_cases q <;> simp [ix3] <;> omega

theorem emb3_1 (r : Fin 8) (z : Fin 1) (s : Fin 32) (l : Fin 128) :
    (Rect.unit (s := S2x8960x128) (k0_off112 k (BitVec.ofNat 32 (1120 * r.val))) S1x32x128.size (k0_off112_inb k r)).emb (ix3 z s l)
      = ix3 (1 : Fin 2) ⟨1120 * r.val + (32 * k.val + s.val), by have := k3_lt k; omega⟩ l := by
  refine unit_emb (s := S2x8960x128) (k0_off112_inb k r) (k0_off112_eq k r) _ _ ?_
  intro q; fin_cases q <;> simp [ix3] <;> omega

theorem mem3_1 (r : Fin 8) (y : S2x8960x128.Idx) :
    y ∈ (Rect.unit (s := S2x8960x128) (k0_off112 k (BitVec.ofNat 32 (1120 * r.val))) S1x32x128.size (k0_off112_inb k r)).set
      ↔ (y 0).val = 1 ∧ (y 1).val / 1120 = r.val ∧ (y 1).val % 1120 / 32 = k.val := by
  have hk := k3_lt k
  have h1 : (y 1).val < 8960 := (y 1).isLt
  have h0 : (y 0).val < 2 := (y 0).isLt
  have h2 : (y 2).val < 128 := (y 2).isLt
  have hr := r.isLt
  rw [Rect.mem_set_unit, k0_off112_eq k r]
  constructor
  · intro H
    have H0 := H 0
    have H1 := H 1
    simp at H0 H1
    omega
  · rintro ⟨e0, e1, e2⟩ q
    fin_cases q <;> simp <;> omega

theorem pay3_0_0 (z : Fin 1) (s : Fin 32) (l : Fin 128) :
    k0_pay255 (trip_k0_t3.sl.v490 arg12 k f) (trip_k0_t3.sl.v494 arg12 k f) (trip_k0_t3.sl.v498 arg12 k f) (trip_k0_t3.sl.v502 arg12 k f) (trip_k0_t3.sl.v506 arg12 k f) (trip_k0_t3.sl.v510 arg12 k f) (trip_k0_t3.sl.v514 arg12 k f) (trip_k0_t3.sl.v518 arg12 k f) (ix3 z s l) = G3 (arg12.view.read (Elt Ideal) f) (ix3 (0 : Fin 2) ⟨1120 * 0 + (32 * k.val + s.val), by have := k3_lt k; omega⟩ l) := by
  refine Eq.trans ?_ ((congrArg (fun g => bfly g 0) (funext fun r => ld3_0 arg12 k f r 0 s l)).trans (G3_at (arg12.view.read (Elt Ideal) f) 0 0 k.val s.val (k3_lt k) s.isLt l).symm)
  generalize hB : (fun g => bfly g 0) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_1 (z : Fin 1) (s : Fin 32) (l : Fin 128) :
    k0_pay256 (trip_k0_t3.sl.v490 arg12 k f) (trip_k0_t3.sl.v494 arg12 k f) (trip_k0_t3.sl.v498 arg12 k f) (trip_k0_t3.sl.v502 arg12 k f) (trip_k0_t3.sl.v506 arg12 k f) (trip_k0_t3.sl.v510 arg12 k f) (trip_k0_t3.sl.v514 arg12 k f) (trip_k0_t3.sl.v518 arg12 k f) (ix3 z s l) = G3 (arg12.view.read (Elt Ideal) f) (ix3 (0 : Fin 2) ⟨1120 * 1 + (32 * k.val + s.val), by have := k3_lt k; omega⟩ l) := by
  refine Eq.trans ?_ ((congrArg (fun g => bfly g 1) (funext fun r => ld3_0 arg12 k f r 0 s l)).trans (G3_at (arg12.view.read (Elt Ideal) f) 0 1 k.val s.val (k3_lt k) s.isLt l).symm)
  generalize hB : (fun g => bfly g 1) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_2 (z : Fin 1) (s : Fin 32) (l : Fin 128) :
    k0_pay257 (trip_k0_t3.sl.v490 arg12 k f) (trip_k0_t3.sl.v494 arg12 k f) (trip_k0_t3.sl.v498 arg12 k f) (trip_k0_t3.sl.v502 arg12 k f) (trip_k0_t3.sl.v506 arg12 k f) (trip_k0_t3.sl.v510 arg12 k f) (trip_k0_t3.sl.v514 arg12 k f) (trip_k0_t3.sl.v518 arg12 k f) (ix3 z s l) = G3 (arg12.view.read (Elt Ideal) f) (ix3 (0 : Fin 2) ⟨1120 * 2 + (32 * k.val + s.val), by have := k3_lt k; omega⟩ l) := by
  refine Eq.trans ?_ ((congrArg (fun g => bfly g 2) (funext fun r => ld3_0 arg12 k f r 0 s l)).trans (G3_at (arg12.view.read (Elt Ideal) f) 0 2 k.val s.val (k3_lt k) s.isLt l).symm)
  generalize hB : (fun g => bfly g 2) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_3 (z : Fin 1) (s : Fin 32) (l : Fin 128) :
    k0_pay259 (trip_k0_t3.sl.r_3 arg12 k f) (ix3 z s l) = G3 (arg12.view.read (Elt Ideal) f) (ix3 (0 : Fin 2) ⟨1120 * 3 + (32 * k.val + s.val), by have := k3_lt k; omega⟩ l) := by
  refine Eq.trans ?_ ((congrArg (fun g => bfly g 3) (funext fun r => ld3_0 arg12 k f r 0 s l)).trans (G3_at (arg12.view.read (Elt Ideal) f) 0 3 k.val s.val (k3_lt k) s.isLt l).symm)
  generalize hB : (fun g => bfly g 3) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_4 (z : Fin 1) (s : Fin 32) (l : Fin 128) :
    k0_pay260 (trip_k0_t3.sl.r arg12 k f) (ix3 z s l) = G3 (arg12.view.read (Elt Ideal) f) (ix3 (0 : Fin 2) ⟨1120 * 4 + (32 * k.val + s.val), by have := k3_lt k; omega⟩ l) := by
  refine Eq.trans ?_ ((congrArg (fun g => bfly g 4) (funext fun r => ld3_0 arg12 k f r 0 s l)).trans (G3_at (arg12.view.read (Elt Ideal) f) 0 4 k.val s.val (k3_lt k) s.isLt l).symm)
  generalize hB : (fun g => bfly g 4) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_5 (z : Fin 1) (s : Fin 32) (l : Fin 128) :
    k0_pay261 (trip_k0_t3.sl.r_1 arg12 k f) (ix3 z s l) = G3 (arg12.view.read (Elt Ideal) f) (ix3 (0 : Fin 2) ⟨1120 * 5 + (32 * k.val + s.val), by have := k3_lt k; omega⟩ l) := by
  refine Eq.trans ?_ ((congrArg (fun g => bfly g 5) (funext fun r => ld3_0 arg12 k f r 0 s l)).trans (G3_at (arg12.view.read (Elt Ideal) f) 0 5 k.val s.val (k3_lt k) s.isLt l).symm)
  generalize hB : (fun g => bfly g 5) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_6 (z : Fin 1) (s : Fin 32) (l : Fin 128) :
    k0_pay262 (trip_k0_t3.sl.r_2 arg12 k f) (ix3 z s l) = G3 (arg12.view.read (Elt Ideal) f) (ix3 (0 : Fin 2) ⟨1120 * 6 + (32 * k.val + s.val), by have := k3_lt k; omega⟩ l) := by
  refine Eq.trans ?_ ((congrArg (fun g => bfly g 6) (funext fun r => ld3_0 arg12 k f r 0 s l)).trans (G3_at (arg12.view.read (Elt Ideal) f) 0 6 k.val s.val (k3_lt k) s.isLt l).symm)
  generalize hB : (fun g => bfly g 6) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_0_7 (z : Fin 1) (s : Fin 32) (l : Fin 128) :
    k0_pay263 (trip_k0_t3.sl.r_4 arg12 k f) (ix3 z s l) = G3 (arg12.view.read (Elt Ideal) f) (ix3 (0 : Fin 2) ⟨1120 * 7 + (32 * k.val + s.val), by have := k3_lt k; omega⟩ l) := by
  refine Eq.trans ?_ ((congrArg (fun g => bfly g 7) (funext fun r => ld3_0 arg12 k f r 0 s l)).trans (G3_at (arg12.view.read (Elt Ideal) f) 0 7 k.val s.val (k3_lt k) s.isLt l).symm)
  generalize hB : (fun g => bfly g 7) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_0 (z : Fin 1) (s : Fin 32) (l : Fin 128) :
    k0_pay297 (trip_k0_t3.sl.r_8 arg12 k f) (trip_k0_t3.sl.r_10 arg12 k f) (trip_k0_t3.sl.r_12 arg12 k f) (ix3 z s l) = G3 (arg12.view.read (Elt Ideal) f) (ix3 (1 : Fin 2) ⟨1120 * 0 + (32 * k.val + s.val), by have := k3_lt k; omega⟩ l) := by
  refine Eq.trans ?_ ((congrArg (fun g => bfly g 0) (funext fun r => ld3_1 arg12 k f r 0 s l)).trans (G3_at (arg12.view.read (Elt Ideal) f) 1 0 k.val s.val (k3_lt k) s.isLt l).symm)
  generalize hB : (fun g => bfly g 0) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_1 (z : Fin 1) (s : Fin 32) (l : Fin 128) :
    k0_pay298 (trip_k0_t3.sl.r_9 arg12 k f) (trip_k0_t3.sl.r_11 arg12 k f) (trip_k0_t3.sl.r_14 arg12 k f) (ix3 z s l) = G3 (arg12.view.read (Elt Ideal) f) (ix3 (1 : Fin 2) ⟨1120 * 1 + (32 * k.val + s.val), by have := k3_lt k; omega⟩ l) := by
  refine Eq.trans ?_ ((congrArg (fun g => bfly g 1) (funext fun r => ld3_1 arg12 k f r 0 s l)).trans (G3_at (arg12.view.read (Elt Ideal) f) 1 1 k.val s.val (k3_lt k) s.isLt l).symm)
  generalize hB : (fun g => bfly g 1) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_2 (z : Fin 1) (s : Fin 32) (l : Fin 128) :
    k0_pay299 (trip_k0_t3.sl.r_8 arg12 k f) (trip_k0_t3.sl.r_10 arg12 k f) (trip_k0_t3.sl.r_13 arg12 k f) (ix3 z s l) = G3 (arg12.view.read (Elt Ideal) f) (ix3 (1 : Fin 2) ⟨1120 * 2 + (32 * k.val + s.val), by have := k3_lt k; omega⟩ l) := by
  refine Eq.trans ?_ ((congrArg (fun g => bfly g 2) (funext fun r => ld3_1 arg12 k f r 0 s l)).trans (G3_at (arg12.view.read (Elt Ideal) f) 1 2 k.val s.val (k3_lt k) s.isLt l).symm)
  generalize hB : (fun g => bfly g 2) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_3 (z : Fin 1) (s : Fin 32) (l : Fin 128) :
    k0_pay300 (trip_k0_t3.sl.r_9 arg12 k f) (trip_k0_t3.sl.r_11 arg12 k f) (trip_k0_t3.sl.r_15 arg12 k f) (ix3 z s l) = G3 (arg12.view.read (Elt Ideal) f) (ix3 (1 : Fin 2) ⟨1120 * 3 + (32 * k.val + s.val), by have := k3_lt k; omega⟩ l) := by
  refine Eq.trans ?_ ((congrArg (fun g => bfly g 3) (funext fun r => ld3_1 arg12 k f r 0 s l)).trans (G3_at (arg12.view.read (Elt Ideal) f) 1 3 k.val s.val (k3_lt k) s.isLt l).symm)
  generalize hB : (fun g => bfly g 3) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_4 (z : Fin 1) (s : Fin 32) (l : Fin 128) :
    k0_pay400 (trip_k0_t3.sl.r_16 arg12 k f) (ix3 z s l) = G3 (arg12.view.read (Elt Ideal) f) (ix3 (1 : Fin 2) ⟨1120 * 4 + (32 * k.val + s.val), by have := k3_lt k; omega⟩ l) := by
  refine Eq.trans ?_ ((congrArg (fun g => bfly g 4) (funext fun r => ld3_1 arg12 k f r 0 s l)).trans (G3_at (arg12.view.read (Elt Ideal) f) 1 4 k.val s.val (k3_lt k) s.isLt l).symm)
  generalize hB : (fun g => bfly g 4) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_5 (z : Fin 1) (s : Fin 32) (l : Fin 128) :
    k0_pay401 (trip_k0_t3.sl.r_17 arg12 k f) (ix3 z s l) = G3 (arg12.view.read (Elt Ideal) f) (ix3 (1 : Fin 2) ⟨1120 * 5 + (32 * k.val + s.val), by have := k3_lt k; omega⟩ l) := by
  refine Eq.trans ?_ ((congrArg (fun g => bfly g 5) (funext fun r => ld3_1 arg12 k f r 0 s l)).trans (G3_at (arg12.view.read (Elt Ideal) f) 1 5 k.val s.val (k3_lt k) s.isLt l).symm)
  generalize hB : (fun g => bfly g 5) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_6 (z : Fin 1) (s : Fin 32) (l : Fin 128) :
    k0_pay402 (trip_k0_t3.sl.r_18 arg12 k f) (ix3 z s l) = G3 (arg12.view.read (Elt Ideal) f) (ix3 (1 : Fin 2) ⟨1120 * 6 + (32 * k.val + s.val), by have := k3_lt k; omega⟩ l) := by
  refine Eq.trans ?_ ((congrArg (fun g => bfly g 6) (funext fun r => ld3_1 arg12 k f r 0 s l)).trans (G3_at (arg12.view.read (Elt Ideal) f) 1 6 k.val s.val (k3_lt k) s.isLt l).symm)
  generalize hB : (fun g => bfly g 6) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

theorem pay3_1_7 (z : Fin 1) (s : Fin 32) (l : Fin 128) :
    k0_pay403 (trip_k0_t3.sl.r_19 arg12 k f) (ix3 z s l) = G3 (arg12.view.read (Elt Ideal) f) (ix3 (1 : Fin 2) ⟨1120 * 7 + (32 * k.val + s.val), by have := k3_lt k; omega⟩ l) := by
  refine Eq.trans ?_ ((congrArg (fun g => bfly g 7) (funext fun r => ld3_1 arg12 k f r 0 s l)).trans (G3_at (arg12.view.read (Elt Ideal) f) 1 7 k.val s.val (k3_lt k) s.isLt l).symm)
  generalize hB : (fun g => bfly g 7) _ = B
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  subst hB
  rfl

variable (acc : FVec Ideal S32x128 .f32 × FVec Ideal S32x128 .f32)

/-- The sixteen stores of a trip agree with the butterfly of the contents the trip finds. -/
theorem trip3_pieces : ∀ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 k acc f, ∀ x : p.1.shape.Idx, p.2 x = G3 (arg12.view.read (Elt Ideal) f) (p.1.emb x) := by
  unfold tripL_k0_t3 trip_k0_t3
  dsimp only
  intro p hp x
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_7 arg12 k f z s l).trans (congrArg (G3 (arg12.view.read (Elt Ideal) f)) (emb3_1 k 7 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_6 arg12 k f z s l).trans (congrArg (G3 (arg12.view.read (Elt Ideal) f)) (emb3_1 k 6 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_5 arg12 k f z s l).trans (congrArg (G3 (arg12.view.read (Elt Ideal) f)) (emb3_1 k 5 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_4 arg12 k f z s l).trans (congrArg (G3 (arg12.view.read (Elt Ideal) f)) (emb3_1 k 4 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_3 arg12 k f z s l).trans (congrArg (G3 (arg12.view.read (Elt Ideal) f)) (emb3_1 k 3 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_2 arg12 k f z s l).trans (congrArg (G3 (arg12.view.read (Elt Ideal) f)) (emb3_1 k 2 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_1 arg12 k f z s l).trans (congrArg (G3 (arg12.view.read (Elt Ideal) f)) (emb3_1 k 1 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_1_0 arg12 k f z s l).trans (congrArg (G3 (arg12.view.read (Elt Ideal) f)) (emb3_1 k 0 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_7 arg12 k f z s l).trans (congrArg (G3 (arg12.view.read (Elt Ideal) f)) (emb3_0 k 7 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_6 arg12 k f z s l).trans (congrArg (G3 (arg12.view.read (Elt Ideal) f)) (emb3_0 k 6 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_5 arg12 k f z s l).trans (congrArg (G3 (arg12.view.read (Elt Ideal) f)) (emb3_0 k 5 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_4 arg12 k f z s l).trans (congrArg (G3 (arg12.view.read (Elt Ideal) f)) (emb3_0 k 4 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_3 arg12 k f z s l).trans (congrArg (G3 (arg12.view.read (Elt Ideal) f)) (emb3_0 k 3 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_2 arg12 k f z s l).trans (congrArg (G3 (arg12.view.read (Elt Ideal) f)) (emb3_0 k 2 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_1 arg12 k f z s l).trans (congrArg (G3 (arg12.view.read (Elt Ideal) f)) (emb3_0 k 1 z s l).symm)
  rcases List.mem_cons.mp hp with rfl | hp
  · obtain ⟨z, s, l, rfl⟩ : ∃ (z : Fin 1) (s : Fin 32) (l : Fin 128), x = ix3 z s l := ⟨x 0, x 1, x 2, eq_ix3 x⟩
    exact (pay3_0_0 arg12 k f z s l).trans (congrArg (G3 (arg12.view.read (Elt Ideal) f)) (emb3_0 k 0 z s l).symm)
  exact absurd hp List.not_mem_nil

/-- A trip stores exactly the rows of its block of 32 in every slab. -/
theorem trip3_mem (y : S2x8960x128.Idx) :
    (∃ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 k acc f, y ∈ p.1.set) ↔ (y 1).val % 1120 / 32 = k.val := by
  have hk := k3_lt k
  have h1 : (y 1).val < 8960 := (y 1).isLt
  have h0 : (y 0).val < 2 := (y 0).isLt
  unfold tripL_k0_t3 trip_k0_t3
  dsimp only
  simp only [List.mem_cons, List.not_mem_nil, or_false, exists_eq_or_imp, exists_eq_left]
  constructor
  · intro H
    rcases H with H | H | H | H | H | H | H | H | H | H | H | H | H | H | H | H
    · exact ((mem3_1 k 7 y).mp H).2.2
    · exact ((mem3_1 k 6 y).mp H).2.2
    · exact ((mem3_1 k 5 y).mp H).2.2
    · exact ((mem3_1 k 4 y).mp H).2.2
    · exact ((mem3_1 k 3 y).mp H).2.2
    · exact ((mem3_1 k 2 y).mp H).2.2
    · exact ((mem3_1 k 1 y).mp H).2.2
    · exact ((mem3_1 k 0 y).mp H).2.2
    · exact ((mem3_0 k 7 y).mp H).2.2
    · exact ((mem3_0 k 6 y).mp H).2.2
    · exact ((mem3_0 k 5 y).mp H).2.2
    · exact ((mem3_0 k 4 y).mp H).2.2
    · exact ((mem3_0 k 3 y).mp H).2.2
    · exact ((mem3_0 k 2 y).mp H).2.2
    · exact ((mem3_0 k 1 y).mp H).2.2
    · exact ((mem3_0 k 0 y).mp H).2.2
  · intro H
    have hh : (y 0).val = 0 ∨ (y 0).val = 1 := by omega
    have ha : (y 1).val / 1120 < 8 := by omega
    obtain ⟨A, hA⟩ : ∃ A : Fin 8, (y 1).val / 1120 = A.val := ⟨⟨_, ha⟩, rfl⟩
    rcases hh with hh | hh
    · fin_cases A
      · exact Or.inr (Or.inr (Or.inr (Or.inr (Or.inr (Or.inr (Or.inr (Or.inr (Or.inr (Or.inr (Or.inr (Or.inr (Or.inr (Or.inr (Or.inr (((mem3_0 k 0 y).mpr ⟨hh, hA, H⟩))))))))))))))))
      · exact Or.inr (Or.inr (Or.inr (Or.inr (Or.inr (Or.inr (Or.inr (Or.inr (Or.inr (Or.inr (Or.inr (Or.inr (Or.inr (Or.inr (Or.inl ((mem3_0 k 1 y).mpr ⟨hh, hA, H⟩)))))))))))))))
      · exact Or.inr (Or.inr (Or.inr (Or.inr (Or.inr (Or.inr (Or.inr (Or.inr (Or.inr (Or.inr (Or.inr (Or.inr (Or.inr (Or.inl ((mem3_0 k 2 y).mpr ⟨hh, hA, H⟩))))))))))))))
      · exact Or.inr (Or.inr (Or.inr (Or.inr (Or.inr (Or.inr (Or.inr (Or.inr (Or.inr (Or.inr (Or.inr (Or.inr (Or.inl ((mem3_0 k 3 y).mpr ⟨hh, hA, H⟩)))))))))))))
      · exact Or.inr (Or.inr (Or.inr (Or.inr (Or.inr (Or.inr (Or.inr (Or.inr (Or.inr (Or.inr (Or.inr (Or.inl ((mem3_0 k 4 y).mpr ⟨hh, hA, H⟩))))))))))))
      · exact Or.inr (Or.inr (Or.inr (Or.inr (Or.inr (Or.inr (Or.inr (Or.inr (Or.inr (Or.inr (Or.inl ((mem3_0 k 5 y).mpr ⟨hh, hA, H⟩)))))))))))
      · exact Or.inr (Or.inr (Or.inr (Or.inr (Or.inr (Or.inr (Or.inr (Or.inr (Or.inr (Or.inl ((mem3_0 k 6 y).mpr ⟨hh, hA, H⟩))))))))))
      · exact Or.inr (Or.inr (Or.inr (Or.inr (Or.inr (Or.inr (Or.inr (Or.inr (Or.inl ((mem3_0 k 7 y).mpr ⟨hh, hA, H⟩)))))))))
    · fin_cases A
      · exact Or.inr (Or.inr (Or.inr (Or.inr (Or.inr (Or.inr (Or.inr (Or.inl ((mem3_1 k 0 y).mpr ⟨hh, hA, H⟩))))))))
      · exact Or.inr (Or.inr (Or.inr (Or.inr (Or.inr (Or.inr (Or.inl ((mem3_1 k 1 y).mpr ⟨hh, hA, H⟩)))))))
      · exact Or.inr (Or.inr (Or.inr (Or.inr (Or.inr (Or.inl ((mem3_1 k 2 y).mpr ⟨hh, hA, H⟩))))))
      · exact Or.inr (Or.inr (Or.inr (Or.inr (Or.inl ((mem3_1 k 3 y).mpr ⟨hh, hA, H⟩)))))
      · exact Or.inr (Or.inr (Or.inr (Or.inl ((mem3_1 k 4 y).mpr ⟨hh, hA, H⟩))))
      · exact Or.inr (Or.inr (Or.inl ((mem3_1 k 5 y).mpr ⟨hh, hA, H⟩)))
      · exact Or.inr (Or.inl ((mem3_1 k 6 y).mpr ⟨hh, hA, H⟩))
      · exact Or.inl ((mem3_1 k 7 y).mpr ⟨hh, hA, H⟩)

/-- The running maximum of half 0 after a trip lies under a bound exactly if it did before and the trip's values do. -/
theorem trip3_max_0 (s : Fin 32) (l : Fin 128) (b : EReal) :
    (tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 k acc f).1 (ix2 s l) ≤ b ↔ acc.1 (ix2 s l) ≤ b ∧ ∀ a : Fin 8,
      FloatOps.absf (F := Ideal) (φ := .f32) (G3 (arg12.view.read (Elt Ideal) f) (ix3 (0 : Fin 2) ⟨1120 * a.val + (32 * k.val + s.val), by have := k3_lt k; omega⟩ l)) ≤ b := by
  have e : ∀ a : Fin 8, G3 (arg12.view.read (Elt Ideal) f) (ix3 (0 : Fin 2) ⟨1120 * a.val + (32 * k.val + s.val), by have := k3_lt k; omega⟩ l)
      = bfly (fun r => View.readAt (Elt Ideal) arg12.view (Rect.unit (s := S2x8960x128) (k0_off111 k (BitVec.ofNat 32 (1120 * r.val))) S1x32x128.size (k0_off111_inb k r)).toLoadRect f (ix3 0 s l)) a := fun a =>
    (G3_at (arg12.view.read (Elt Ideal) f) 0 a k.val s.val (k3_lt k) s.isLt l).trans (congrArg (fun g => bfly g a) (funext fun r => (ld3_0 arg12 k f r 0 s l).symm))
  simp only [e]
  generalize hB : bfly _ = B
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  simp only [max_le_iff, Fin.forall_fin_succ, IsEmpty.forall_iff, and_true, and_assoc]
  subst hB
  exact Iff.rfl

/-- The running maximum of half 1 after a trip lies under a bound exactly if it did before and the trip's values do. -/
theorem trip3_max_1 (s : Fin 32) (l : Fin 128) (b : EReal) :
    (tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 k acc f).2 (ix2 s l) ≤ b ↔ acc.2 (ix2 s l) ≤ b ∧ ∀ a : Fin 8,
      FloatOps.absf (F := Ideal) (φ := .f32) (G3 (arg12.view.read (Elt Ideal) f) (ix3 (1 : Fin 2) ⟨1120 * a.val + (32 * k.val + s.val), by have := k3_lt k; omega⟩ l)) ≤ b := by
  have e : ∀ a : Fin 8, G3 (arg12.view.read (Elt Ideal) f) (ix3 (1 : Fin 2) ⟨1120 * a.val + (32 * k.val + s.val), by have := k3_lt k; omega⟩ l)
      = bfly (fun r => View.readAt (Elt Ideal) arg12.view (Rect.unit (s := S2x8960x128) (k0_off112 k (BitVec.ofNat 32 (1120 * r.val))) S1x32x128.size (k0_off112_inb k r)).toLoadRect f (ix3 0 s l)) a := fun a =>
    (G3_at (arg12.view.read (Elt Ideal) f) 1 a k.val s.val (k3_lt k) s.isLt l).trans (congrArg (fun g => bfly g a) (funext fun r => (ld3_1 arg12 k f r 0 s l).symm))
  simp only [e]
  generalize hB : bfly _ = B
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.v490, trip_k0_t3.sl.v494, trip_k0_t3.sl.v498, trip_k0_t3.sl.v502, trip_k0_t3.sl.v506, trip_k0_t3.sl.v510, trip_k0_t3.sl.v514, trip_k0_t3.sl.v518]
  unfold_payloads
  pointwise []
  simp only [max_le_iff, Fin.forall_fin_succ, IsEmpty.forall_iff, and_true, and_assoc]
  subst hB
  exact Iff.rfl

theorem G3_congr (R R' : S2x8960x128.Idx → EReal) (y : S2x8960x128.Idx)
    (hR : ∀ z : S2x8960x128.Idx, (z 1).val % 1120 = (y 1).val % 1120 → R z = R' z) : G3 R y = G3 R' y := by
  unfold G3
  refine congrArg (fun g => bfly g _) (funext fun a => hR _ ?_)
  show (1120 * a.val + (y 1).val % 1120) % 1120 = _
  omega

/-- Before trip `n` the rows of the blocks done hold the butterfly of the contents at entry, the others those contents,
and each running maximum is the least bound of its entry value and of the values done. -/
theorem loop3_inv (n : ℕ) (hn : n ≤ 35) :
    (∀ y, arg12.view.read (Elt Ideal) (arg12.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc n).2) y
        = if (y 1).val % 1120 / 32 < n then G3 (arg12.view.read (Elt Ideal) f) y else arg12.view.read (Elt Ideal) f y)
    ∧ (∀ (s : Fin 32) (l : Fin 128) (b : EReal), (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc n).1.1 (ix2 s l) ≤ b
        ↔ acc.1 (ix2 s l) ≤ b ∧ ∀ j : Fin 35, j.val < n → ∀ a : Fin 8, FloatOps.absf (F := Ideal) (φ := .f32) (G3 (arg12.view.read (Elt Ideal) f) (ix3 (0 : Fin 2) ⟨1120 * a.val + (32 * j.val + s.val), by omega⟩ l)) ≤ b)
    ∧ (∀ (s : Fin 32) (l : Fin 128) (b : EReal), (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc n).1.2 (ix2 s l) ≤ b
        ↔ acc.2 (ix2 s l) ≤ b ∧ ∀ j : Fin 35, j.val < n → ∀ a : Fin 8, FloatOps.absf (F := Ideal) (φ := .f32) (G3 (arg12.view.read (Elt Ideal) f) (ix3 (1 : Fin 2) ⟨1120 * a.val + (32 * j.val + s.val), by omega⟩ l)) ≤ b) := by
  induction n with
  | zero =>
    refine ⟨fun y => ?_, fun s l b => ?_, fun s l b => ?_⟩
    · rw [if_neg (by omega)]; rfl
    · exact ⟨fun h => ⟨h, fun j hj => absurd hj (by omega)⟩, fun h => h.1⟩
    · exact ⟨fun h => ⟨h, fun j hj => absurd hj (by omega)⟩, fun h => h.1⟩
  | succ n ih =>
    obtain ⟨ih1, ih2, ih3⟩ := ih (by omega)
    have hk : n < k0_t3_loop.trips := by rw [k0_t3_trips]; omega
    have hs := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc ⟨n, hk⟩
    dsimp only at hs
    have hG : ∀ y : S2x8960x128.Idx, (y 1).val % 1120 / 32 = n →
        G3 (arg12.view.read (Elt Ideal) (arg12.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc n).2)) y = G3 (arg12.view.read (Elt Ideal) f) y := fun y hy =>
      G3_congr _ _ y fun z hz => by rw [ih1, if_neg (by omega)]
    rw [hs]
    refine ⟨fun y => ?_, fun s l b => ?_, fun s l b => ?_⟩
    · dsimp only
      rw [View.writes_append]
      by_cases hy : (y 1).val % 1120 / 32 = n
      · rw [if_pos (by omega), View.read_writes_apply_of_pieces arg12.view _ _ _
          (trip3_pieces 𝒱 c bd i arg1 harg1 arg2 harg2 arg3 harg3 arg4 harg4 arg5 harg5 arg6 harg6 arg7 harg7 arg8 harg8 arg9 harg9 arg10 harg10 arg11 harg11 arg12 harg12 arg13 harg13 arg0 v418 ⟨n, hk⟩ _ _) y ((trip3_mem 𝒱 c bd i arg1 harg1 arg2 harg2 arg3 harg3 arg4 harg4 arg5 harg5 arg6 harg6 arg7 harg7 arg8 harg8 arg9 harg9 arg10 harg10 arg11 harg11 arg12 harg12 arg13 harg13 arg0 v418 ⟨n, hk⟩ _ _ y).mpr hy)]
        exact hG y hy
      · rw [View.read_writes_apply_of_forall_not_mem arg12.view _ y _ fun p hp hm =>
          hy ((trip3_mem 𝒱 c bd i arg1 harg1 arg2 harg2 arg3 harg3 arg4 harg4 arg5 harg5 arg6 harg6 arg7 harg7 arg8 harg8 arg9 harg9 arg10 harg10 arg11 harg11 arg12 harg12 arg13 harg13 arg0 v418 ⟨n, hk⟩ _ _ y).mp ⟨p, hp, hm⟩), ih1]
        exact if_congr (by omega) rfl rfl
    · refine (trip3_max_0 𝒱 c bd i arg1 harg1 arg2 harg2 arg3 harg3 arg4 harg4 arg5 harg5 arg6 harg6 arg7 harg7 arg8 harg8 arg9 harg9 arg10 harg10 arg11 harg11 arg12 harg12 arg13 harg13 arg0 v418 ⟨n, hk⟩ _ _ s l b).trans ?_
      rw [ih2 s l b, and_assoc]
      refine and_congr_right fun _ => ?_
      have hrow : ∀ a : Fin 8, G3 (arg12.view.read (Elt Ideal) (arg12.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc n).2)) (ix3 (0 : Fin 2) ⟨1120 * a.val + (32 * n + s.val), by omega⟩ l)
          = G3 (arg12.view.read (Elt Ideal) f) (ix3 (0 : Fin 2) ⟨1120 * a.val + (32 * n + s.val), by omega⟩ l) := fun a => hG _ (by
        show (1120 * a.val + (32 * n + s.val)) % 1120 / 32 = n
        omega)
      constructor
      · rintro ⟨H1, H2⟩ j hj a
        rcases Nat.lt_succ_iff_lt_or_eq.mp hj with h' | h'
        · exact H1 j h' a
        · have := H2 a
          rw [hrow a] at this
          have hj' : j = ⟨n, by omega⟩ := Fin.ext h'
          rw [hj']
          exact this
      · intro H
        refine ⟨fun j hj a => H j (by omega) a, fun a => ?_⟩
        rw [hrow a]
        exact H ⟨n, by omega⟩ (by show n < n + 1; omega) a
    · refine (trip3_max_1 𝒱 c bd i arg1 harg1 arg2 harg2 arg3 harg3 arg4 harg4 arg5 harg5 arg6 harg6 arg7 harg7 arg8 harg8 arg9 harg9 arg10 harg10 arg11 harg11 arg12 harg12 arg13 harg13 arg0 v418 ⟨n, hk⟩ _ _ s l b).trans ?_
      rw [ih3 s l b, and_assoc]
      refine and_congr_right fun _ => ?_
      have hrow : ∀ a : Fin 8, G3 (arg12.view.read (Elt Ideal) (arg12.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc n).2)) (ix3 (1 : Fin 2) ⟨1120 * a.val + (32 * n + s.val), by omega⟩ l)
          = G3 (arg12.view.read (Elt Ideal) f) (ix3 (1 : Fin 2) ⟨1120 * a.val + (32 * n + s.val), by omega⟩ l) := fun a => hG _ (by
        show (1120 * a.val + (32 * n + s.val)) % 1120 / 32 = n
        omega)
      constructor
      · rintro ⟨H1, H2⟩ j hj a
        rcases Nat.lt_succ_iff_lt_or_eq.mp hj with h' | h'
        · exact H1 j h' a
        · have := H2 a
          rw [hrow a] at this
          have hj' : j = ⟨n, by omega⟩ := Fin.ext h'
          rw [hj']
          exact this
      · intro H
        refine ⟨fun j hj a => H j (by omega) a, fun a => ?_⟩
        rw [hrow a]
        exact H ⟨n, by omega⟩ (by show n < n + 1; omega) a

/-- After the second butterfly loop every row holds the butterfly of the contents at entry. -/
theorem loop3_read (y : S2x8960x128.Idx) :
    arg12.view.read (Elt Ideal) (arg12.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc k0_t3_loop.trips).2) y = G3 (arg12.view.read (Elt Ideal) f) y := by
  have h1 : (y 1).val < 8960 := (y 1).isLt
  rw [k0_t3_trips, (loop3_inv 𝒱 c bd i arg1 harg1 arg2 harg2 arg3 harg3 arg4 harg4 arg5 harg5 arg6 harg6 arg7 harg7 arg8 harg8 arg9 harg9 arg10 harg10 arg11 harg11 arg12 harg12 arg13 harg13 arg0 v418 f acc 35 le_rfl).1 y, if_pos (by omega)]

/-- After the second butterfly loop the running maximum of half 0 is the least bound of its entry value and of the
absolute values of its residue of rows. -/
theorem loop3_max_0 (s : Fin 32) (l : Fin 128) (b : EReal) : (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc k0_t3_loop.trips).1.1 (ix2 s l) ≤ b
      ↔ acc.1 (ix2 s l) ≤ b ∧ ∀ r : Fin 8960, r.val % 32 = s.val →
        FloatOps.absf (F := Ideal) (φ := .f32) (G3 (arg12.view.read (Elt Ideal) f) (ix3 (0 : Fin 2) r l)) ≤ b := by
  rw [k0_t3_trips, (loop3_inv 𝒱 c bd i arg1 harg1 arg2 harg2 arg3 harg3 arg4 harg4 arg5 harg5 arg6 harg6 arg7 harg7 arg8 harg8 arg9 harg9 arg10 harg10 arg11 harg11 arg12 harg12 arg13 harg13 arg0 v418 f acc 35 le_rfl).2.1 s l b]
  refine and_congr_right fun _ => ⟨fun H r hr => ?_, fun H j _ a => H _ ?_⟩
  · have := H ⟨r.val % 1120 / 32, by omega⟩ (by show r.val % 1120 / 32 < 35; omega) ⟨r.val / 1120, by omega⟩
    have e : (⟨1120 * (r.val / 1120) + (32 * (r.val % 1120 / 32) + s.val), by omega⟩ : Fin 8960) = r := Fin.ext (by
      show 1120 * (r.val / 1120) + (32 * (r.val % 1120 / 32) + s.val) = r.val
      omega)
    dsimp only at this
    rwa [e] at this
  · show (1120 * a.val + (32 * j.val + s.val)) % 32 = s.val
    omega

/-- After the second butterfly loop the running maximum of half 1 is the least bound of its entry value and of the
absolute values of its residue of rows. -/
theorem loop3_max_1 (s : Fin 32) (l : Fin 128) (b : EReal) : (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f acc k0_t3_loop.trips).1.2 (ix2 s l) ≤ b
      ↔ acc.2 (ix2 s l) ≤ b ∧ ∀ r : Fin 8960, r.val % 32 = s.val →
        FloatOps.absf (F := Ideal) (φ := .f32) (G3 (arg12.view.read (Elt Ideal) f) (ix3 (1 : Fin 2) r l)) ≤ b := by
  rw [k0_t3_trips, (loop3_inv 𝒱 c bd i arg1 harg1 arg2 harg2 arg3 harg3 arg4 harg4 arg5 harg5 arg6 harg6 arg7 harg7 arg8 harg8 arg9 harg9 arg10 harg10 arg11 harg11 arg12 harg12 arg13 harg13 arg0 v418 f acc 35 le_rfl).2.2 s l b]
  refine and_congr_right fun _ => ⟨fun H r hr => ?_, fun H j _ a => H _ ?_⟩
  · have := H ⟨r.val % 1120 / 32, by omega⟩ (by show r.val % 1120 / 32 < 35; omega) ⟨r.val / 1120, by omega⟩
    have e : (⟨1120 * (r.val / 1120) + (32 * (r.val % 1120 / 32) + s.val), by omega⟩ : Fin 8960) = r := Fin.ext (by
      show 1120 * (r.val / 1120) + (32 * (r.val % 1120 / 32) + s.val) = r.val
      omega)
    dsimp only at this
    rwa [e] at this
  · show (1120 * a.val + (32 * j.val + s.val)) % 32 = s.val
    omega

end
end Cert.KernelIdeal.Val
-- ==== Proof.KernelIdeal.T4.lean ====
/- The quantisation loop: the codes and the right factor of the product. -/
module

public import proofs.«01_k».proof.Proof.Gen.KernelIdeal.Loops
public import proofs.«01_k».proof.Proof.KernelIdeal.Tools
public import proofs.«01_k».proof.Proof.Spec

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen

open Cert.Spec

theorem pay302_apply (m : FVec Ideal S1x256 .f32) (v : Vec Ideal S1x128x128 .f32) (a b : Fin 128) :
    k0_pay302 (F := Ideal) m v (ix2 a b) = kq (v (ix3 0 a b)) (m (ix2 0 ⟨b.val, by omega⟩)) := by
  pointwise [k0_pay302]; rfl

theorem pay305_apply (m : FVec Ideal S1x256 .f32) (v : Vec Ideal S1x128x128 .f32) (a b : Fin 128) :
    k0_pay305 (F := Ideal) m v (ix2 a b) = kq (v (ix3 0 a b)) (m (ix2 0 ⟨128 + b.val, by omega⟩)) := by
  pointwise [k0_pay305]; rfl

theorem pay303_apply (m : FVec Ideal S1x256 .f32) (v : Vec Ideal S1x128x128 .f32) (a b : Fin 128) :
    k0_pay303 (F := Ideal) m v (ix2 a b) = kq (v (ix3 0 a b)) (m (ix2 0 ⟨b.val, by omega⟩)) := by
  pointwise [k0_pay303]; exact pay302_apply m v a b

theorem pay306_apply (m : FVec Ideal S1x256 .f32) (v : Vec Ideal S1x128x128 .f32) (a b : Fin 128) :
    k0_pay306 (F := Ideal) m v (ix2 a b) = kq (v (ix3 0 a b)) (m (ix2 0 ⟨128 + b.val, by omega⟩)) := by
  pointwise [k0_pay306]; exact pay305_apply m v a b

theorem pay304_apply (m : FVec Ideal S1x256 .f32) (v : Vec Ideal S1x128x128 .f32) (z : Fin 1) (a b : Fin 128) :
    k0_pay304 (F := Ideal) m v (ix3 z a b) = FloatOps.fptosi (F := Ideal) (φ := .bf16) 8 (kq (v (ix3 0 b a)) (m (ix2 0 ⟨a.val, by omega⟩))) := by
  pointwise [k0_pay304]; rw [pay302_apply]

theorem pay407_apply (w : FVec Ideal S128x128 .f32) (z : Fin 1) (a b : Fin 128) :
    k0_pay407 (F := Ideal) w (ix3 z a b) = FloatOps.fptosi (F := Ideal) (φ := .bf16) 8 (w (ix2 b a)) := by
  pointwise [k0_pay407]

theorem ix3_ext {A B C : ℕ} {a a' : Fin A} {b b' : Fin B} {c c' : Fin C} (ha : a.val = a'.val) (hb : b.val = b'.val)
    (hc : c.val = c'.val) : (ix3 a b c) = ix3 a' b' c' := by
  rw [Fin.ext ha, Fin.ext hb, Fin.ext hc]

section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
variable (arg0 : BitVec 32) (v418 : FVec Ideal S256x128 .bf16) (v426_0 v426_1 : FVec Ideal S32x128 .f32)
  (X : BufTy.Contents (Elt Ideal) arg12.view.ty)

/-- The code of row `y` and token `t` from the contents of the rotated array. -/
def code4 (R : S2x8960x128.Idx → EReal) (m : FVec Ideal S1x256 .f32) (r : Fin 8960) (t : Fin 256) : EReal :=
  kq (R (ix3 ⟨t.val / 128, by omega⟩ r ⟨t.val % 128, by omega⟩)) (m (ix2 0 t))

theorem k0_t4_trips : k0_t4_loop.trips = 70 := by decide +kernel

/-- Each store of a trip into the codes holds the codes of its rows and tokens. -/
theorem trip4_codes (k : Fin k0_t4_loop.trips) : ∀ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k).1, ∀ x : p.1.shape.Idx,
    p.2 x = FloatOps.fptosi (F := Ideal) (φ := .bf16) 8 (code4 (arg12.view.read (Elt Ideal) X) (k0_pay406 v426_0 v426_1) (p.1.emb x 2) (p.1.emb x 1)) := by
  have hk : k.val < 70 := lt_of_lt_of_eq k.isLt k0_t4_trips
  unfold tripL_k0_t4 trip_k0_t4
  dsimp only
  intro p hp x
  rcases List.mem_cons.mp hp with rfl | hp
  · dsimp only at x ⊢
    obtain ⟨z, a, b, rfl⟩ : ∃ (z : Fin 1) (a b : Fin 128), x = ix3 z a b := ⟨x 0, x 1, x 2, eq_ix3 x⟩
    have he := unit_emb (s := S1x256x8960) (k0_off119_inb k) (k0_off119_eq k) (ix3 z a b) (ix3 0 ⟨128 + a.val, by omega⟩ ⟨128 * k.val + b.val, by omega⟩)
      (by intro q; fin_cases q <;> simp [ix3])
    have hl := unit_idx (s := S2x8960x128) (k0_off117_inb k) (k0_off117_eq k) (ix3 0 b a : S1x128x128.Idx) (ix3 ⟨1, by omega⟩ ⟨128 * k.val + b.val, by omega⟩ a)
      (by intro q; fin_cases q <;> simp [ix3])
    rw [he, pay407_apply, trip_k0_t4.sl.r, pay305_apply, View.readAt_apply]
    refine congrArg (FloatOps.fptosi (F := Ideal) (φ := .bf16) 8) (congrArg₂ kq ?_ ?_)
    · refine congrArg (arg12.view.read (Elt Ideal) X) (hl.trans ?_)
      exact ix3_ext (by simp [ix3] <;> omega) rfl (by simp [ix3] <;> omega)
    · exact congrArg _ (congrArg₂ ix2 rfl (Fin.ext (by simp [ix3])))

  rcases List.mem_cons.mp hp with rfl | hp
  · dsimp only at x ⊢
    obtain ⟨z, a, b, rfl⟩ : ∃ (z : Fin 1) (a b : Fin 128), x = ix3 z a b := ⟨x 0, x 1, x 2, eq_ix3 x⟩
    have he := unit_emb (s := S1x256x8960) (k0_off116_inb k) (k0_off116_eq k) (ix3 z a b) (ix3 0 ⟨0 + a.val, by omega⟩ ⟨128 * k.val + b.val, by omega⟩)
      (by intro q; fin_cases q <;> simp [ix3])
    have hl := unit_idx (s := S2x8960x128) (k0_off114_inb k) (k0_off114_eq k) (ix3 0 b a : S1x128x128.Idx) (ix3 ⟨0, by omega⟩ ⟨128 * k.val + b.val, by omega⟩ a)
      (by intro q; fin_cases q <;> simp [ix3])
    rw [he, pay304_apply, View.readAt_apply]
    refine congrArg (FloatOps.fptosi (F := Ideal) (φ := .bf16) 8) (congrArg₂ kq ?_ ?_)
    · refine congrArg (arg12.view.read (Elt Ideal) X) (hl.trans ?_)
      exact ix3_ext (by simp [ix3] <;> omega) rfl (by simp [ix3] <;> omega)
    · exact congrArg _ (congrArg₂ ix2 rfl (Fin.ext (by simp [ix3])))

  · exact absurd hp List.not_mem_nil

/-- Each store of a trip into the right factor of the product holds the codes before their conversion. -/
theorem trip4_fact (k : Fin k0_t4_loop.trips) : ∀ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k).2, ∀ x : p.1.shape.Idx,
    p.2 x = code4 (arg12.view.read (Elt Ideal) X) (k0_pay406 v426_0 v426_1) (p.1.emb x 0) (p.1.emb x 1) := by
  have hk : k.val < 70 := lt_of_lt_of_eq k.isLt k0_t4_trips
  unfold tripL_k0_t4 trip_k0_t4
  dsimp only
  intro p hp x
  rcases List.mem_cons.mp hp with rfl | hp
  · dsimp only at x ⊢
    obtain ⟨b, a, rfl⟩ : ∃ (b a : Fin 128), x = ix2 b a := ⟨x 0, x 1, eq_ix2 x⟩
    have he := unit_emb (s := S8960x256) (k0_off118_inb k) (k0_off118_eq k) (ix2 b a) (ix2 ⟨128 * k.val + b.val, by omega⟩ ⟨128 + a.val, by omega⟩)
      (by intro q; fin_cases q <;> simp [ix2])
    have hl := unit_idx (s := S2x8960x128) (k0_off117_inb k) (k0_off117_eq k) (ix3 0 b a : S1x128x128.Idx) (ix3 ⟨1, by omega⟩ ⟨128 * k.val + b.val, by omega⟩ a)
      (by intro q; fin_cases q <;> simp [ix3])
    rw [he, pay306_apply, View.readAt_apply]
    refine congrArg₂ kq ?_ ?_
    · refine congrArg (arg12.view.read (Elt Ideal) X) (hl.trans ?_)
      exact ix3_ext (by simp [ix2] <;> omega) rfl (by simp [ix2] <;> omega)
    · exact congrArg _ (congrArg₂ ix2 rfl (Fin.ext (by simp [ix2])))

  rcases List.mem_cons.mp hp with rfl | hp
  · dsimp only at x ⊢
    obtain ⟨b, a, rfl⟩ : ∃ (b a : Fin 128), x = ix2 b a := ⟨x 0, x 1, eq_ix2 x⟩
    have he := unit_emb (s := S8960x256) (k0_off115_inb k) (k0_off115_eq k) (ix2 b a) (ix2 ⟨128 * k.val + b.val, by omega⟩ ⟨0 + a.val, by omega⟩)
      (by intro q; fin_cases q <;> simp [ix2])
    have hl := unit_idx (s := S2x8960x128) (k0_off114_inb k) (k0_off114_eq k) (ix3 0 b a : S1x128x128.Idx) (ix3 ⟨0, by omega⟩ ⟨128 * k.val + b.val, by omega⟩ a)
      (by intro q; fin_cases q <;> simp [ix3])
    rw [he, pay303_apply, View.readAt_apply]
    refine congrArg₂ kq ?_ ?_
    · refine congrArg (arg12.view.read (Elt Ideal) X) (hl.trans ?_)
      exact ix3_ext (by simp [ix2] <;> omega) rfl (by simp [ix2] <;> omega)
    · exact congrArg _ (congrArg₂ ix2 rfl (Fin.ext (by simp [ix2])))

  · exact absurd hp List.not_mem_nil

theorem trip4_codes_cover (t : Fin 256) (r : Fin 8960) :
    ∃ k : Fin k0_t4_loop.trips, ∃ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k).1, (ix3 0 t r : S1x256x8960.Idx) ∈ p.1.set := by
  have h70 := k0_t4_trips
  refine ⟨⟨r.val / 128, by omega⟩, ?_⟩
  unfold tripL_k0_t4 trip_k0_t4
  dsimp only
  by_cases h : t.val < 128
  · refine ⟨_, List.mem_cons_of_mem _ List.mem_cons_self, mem_unit (s := S1x256x8960) (k0_off116_inb ⟨r.val / 128, by omega⟩) (k0_off116_eq _) _ ?_⟩
    intro q; fin_cases q <;> simp [ix3] <;> omega
  · refine ⟨_, List.mem_cons_self, mem_unit (s := S1x256x8960) (k0_off119_inb ⟨r.val / 128, by omega⟩) (k0_off119_eq _) _ ?_⟩
    intro q; fin_cases q <;> simp [ix3] <;> omega

theorem trip4_fact_cover (r : Fin 8960) (t : Fin 256) :
    ∃ k : Fin k0_t4_loop.trips, ∃ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k).2, (ix2 r t : S8960x256.Idx) ∈ p.1.set := by
  have h70 := k0_t4_trips
  refine ⟨⟨r.val / 128, by omega⟩, ?_⟩
  unfold tripL_k0_t4 trip_k0_t4
  dsimp only
  by_cases h : t.val < 128
  · refine ⟨_, List.mem_cons_of_mem _ List.mem_cons_self, mem_unit (s := S8960x256) (k0_off115_inb ⟨r.val / 128, by omega⟩) (k0_off115_eq _) _ ?_⟩
    intro q; fin_cases q <;> simp [ix2] <;> omega
  · refine ⟨_, List.mem_cons_self, mem_unit (s := S8960x256) (k0_off118_inb ⟨r.val / 128, by omega⟩) (k0_off118_eq _) _ ?_⟩
    intro q; fin_cases q <;> simp [ix2] <;> omega

/-- After the quantisation loop the codes buffer holds, at token `t` and row `r`, the code of the rotated value. -/
theorem loop4_codes (f7 : BufTy.Contents (Elt Ideal) arg7.view.ty) (t : Fin 256) (r : Fin 8960) :
    arg7.view.read (Elt Ideal) (arg7.view.writes (Elt Ideal) f7 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k0_t4_loop.trips).1) (ix3 0 t r)
      = FloatOps.fptosi (F := Ideal) (φ := .bf16) 8 (code4 (arg12.view.read (Elt Ideal) X) (k0_pay406 v426_0 v426_1) r t) :=
  read_trips arg7.view f7 (fun n => (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X n).1) (fun k => (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k).1) rfl
    (fun k => congrArg Prod.fst (pb_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k))
    (fun y => FloatOps.fptosi (F := Ideal) (φ := .bf16) 8 (code4 (arg12.view.read (Elt Ideal) X) (k0_pay406 v426_0 v426_1) (y 2) (y 1)))
    (fun k => trip4_codes 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k) (ix3 0 t r)
    (trip4_codes_cover 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X t r)

/-- After the quantisation loop the right factor of the product holds, at row `r` and token `t`, the clipped rounded value. -/
theorem loop4_fact (f13 : BufTy.Contents (Elt Ideal) arg13.view.ty) (r : Fin 8960) (t : Fin 256) :
    arg13.view.read (Elt Ideal) (arg13.view.writes (Elt Ideal) f13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k0_t4_loop.trips).2) (ix2 r t)
      = code4 (arg12.view.read (Elt Ideal) X) (k0_pay406 v426_0 v426_1) r t :=
  read_trips arg13.view f13 (fun n => (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X n).2) (fun k => (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k).2) rfl
    (fun k => congrArg Prod.snd (pb_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k))
    (fun y => code4 (arg12.view.read (Elt Ideal) X) (k0_pay406 v426_0 v426_1) (y 0) (y 1))
    (fun k => trip4_fact 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X k) (ix2 r t)
    (trip4_fact_cover 𝒱 c bd i arg1 harg1 arg2 harg2 arg3 harg3 arg4 harg4 arg5 harg5 arg6 harg6 arg7 harg7 arg8 harg8 arg9 harg9 arg10 harg10 arg11 harg11 arg12 harg12 arg13 harg13 arg0 v418 v426_0 v426_1 X r t)

end
end Cert.KernelIdeal.Val
-- ==== Proof.KernelIdeal.Rows.lean ====
/- What the body leaves of the rotated rows: the running maximum, the scale and the codes of a token. -/
module

public import proofs.«01_k».proof.Proof.Gen.KernelIdeal.Loops
public import proofs.«01_k».proof.Proof.KernelIdeal.T1
public import proofs.«01_k».proof.Proof.KernelIdeal.T2
public import proofs.«01_k».proof.Proof.KernelIdeal.T3
public import proofs.«01_k».proof.Proof.KernelIdeal.T4

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen
open Cert.Spec

/-- The rotated value of row `r` and token `t`, before the scaling. -/
def Rk (H : Fin 140 → Fin 140 → EReal) (X : S8960x256.Idx → EReal) (r : Fin 8960) (t : Fin 256) : EReal :=
  G3 (G2 H X) (ix3 ⟨t.val / 128, by omega⟩ r ⟨t.val % 128, by omega⟩)

/-- The scale of token `t`, the multiplier of its row and the codes of its row. -/
def Sk (H : Fin 140 → Fin 140 → EReal) (X : S8960x256.Idx → EReal) (t : Fin 256) : EReal := scaleOf (amaxOf (fun r => Rk H X r t) * cInv)
def Mk (H : Fin 140 → Fin 140 → EReal) (X : S8960x256.Idx → EReal) (t : Fin 256) : EReal := Ideal.div cInv (Sk H X t)
def Qk (H : Fin 140 → Fin 140 → EReal) (X : S8960x256.Idx → EReal) (r : Fin 8960) (t : Fin 256) : EReal := kq (Rk H X r t) (Mk H X t)

theorem neg_inf_f32 : Ideal.ofBits .f32 0xFF800000#32 = ⊥ := by simp [Ideal.ofBits, Ideal.ieee]

theorem pay399_at (s : Fin 32) (l : Fin 128) : k0_pay399 (F := Ideal) (ix2 s l) = 0 := by
  unfold_payloads
  pointwise []

section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
variable (arg0 : BitVec 32) (v418 : FVec Ideal S256x128 .bf16) (H : Fin 140 → Fin 140 → EReal) (X : S8960x256.Idx → EReal)

theorem max_bound_0 (f : BufTy.Contents (Elt Ideal) arg12.view.ty) (hf : ∀ y, arg12.view.read (Elt Ideal) f y = G2 H X y) (s : Fin 32) (l : Fin 128) (b : EReal) :
    (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 (ix2 s l) ≤ b ↔ 0 ≤ b ∧ ∀ r : Fin 8960, r.val % 32 = s.val → max (G3 (G2 H X) (ix3 (0 : Fin 2) r l)) (-(G3 (G2 H X) (ix3 (0 : Fin 2) r l))) ≤ b := by
  have := loop3_max_0 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) s l b
  rw [funext hf] at this
  refine this.trans (and_congr_left fun _ => ?_)
  exact iff_of_eq (congrArg (· ≤ b) (pay399_at s l))

theorem max_bound_1 (f : BufTy.Contents (Elt Ideal) arg12.view.ty) (hf : ∀ y, arg12.view.read (Elt Ideal) f y = G2 H X y) (s : Fin 32) (l : Fin 128) (b : EReal) :
    (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 (ix2 s l) ≤ b ↔ 0 ≤ b ∧ ∀ r : Fin 8960, r.val % 32 = s.val → max (G3 (G2 H X) (ix3 (1 : Fin 2) r l)) (-(G3 (G2 H X) (ix3 (1 : Fin 2) r l))) ≤ b := by
  have := loop3_max_1 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) s l b
  rw [funext hf] at this
  refine this.trans (and_congr_left fun _ => ?_)
  exact iff_of_eq (congrArg (· ≤ b) (pay399_at s l))

theorem abs_nonneg' (x : EReal) : 0 ≤ max x (-x) := by
  rcases le_total 0 x with h | h
  · exact le_max_of_le_left h
  · exact le_max_of_le_right (by simpa using EReal.neg_le_neg_iff.mpr h)

/-- The maximum the kernel folds over the 32 residues is the largest absolute value of the token's row. -/
theorem amax_eq (v0 v1 : FVec Ideal S32x128 .f32)
    (h0 : ∀ s l b, v0 (ix2 s l) ≤ b ↔ 0 ≤ b ∧ ∀ r : Fin 8960, r.val % 32 = s.val → max (G3 (G2 H X) (ix3 (0 : Fin 2) r l)) (-(G3 (G2 H X) (ix3 (0 : Fin 2) r l))) ≤ b)
    (h1 : ∀ s l b, v1 (ix2 s l) ≤ b ↔ 0 ≤ b ∧ ∀ r : Fin 8960, r.val % 32 = s.val → max (G3 (G2 H X) (ix3 (1 : Fin 2) r l)) (-(G3 (G2 H X) (ix3 (1 : Fin 2) r l))) ≤ b) (t : Fin 256) :
    Finset.fold max (Ideal.ofBits FTy.f32 4286578688#32)
      (fun x : Fin 32 => if h : t.val < 128 then v0 (ix2 x ⟨t.val, h⟩) else v1 (ix2 x ⟨t.val - 128, by omega⟩)) Finset.univ
      = amaxOf (fun r => Rk H X r t) := by
  refine eq_of_forall_ge_iff fun b => ?_
  rw [Finset.fold_max_le, amaxOf, Finset.sup_le_iff, show Ideal.ofBits FTy.f32 4286578688#32 = ⊥ from neg_inf_f32]
  by_cases ht : t.val < 128
  · have e : ∀ r, Rk H X r t = G3 (G2 H X) (ix3 (0 : Fin 2) r ⟨t.val, ht⟩) := fun r => by
      unfold Rk
      rw [ix3_ext (a := (⟨t.val / 128, _⟩ : Fin 2)) (a' := (0 : Fin 2)) (b := r) (b' := r) (c := (⟨t.val % 128, _⟩ : Fin 128)) (c' := ⟨t.val, ht⟩) (by simp; omega) rfl (by simp; omega)]
    simp only [dif_pos ht, e, h0]
    constructor
    · rintro ⟨_, h⟩ r _
      exact (h ⟨r.val % 32, by omega⟩ (Finset.mem_univ _)).2 r rfl
    · intro h
      refine ⟨bot_le, fun s _ => ⟨(abs_nonneg' _).trans (h ⟨0, by omega⟩ (Finset.mem_univ _)), fun r _ => h r (Finset.mem_univ _)⟩⟩
  · have e : ∀ r, Rk H X r t = G3 (G2 H X) (ix3 (1 : Fin 2) r ⟨t.val - 128, by omega⟩) := fun r => by
      unfold Rk
      rw [ix3_ext (a := (⟨t.val / 128, _⟩ : Fin 2)) (a' := (1 : Fin 2)) (b := r) (b' := r) (c := (⟨t.val % 128, _⟩ : Fin 128)) (c' := ⟨t.val - 128, by omega⟩) (by simp; omega) rfl (by simp; omega)]
    simp only [dif_neg ht, e, h1]
    constructor
    · rintro ⟨_, h⟩ r _
      exact (h ⟨r.val % 32, by omega⟩ (Finset.mem_univ _)).2 r rfl
    · intro h
      refine ⟨bot_le, fun s _ => ⟨(abs_nonneg' _).trans (h ⟨0, by omega⟩ (Finset.mem_univ _)), fun r _ => h r (Finset.mem_univ _)⟩⟩

theorem scale_pay (f : BufTy.Contents (Elt Ideal) arg12.view.ty) (hf : ∀ y, arg12.view.read (Elt Ideal) f y = G2 H X y) (t : Fin 256) : k0_pay405 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 (ix2 0 t) = Sk H X t := by
  have e := amax_eq H X (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 (max_bound_0 𝒱 c bd i arg1 harg1 arg2 harg2 arg3 harg3 arg4 harg4 arg5 harg5 arg6 harg6 arg7 harg7 arg8 harg8 arg9 harg9 arg10 harg10 arg11 harg11 arg12 harg12 arg13 harg13 arg0 v418 H X f hf) (max_bound_1 𝒱 c bd i arg1 harg1 arg2 harg2 arg3 harg3 arg4 harg4 arg5 harg5 arg6 harg6 arg7 harg7 arg8 harg8 arg9 harg9 arg10 harg10 arg11 harg11 arg12 harg12 arg13 harg13 arg0 v418 H X f hf) t
  generalize (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 = v0 at e ⊢
  generalize (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 = v1 at e ⊢
  unfold Sk scaleOf cInv cSev
  rw [← e]
  unfold_payloads
  pointwise []

theorem mul_pay (f : BufTy.Contents (Elt Ideal) arg12.view.ty) (hf : ∀ y, arg12.view.read (Elt Ideal) f y = G2 H X y) (t : Fin 256) : k0_pay406 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 (ix2 0 t) = Mk H X t := by
  have e := amax_eq H X (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 (max_bound_0 𝒱 c bd i arg1 harg1 arg2 harg2 arg3 harg3 arg4 harg4 arg5 harg5 arg6 harg6 arg7 harg7 arg8 harg8 arg9 harg9 arg10 harg10 arg11 harg11 arg12 harg12 arg13 harg13 arg0 v418 H X f hf) (max_bound_1 𝒱 c bd i arg1 harg1 arg2 harg2 arg3 harg3 arg4 harg4 arg5 harg5 arg6 harg6 arg7 harg7 arg8 harg8 arg9 harg9 arg10 harg10 arg11 harg11 arg12 harg12 arg13 harg13 arg0 v418 H X f hf) t
  generalize (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.1 = v0 at e ⊢
  generalize (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 f (k0_pay399, k0_pay399) k0_t3_loop.trips).1.2 = v1 at e ⊢
  unfold Mk Sk scaleOf cInv cSev
  rw [← e]
  unfold_payloads
  pointwise []

theorem rows2 (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (y : S2x8960x128.Idx) : arg12.view.read (Elt Ideal) (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) y = G2 H X y := by
  have e : arg11.view.read (Elt Ideal) X11 = X := funext fun y => by rw [eq_ix2 y]; exact h11 _ _
  rw [← e]
  exact loop2_read 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 H h10 f11 y

/-- The scale row the body stores. -/
theorem scale_final (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (t : Fin 256) : k0_pay405 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (ix2 0 t) = Sk H X t :=
  scale_pay 𝒱 c bd i arg1 harg1 arg2 harg2 arg3 harg3 arg4 harg4 arg5 harg5 arg6 harg6 arg7 harg7 arg8 harg8 arg9 harg9 arg10 harg10 arg11 harg11 arg12 harg12 arg13 harg13 arg0 v418 H X _ (rows2 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11) t

theorem rows3 (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (y : S2x8960x128.Idx) :
    arg12.view.read (Elt Ideal) (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) y = G3 (G2 H X) y := by
  rw [View.writes_append, loop3_read 𝒱 c bd i arg1 harg1 arg2 harg2 arg3 harg3 arg4 harg4 arg5 harg5 arg6 harg6 arg7 harg7 arg8 harg8 arg9 harg9 arg10 harg10 arg11 harg11 arg12 harg12 arg13 harg13 arg0 v418 _ (k0_pay399, k0_pay399) y, funext (rows2 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11)]

/-- The codes the body stores. -/
theorem codes_final (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (f7 : BufTy.Contents (Elt Ideal) arg7.view.ty) (t : Fin 256) (r : Fin 8960) :
    arg7.view.read (Elt Ideal) (arg7.view.writes (Elt Ideal) f7 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) k0_t4_loop.trips).1) (ix3 0 t r) = FloatOps.fptosi (F := Ideal) (φ := .bf16) 8 (Qk H X r t) := by
  have e := funext (rows3 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11)
  have em := mul_pay 𝒱 c bd i arg1 harg1 arg2 harg2 arg3 harg3 arg4 harg4 arg5 harg5 arg6 harg6 arg7 harg7 arg8 harg8 arg9 harg9 arg10 harg10 arg11 harg11 arg12 harg12 arg13 harg13 arg0 v418 H X _ (rows2 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11) t
  rw [loop4_codes 𝒱 c bd i arg1 harg1 arg2 harg2 arg3 harg3 arg4 harg4 arg5 harg5 arg6 harg6 arg7 harg7 arg8 harg8 arg9 harg9 arg10 harg10 arg11 harg11 arg12 harg12 arg13 harg13 arg0 v418 _ _ _ f7 t r, e]
  unfold code4 Qk Rk
  rw [em]

/-- The right factor of the product. -/
theorem fact_final (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (f13 : BufTy.Contents (Elt Ideal) arg13.view.ty) (r : Fin 8960) (t : Fin 256) :
    arg13.view.read (Elt Ideal) (arg13.view.writes (Elt Ideal) f13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) k0_t4_loop.trips).2) (ix2 r t) = Qk H X r t := by
  have e := funext (rows3 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11)
  have em := mul_pay 𝒱 c bd i arg1 harg1 arg2 harg2 arg3 harg3 arg4 harg4 arg5 harg5 arg6 harg6 arg7 harg7 arg8 harg8 arg9 harg9 arg10 harg10 arg11 harg11 arg12 harg12 arg13 harg13 arg0 v418 H X _ (rows2 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11) t
  rw [loop4_fact 𝒱 c bd i arg1 harg1 arg2 harg2 arg3 harg3 arg4 harg4 arg5 harg5 arg6 harg6 arg7 harg7 arg8 harg8 arg9 harg9 arg10 harg10 arg11 harg11 arg12 harg12 arg13 harg13 arg0 v418 _ _ _ f13 r t, e]
  unfold code4 Qk Rk
  rw [em]
end
end Cert.KernelIdeal.Val
-- ==== Proof.KernelIdeal.Fills.lean ====
/- The transposed tokens and the shifted copies of the matrix, as the straight-line stores leave them. -/
module

public import proofs.«01_k».proof.Proof.Gen.KernelIdeal.Loops
public import proofs.«01_k».proof.Proof.KernelIdeal.BodyB
public import proofs.«01_k».proof.Proof.KernelIdeal.T2
public import proofs.«01_k».proof.Proof.KernelIdeal.T1
public import Idealize.ShloMosaic.Lib.WritesUnit

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen Cert.KernelIdeal.Run

theorem forall_ix2' {P : S128x256.Idx → Prop} (h : ∀ (a : Fin 128) (b : Fin 256), P (ix2 a b)) : ∀ x, P x := fun x => by
  rw [eq_ix2 x]
  exact h (x 0) (x 1)

/-- The tokens' rows, transposed. -/
def Xt (x0 : S1x256x8960.Idx → EReal) (y : S8960x256.Idx) : EReal := x0 (ix3 0 (y 1) (y 0))

section
variable (c : Dev nD) (arg1 : Memref sig .tc .vmem S1x256x8960 .bf16) (harg1 : arg1.IsWhole)
  (arg2 : Memref sig .tc .vmem S140x140 .f32) (harg2 : arg2.IsWhole)
  (arg10 : Memref sig .tc .vmem S4x144x160 .bf16) (arg11 : Memref sig .tc .vmem S8960x256 .bf16)
  (x0 : Vec Ideal S1x256x8960 .bf16) (x1 : Vec Ideal S140x140 .f32)

theorem xt_piece (j : Fin 70) (offL : Fin 3 → ℕ) (offS : Fin 2 → ℕ) (inbL : ∀ a, offL a + S1x256x128.size a ≤ S1x256x8960.size a) (inbS : ∀ a, offS a + S128x256.size a ≤ S8960x256.size a)
    (hL : offL = ![0, 0, 128 * j.val]) (hS : offS = ![128 * j.val, 0]) (a : Fin 128) (b : Fin 256) :
    View.readAt (Elt Ideal) arg1.view (Rect.unit (s := S1x256x8960) offL S1x256x128.size inbL).toLoadRect (harg1.unread x0) (ix3 (0 : Fin 1) b a)
      = Xt x0 ((Rect.unit (s := S8960x256) offS S128x256.size inbS).emb (ix2 a b)) := by
  rw [unit_emb (s := S8960x256) inbS hS (ix2 a b) (ix2 ⟨128 * j.val + a.val, by omega⟩ b) (by intro q; fin_cases q <;> simp [ix2])]
  rw [View.readAt_apply, harg1.read_unread,
    unit_idx (s := S1x256x8960) inbL hL (ix3 0 b a) (ix3 0 b ⟨128 * j.val + a.val, by omega⟩) (by intro q; fin_cases q <;> simp [ix3])]
  rfl

theorem xt_pieces : ∀ p ∈ body_B.sl.H10_70 (F := Ideal) c arg1 harg1 x0, ∀ x : p.1.shape.Idx, p.2 x = Xt x0 (p.1.emb x) := by
  unfold body_B.sl.H10_70
  refine List.forall_mem_cons.mpr ⟨forall_ix2' fun a b => Eq.trans ?_ (xt_piece arg1 harg1 x0 69 ![0, 0, 8832] ![8832, 0] inb_S1x256x8960_S1x256x128_0_0_8832 inb_S8960x256_S128x256_8832_0 rfl rfl a b), ?_⟩
  rotate_left
  refine List.forall_mem_cons.mpr ⟨forall_ix2' fun a b => Eq.trans ?_ (xt_piece arg1 harg1 x0 68 ![0, 0, 8704] ![8704, 0] inb_S1x256x8960_S1x256x128_0_0_8704 inb_S8960x256_S128x256_8704_0 rfl rfl a b), ?_⟩
  rotate_left
  refine List.forall_mem_cons.mpr ⟨forall_ix2' fun a b => Eq.trans ?_ (xt_piece arg1 harg1 x0 67 ![0, 0, 8576] ![8576, 0] inb_S1x256x8960_S1x256x128_0_0_8576 inb_S8960x256_S128x256_8576_0 rfl rfl a b), ?_⟩
  rotate_left
  refine List.forall_mem_cons.mpr ⟨forall_ix2' fun a b => Eq.trans ?_ (xt_piece arg1 harg1 x0 66 ![0, 0, 8448] ![8448, 0] inb_S1x256x8960_S1x256x128_0_0_8448 inb_S8960x256_S128x256_8448_0 rfl rfl a b), ?_⟩
  rotate_left
  refine List.forall_mem_cons.mpr ⟨forall_ix2' fun a b => Eq.trans ?_ (xt_piece arg1 harg1 x0 65 ![0, 0, 8320] ![8320, 0] inb_S1x256x8960_S1x256x128_0_0_8320 inb_S8960x256_S128x256_8320_0 rfl rfl a b), ?_⟩
  rotate_left
  refine List.forall_mem_cons.mpr ⟨forall_ix2' fun a b => Eq.trans ?_ (xt_piece arg1 harg1 x0 64 ![0, 0, 8192] ![8192, 0] inb_S1x256x8960_S1x256x128_0_0_8192 inb_S8960x256_S128x256_8192_0 rfl rfl a b), ?_⟩
  rotate_left
  refine List.forall_mem_cons.mpr ⟨forall_ix2' fun a b => Eq.trans ?_ (xt_piece arg1 harg1 x0 63 ![0, 0, 8064] ![8064, 0] inb_S1x256x8960_S1x256x128_0_0_8064 inb_S8960x256_S128x256_8064_0 rfl rfl a b), ?_⟩
  rotate_left
  refine List.forall_mem_cons.mpr ⟨forall_ix2' fun a b => Eq.trans ?_ (xt_piece arg1 harg1 x0 62 ![0, 0, 7936] ![7936, 0] inb_S1x256x8960_S1x256x128_0_0_7936 inb_S8960x256_S128x256_7936_0 rfl rfl a b), ?_⟩
  rotate_left
  refine List.forall_mem_cons.mpr ⟨forall_ix2' fun a b => Eq.trans ?_ (xt_piece arg1 harg1 x0 61 ![0, 0, 7808] ![7808, 0] inb_S1x256x8960_S1x256x128_0_0_7808 inb_S8960x256_S128x256_7808_0 rfl rfl a b), ?_⟩
  rotate_left
  refine List.forall_mem_cons.mpr ⟨forall_ix2' fun a b => Eq.trans ?_ (xt_piece arg1 harg1 x0 60 ![0, 0, 7680] ![7680, 0] inb_S1x256x8960_S1x256x128_0_0_7680 inb_S8960x256_S128x256_7680_0 rfl rfl a b), ?_⟩
  rotate_left
  refine List.forall_mem_cons.mpr ⟨forall_ix2' fun a b => Eq.trans ?_ (xt_piece arg1 harg1 x0 59 ![0, 0, 7552] ![7552, 0] inb_S1x256x8960_S1x256x128_0_0_7552 inb_S8960x256_S128x256_7552_0 rfl rfl a b), ?_⟩
  rotate_left
  refine List.forall_mem_cons.mpr ⟨forall_ix2' fun a b => Eq.trans ?_ (xt_piece arg1 harg1 x0 58 ![0, 0, 7424] ![7424, 0] inb_S1x256x8960_S1x256x128_0_0_7424 inb_S8960x256_S128x256_7424_0 rfl rfl a b), ?_⟩
  rotate_left
  refine List.forall_mem_cons.mpr ⟨forall_ix2' fun a b => Eq.trans ?_ (xt_piece arg1 harg1 x0 57 ![0, 0, 7296] ![7296, 0] inb_S1x256x8960_S1x256x128_0_0_7296 inb_S8960x256_S128x256_7296_0 rfl rfl a b), ?_⟩
  rotate_left
  refine List.forall_mem_cons.mpr ⟨forall_ix2' fun a b => Eq.trans ?_ (xt_piece arg1 harg1 x0 56 ![0, 0, 7168] ![7168, 0] inb_S1x256x8960_S1x256x128_0_0_7168 inb_S8960x256_S128x256_7168_0 rfl rfl a b), ?_⟩
  rotate_left
  refine List.forall_mem_cons.mpr ⟨forall_ix2' fun a b => Eq.trans ?_ (xt_piece arg1 harg1 x0 55 ![0, 0, 7040] ![7040, 0] inb_S1x256x8960_S1x256x128_0_0_7040 inb_S8960x256_S128x256_7040_0 rfl rfl a b), ?_⟩
  rotate_left
  refine List.forall_mem_cons.mpr ⟨forall_ix2' fun a b => Eq.trans ?_ (xt_piece arg1 harg1 x0 54 ![0, 0, 6912] ![6912, 0] inb_S1x256x8960_S1x256x128_0_0_6912 inb_S8960x256_S128x256_6912_0 rfl rfl a b), ?_⟩
  rotate_left
  refine List.forall_mem_cons.mpr ⟨forall_ix2' fun a b => Eq.trans ?_ (xt_piece arg1 harg1 x0 53 ![0, 0, 6784] ![6784, 0] inb_S1x256x8960_S1x256x128_0_0_6784 inb_S8960x256_S128x256_6784_0 rfl rfl a b), ?_⟩
  rotate_left
  refine List.forall_mem_cons.mpr ⟨forall_ix2' fun a b => Eq.trans ?_ (xt_piece arg1 harg1 x0 52 ![0, 0, 6656] ![6656, 0] inb_S1x256x8960_S1x256x128_0_0_6656 inb_S8960x256_S128x256_6656_0 rfl rfl a b), ?_⟩
  rotate_left
  refine List.forall_mem_cons.mpr ⟨forall_ix2' fun a b => Eq.trans ?_ (xt_piece arg1 harg1 x0 51 ![0, 0, 6528] ![6528, 0] inb_S1x256x8960_S1x256x128_0_0_6528 inb_S8960x256_S128x256_6528_0 rfl rfl a b), ?_⟩
  rotate_left
  refine List.forall_mem_cons.mpr ⟨forall_ix2' fun a b => Eq.trans ?_ (xt_piece arg1 harg1 x0 50 ![0, 0, 6400] ![6400, 0] inb_S1x256x8960_S1x256x128_0_0_6400 inb_S8960x256_S128x256_6400_0 rfl rfl a b), ?_⟩
  rotate_left
  refine List.forall_mem_cons.mpr ⟨forall_ix2' fun a b => Eq.trans ?_ (xt_piece arg1 harg1 x0 49 ![0, 0, 6272] ![6272, 0] inb_S1x256x8960_S1x256x128_0_0_6272 inb_S8960x256_S128x256_6272_0 rfl rfl a b), ?_⟩
  rotate_left
  refine List.forall_mem_cons.mpr ⟨forall_ix2' fun a b => Eq.trans ?_ (xt_piece arg1 harg1 x0 48 ![0, 0, 6144] ![6144, 0] inb_S1x256x8960_S1x256x128_0_0_6144 inb_S8960x256_S128x256_6144_0 rfl rfl a b), ?_⟩
  rotate_left
  refine List.forall_mem_cons.mpr ⟨forall_ix2' fun a b => Eq.trans ?_ (xt_piece arg1 harg1 x0 47 ![0, 0, 6016] ![6016, 0] inb_S1x256x8960_S1x256x128_0_0_6016 inb_S8960x256_S128x256_6016_0 rfl rfl a b), ?_⟩
  rotate_left
  refine List.forall_mem_cons.mpr ⟨forall_ix2' fun a b => Eq.trans ?_ (xt_piece arg1 harg1 x0 46 ![0, 0, 5888] ![5888, 0] inb_S1x256x8960_S1x256x128_0_0_5888 inb_S8960x256_S128x256_5888_0 rfl rfl a b), ?_⟩
  rotate_left
  refine List.forall_mem_cons.mpr ⟨forall_ix2' fun a b => Eq.trans ?_ (xt_piece arg1 harg1 x0 45 ![0, 0, 5760] ![5760, 0] inb_S1x256x8960_S1x256x128_0_0_5760 inb_S8960x256_S128x256_5760_0 rfl rfl a b), ?_⟩
  rotate_left
  refine List.forall_mem_cons.mpr ⟨forall_ix2' fun a b => Eq.trans ?_ (xt_piece arg1 harg1 x0 44 ![0, 0, 5632] ![5632, 0] inb_S1x256x8960_S1x256x128_0_0_5632 inb_S8960x256_S128x256_5632_0 rfl rfl a b), ?_⟩
  rotate_left
  refine List.forall_mem_cons.mpr ⟨forall_ix2' fun a b => Eq.trans ?_ (xt_piece arg1 harg1 x0 43 ![0, 0, 5504] ![5504, 0] inb_S1x256x8960_S1x256x128_0_0_5504 inb_S8960x256_S128x256_5504_0 rfl rfl a b), ?_⟩
  rotate_left
  refine List.forall_mem_cons.mpr ⟨forall_ix2' fun a b => Eq.trans ?_ (xt_piece arg1 harg1 x0 42 ![0, 0, 5376] ![5376, 0] inb_S1x256x8960_S1x256x128_0_0_5376 inb_S8960x256_S128x256_5376_0 rfl rfl a b), ?_⟩
  rotate_left
  refine List.forall_mem_cons.mpr ⟨forall_ix2' fun a b => Eq.trans ?_ (xt_piece arg1 harg1 x0 41 ![0, 0, 5248] ![5248, 0] inb_S1x256x8960_S1x256x128_0_0_5248 inb_S8960x256_S128x256_5248_0 rfl rfl a b), ?_⟩
  rotate_left
  refine List.forall_mem_cons.mpr ⟨forall_ix2' fun a b => Eq.trans ?_ (xt_piece arg1 harg1 x0 40 ![0, 0, 5120] ![5120, 0] inb_S1x256x8960_S1x256x128_0_0_5120 inb_S8960x256_S128x256_5120_0 rfl rfl a b), ?_⟩
  rotate_left
  refine List.forall_mem_cons.mpr ⟨forall_ix2' fun a b => Eq.trans ?_ (xt_piece arg1 harg1 x0 39 ![0, 0, 4992] ![4992, 0] inb_S1x256x8960_S1x256x128_0_0_4992 inb_S8960x256_S128x256_4992_0 rfl rfl a b), ?_⟩
  rotate_left
  refine List.forall_mem_cons.mpr ⟨forall_ix2' fun a b => Eq.trans ?_ (xt_piece arg1 harg1 x0 38 ![0, 0, 4864] ![4864, 0] inb_S1x256x8960_S1x256x128_0_0_4864 inb_S8960x256_S128x256_4864_0 rfl rfl a b), ?_⟩
  rotate_left
  refine List.forall_mem_cons.mpr ⟨forall_ix2' fun a b => Eq.trans ?_ (xt_piece arg1 harg1 x0 37 ![0, 0, 4736] ![4736, 0] inb_S1x256x8960_S1x256x128_0_0_4736 inb_S8960x256_S128x256_4736_0 rfl rfl a b), ?_⟩
  rotate_left
  refine List.forall_mem_cons.mpr ⟨forall_ix2' fun a b => Eq.trans ?_ (xt_piece arg1 harg1 x0 36 ![0, 0, 4608] ![4608, 0] inb_S1x256x8960_S1x256x128_0_0_4608 inb_S8960x256_S128x256_4608_0 rfl rfl a b), ?_⟩
  rotate_left
  refine List.forall_mem_cons.mpr ⟨forall_ix2' fun a b => Eq.trans ?_ (xt_piece arg1 harg1 x0 35 ![0, 0, 4480] ![4480, 0] inb_S1x256x8960_S1x256x128_0_0_4480 inb_S8960x256_S128x256_4480_0 rfl rfl a b), ?_⟩
  rotate_left
  refine List.forall_mem_cons.mpr ⟨forall_ix2' fun a b => Eq.trans ?_ (xt_piece arg1 harg1 x0 34 ![0, 0, 4352] ![4352, 0] inb_S1x256x8960_S1x256x128_0_0_4352 inb_S8960x256_S128x256_4352_0 rfl rfl a b), ?_⟩
  rotate_left
  refine List.forall_mem_cons.mpr ⟨forall_ix2' fun a b => Eq.trans ?_ (xt_piece arg1 harg1 x0 33 ![0, 0, 4224] ![4224, 0] inb_S1x256x8960_S1x256x128_0_0_4224 inb_S8960x256_S128x256_4224_0 rfl rfl a b), ?_⟩
  rotate_left
  refine List.forall_mem_cons.mpr ⟨forall_ix2' fun a b => Eq.trans ?_ (xt_piece arg1 harg1 x0 32 ![0, 0, 4096] ![4096, 0] inb_S1x256x8960_S1x256x128_0_0_4096 inb_S8960x256_S128x256_4096_0 rfl rfl a b), ?_⟩
  rotate_left
  refine List.forall_mem_cons.mpr ⟨forall_ix2' fun a b => Eq.trans ?_ (xt_piece arg1 harg1 x0 31 ![0, 0, 3968] ![3968, 0] inb_S1x256x8960_S1x256x128_0_0_3968 inb_S8960x256_S128x256_3968_0 rfl rfl a b), ?_⟩
  rotate_left
  refine List.forall_mem_cons.mpr ⟨forall_ix2' fun a b => Eq.trans ?_ (xt_piece arg1 harg1 x0 30 ![0, 0, 3840] ![3840, 0] inb_S1x256x8960_S1x256x128_0_0_3840 inb_S8960x256_S128x256_3840_0 rfl rfl a b), ?_⟩
  rotate_left
  refine List.forall_mem_cons.mpr ⟨forall_ix2' fun a b => Eq.trans ?_ (xt_piece arg1 harg1 x0 29 ![0, 0, 3712] ![3712, 0] inb_S1x256x8960_S1x256x128_0_0_3712 inb_S8960x256_S128x256_3712_0 rfl rfl a b), ?_⟩
  rotate_left
  refine List.forall_mem_cons.mpr ⟨forall_ix2' fun a b => Eq.trans ?_ (xt_piece arg1 harg1 x0 28 ![0, 0, 3584] ![3584, 0] inb_S1x256x8960_S1x256x128_0_0_3584 inb_S8960x256_S128x256_3584_0 rfl rfl a b), ?_⟩
  rotate_left
  refine List.forall_mem_cons.mpr ⟨forall_ix2' fun a b => Eq.trans ?_ (xt_piece arg1 harg1 x0 27 ![0, 0, 3456] ![3456, 0] inb_S1x256x8960_S1x256x128_0_0_3456 inb_S8960x256_S128x256_3456_0 rfl rfl a b), ?_⟩
  rotate_left
  refine List.forall_mem_cons.mpr ⟨forall_ix2' fun a b => Eq.trans ?_ (xt_piece arg1 harg1 x0 26 ![0, 0, 3328] ![3328, 0] inb_S1x256x8960_S1x256x128_0_0_3328 inb_S8960x256_S128x256_3328_0 rfl rfl a b), ?_⟩
  rotate_left
  refine List.forall_mem_cons.mpr ⟨forall_ix2' fun a b => Eq.trans ?_ (xt_piece arg1 harg1 x0 25 ![0, 0, 3200] ![3200, 0] inb_S1x256x8960_S1x256x128_0_0_3200 inb_S8960x256_S128x256_3200_0 rfl rfl a b), ?_⟩
  rotate_left
  refine List.forall_mem_cons.mpr ⟨forall_ix2' fun a b => Eq.trans ?_ (xt_piece arg1 harg1 x0 24 ![0, 0, 3072] ![3072, 0] inb_S1x256x8960_S1x256x128_0_0_3072 inb_S8960x256_S128x256_3072_0 rfl rfl a b), ?_⟩
  rotate_left
  refine List.forall_mem_cons.mpr ⟨forall_ix2' fun a b => Eq.trans ?_ (xt_piece arg1 harg1 x0 23 ![0, 0, 2944] ![2944, 0] inb_S1x256x8960_S1x256x128_0_0_2944 inb_S8960x256_S128x256_2944_0 rfl rfl a b), ?_⟩
  rotate_left
  refine List.forall_mem_cons.mpr ⟨forall_ix2' fun a b => Eq.trans ?_ (xt_piece arg1 harg1 x0 22 ![0, 0, 2816] ![2816, 0] inb_S1x256x8960_S1x256x128_0_0_2816 inb_S8960x256_S128x256_2816_0 rfl rfl a b), ?_⟩
  rotate_left
  refine List.forall_mem_cons.mpr ⟨forall_ix2' fun a b => Eq.trans ?_ (xt_piece arg1 harg1 x0 21 ![0, 0, 2688] ![2688, 0] inb_S1x256x8960_S1x256x128_0_0_2688 inb_S8960x256_S128x256_2688_0 rfl rfl a b), ?_⟩
  rotate_left
  refine List.forall_mem_cons.mpr ⟨forall_ix2' fun a b => Eq.trans ?_ (xt_piece arg1 harg1 x0 20 ![0, 0, 2560] ![2560, 0] inb_S1x256x8960_S1x256x128_0_0_2560 inb_S8960x256_S128x256_2560_0 rfl rfl a b), ?_⟩
  rotate_left
  refine List.forall_mem_cons.mpr ⟨forall_ix2' fun a b => Eq.trans ?_ (xt_piece arg1 harg1 x0 19 ![0, 0, 2432] ![2432, 0] inb_S1x256x8960_S1x256x128_0_0_2432 inb_S8960x256_S128x256_2432_0 rfl rfl a b), ?_⟩
  rotate_left
  refine List.forall_mem_cons.mpr ⟨forall_ix2' fun a b => Eq.trans ?_ (xt_piece arg1 harg1 x0 18 ![0, 0, 2304] ![2304, 0] inb_S1x256x8960_S1x256x128_0_0_2304 inb_S8960x256_S128x256_2304_0 rfl rfl a b), ?_⟩
  rotate_left
  refine List.forall_mem_cons.mpr ⟨forall_ix2' fun a b => Eq.trans ?_ (xt_piece arg1 harg1 x0 17 ![0, 0, 2176] ![2176, 0] inb_S1x256x8960_S1x256x128_0_0_2176 inb_S8960x256_S128x256_2176_0 rfl rfl a b), ?_⟩
  rotate_left
  refine List.forall_mem_cons.mpr ⟨forall_ix2' fun a b => Eq.trans ?_ (xt_piece arg1 harg1 x0 16 ![0, 0, 2048] ![2048, 0] inb_S1x256x8960_S1x256x128_0_0_2048 inb_S8960x256_S128x256_2048_0 rfl rfl a b), ?_⟩
  rotate_left
  refine List.forall_mem_cons.mpr ⟨forall_ix2' fun a b => Eq.trans ?_ (xt_piece arg1 harg1 x0 15 ![0, 0, 1920] ![1920, 0] inb_S1x256x8960_S1x256x128_0_0_1920 inb_S8960x256_S128x256_1920_0 rfl rfl a b), ?_⟩
  rotate_left
  refine List.forall_mem_cons.mpr ⟨forall_ix2' fun a b => Eq.trans ?_ (xt_piece arg1 harg1 x0 14 ![0, 0, 1792] ![1792, 0] inb_S1x256x8960_S1x256x128_0_0_1792 inb_S8960x256_S128x256_1792_0 rfl rfl a b), ?_⟩
  rotate_left
  refine List.forall_mem_cons.mpr ⟨forall_ix2' fun a b => Eq.trans ?_ (xt_piece arg1 harg1 x0 13 ![0, 0, 1664] ![1664, 0] inb_S1x256x8960_S1x256x128_0_0_1664 inb_S8960x256_S128x256_1664_0 rfl rfl a b), ?_⟩
  rotate_left
  refine List.forall_mem_cons.mpr ⟨forall_ix2' fun a b => Eq.trans ?_ (xt_piece arg1 harg1 x0 12 ![0, 0, 1536] ![1536, 0] inb_S1x256x8960_S1x256x128_0_0_1536 inb_S8960x256_S128x256_1536_0 rfl rfl a b), ?_⟩
  rotate_left
  refine List.forall_mem_cons.mpr ⟨forall_ix2' fun a b => Eq.trans ?_ (xt_piece arg1 harg1 x0 11 ![0, 0, 1408] ![1408, 0] inb_S1x256x8960_S1x256x128_0_0_1408 inb_S8960x256_S128x256_1408_0 rfl rfl a b), ?_⟩
  rotate_left
  refine List.forall_mem_cons.mpr ⟨forall_ix2' fun a b => Eq.trans ?_ (xt_piece arg1 harg1 x0 10 ![0, 0, 1280] ![1280, 0] inb_S1x256x8960_S1x256x128_0_0_1280 inb_S8960x256_S128x256_1280_0 rfl rfl a b), ?_⟩
  rotate_left
  refine List.forall_mem_cons.mpr ⟨forall_ix2' fun a b => Eq.trans ?_ (xt_piece arg1 harg1 x0 9 ![0, 0, 1152] ![1152, 0] inb_S1x256x8960_S1x256x128_0_0_1152 inb_S8960x256_S128x256_1152_0 rfl rfl a b), ?_⟩
  rotate_left
  refine List.forall_mem_cons.mpr ⟨forall_ix2' fun a b => Eq.trans ?_ (xt_piece arg1 harg1 x0 8 ![0, 0, 1024] ![1024, 0] inb_S1x256x8960_S1x256x128_0_0_1024 inb_S8960x256_S128x256_1024_0 rfl rfl a b), ?_⟩
  rotate_left
  refine List.forall_mem_cons.mpr ⟨forall_ix2' fun a b => Eq.trans ?_ (xt_piece arg1 harg1 x0 7 ![0, 0, 896] ![896, 0] inb_S1x256x8960_S1x256x128_0_0_896 inb_S8960x256_S128x256_896_0 rfl rfl a b), ?_⟩
  rotate_left
  refine List.forall_mem_cons.mpr ⟨forall_ix2' fun a b => Eq.trans ?_ (xt_piece arg1 harg1 x0 6 ![0, 0, 768] ![768, 0] inb_S1x256x8960_S1x256x128_0_0_768 inb_S8960x256_S128x256_768_0 rfl rfl a b), ?_⟩
  rotate_left
  refine List.forall_mem_cons.mpr ⟨forall_ix2' fun a b => Eq.trans ?_ (xt_piece arg1 harg1 x0 5 ![0, 0, 640] ![640, 0] inb_S1x256x8960_S1x256x128_0_0_640 inb_S8960x256_S128x256_640_0 rfl rfl a b), ?_⟩
  rotate_left
  refine List.forall_mem_cons.mpr ⟨forall_ix2' fun a b => Eq.trans ?_ (xt_piece arg1 harg1 x0 4 ![0, 0, 512] ![512, 0] inb_S1x256x8960_S1x256x128_0_0_512 inb_S8960x256_S128x256_512_0 rfl rfl a b), ?_⟩
  rotate_left
  refine List.forall_mem_cons.mpr ⟨forall_ix2' fun a b => Eq.trans ?_ (xt_piece arg1 harg1 x0 3 ![0, 0, 384] ![384, 0] inb_S1x256x8960_S1x256x128_0_0_384 inb_S8960x256_S128x256_384_0 rfl rfl a b), ?_⟩
  rotate_left
  refine List.forall_mem_cons.mpr ⟨forall_ix2' fun a b => Eq.trans ?_ (xt_piece arg1 harg1 x0 2 ![0, 0, 256] ![256, 0] inb_S1x256x8960_S1x256x128_0_0_256 inb_S8960x256_S128x256_256_0 rfl rfl a b), ?_⟩
  rotate_left
  refine List.forall_mem_cons.mpr ⟨forall_ix2' fun a b => Eq.trans ?_ (xt_piece arg1 harg1 x0 1 ![0, 0, 128] ![128, 0] inb_S1x256x8960_S1x256x128_0_0_128 inb_S8960x256_S128x256_128_0 rfl rfl a b), ?_⟩
  rotate_left
  refine List.forall_mem_cons.mpr ⟨forall_ix2' fun a b => Eq.trans ?_ (xt_piece arg1 harg1 x0 0 ![0, 0, 0] ![0, 0] inb_S1x256x8960_S1x256x128_0_0_0 inb_S8960x256_S128x256_0_0 rfl rfl a b), ?_⟩
  rotate_left
  · intro p hp
    exact absurd hp List.not_mem_nil
  all_goals
    dsimp only
    try simp only [body_B.sl.r, body_B.sl.r_1, body_B.sl.r_2, body_B.sl.r_3, body_B.sl.r_4, body_B.sl.r_5, body_B.sl.r_6, body_B.sl.r_7, body_B.sl.r_8, body_B.sl.r_9, body_B.sl.r_10, body_B.sl.r_11, body_B.sl.r_12, body_B.sl.r_13]
    unfold_payloads
    pointwise []

theorem xt_cover : ∀ y : S8960x256.Idx, ∃ p ∈ body_B.sl.H10_70 (F := Ideal) c arg1 harg1 x0, y ∈ p.1.set := fun y => by
  have h0 : (y 0).val < 8960 := (y 0).isLt
  have h1 : (y 1).val < 256 := (y 1).isLt
  unfold body_B.sl.H10_70
  by_cases h_69 : (y 0).val / 128 = 69
  · refine ex_here (mem_unit (s := S8960x256) inb_S8960x256_S128x256_8832_0 rfl y ?_)
    intro q; fin_cases q <;> simp <;> omega
  refine ex_later ?_
  by_cases h_68 : (y 0).val / 128 = 68
  · refine ex_here (mem_unit (s := S8960x256) inb_S8960x256_S128x256_8704_0 rfl y ?_)
    intro q; fin_cases q <;> simp <;> omega
  refine ex_later ?_
  by_cases h_67 : (y 0).val / 128 = 67
  · refine ex_here (mem_unit (s := S8960x256) inb_S8960x256_S128x256_8576_0 rfl y ?_)
    intro q; fin_cases q <;> simp <;> omega
  refine ex_later ?_
  by_cases h_66 : (y 0).val / 128 = 66
  · refine ex_here (mem_unit (s := S8960x256) inb_S8960x256_S128x256_8448_0 rfl y ?_)
    intro q; fin_cases q <;> simp <;> omega
  refine ex_later ?_
  by_cases h_65 : (y 0).val / 128 = 65
  · refine ex_here (mem_unit (s := S8960x256) inb_S8960x256_S128x256_8320_0 rfl y ?_)
    intro q; fin_cases q <;> simp <;> omega
  refine ex_later ?_
  by_cases h_64 : (y 0).val / 128 = 64
  · refine ex_here (mem_unit (s := S8960x256) inb_S8960x256_S128x256_8192_0 rfl y ?_)
    intro q; fin_cases q <;> simp <;> omega
  refine ex_later ?_
  by_cases h_63 : (y 0).val / 128 = 63
  · refine ex_here (mem_unit (s := S8960x256) inb_S8960x256_S128x256_8064_0 rfl y ?_)
    intro q; fin_cases q <;> simp <;> omega
  refine ex_later ?_
  by_cases h_62 : (y 0).val / 128 = 62
  · refine ex_here (mem_unit (s := S8960x256) inb_S8960x256_S128x256_7936_0 rfl y ?_)
    intro q; fin_cases q <;> simp <;> omega
  refine ex_later ?_
  by_cases h_61 : (y 0).val / 128 = 61
  · refine ex_here (mem_unit (s := S8960x256) inb_S8960x256_S128x256_7808_0 rfl y ?_)
    intro q; fin_cases q <;> simp <;> omega
  refine ex_later ?_
  by_cases h_60 : (y 0).val / 128 = 60
  · refine ex_here (mem_unit (s := S8960x256) inb_S8960x256_S128x256_7680_0 rfl y ?_)
    intro q; fin_cases q <;> simp <;> omega
  refine ex_later ?_
  by_cases h_59 : (y 0).val / 128 = 59
  · refine ex_here (mem_unit (s := S8960x256) inb_S8960x256_S128x256_7552_0 rfl y ?_)
    intro q; fin_cases q <;> simp <;> omega
  refine ex_later ?_
  by_cases h_58 : (y 0).val / 128 = 58
  · refine ex_here (mem_unit (s := S8960x256) inb_S8960x256_S128x256_7424_0 rfl y ?_)
    intro q; fin_cases q <;> simp <;> omega
  refine ex_later ?_
  by_cases h_57 : (y 0).val / 128 = 57
  · refine ex_here (mem_unit (s := S8960x256) inb_S8960x256_S128x256_7296_0 rfl y ?_)
    intro q; fin_cases q <;> simp <;> omega
  refine ex_later ?_
  by_cases h_56 : (y 0).val / 128 = 56
  · refine ex_here (mem_unit (s := S8960x256) inb_S8960x256_S128x256_7168_0 rfl y ?_)
    intro q; fin_cases q <;> simp <;> omega
  refine ex_later ?_
  by_cases h_55 : (y 0).val / 128 = 55
  · refine ex_here (mem_unit (s := S8960x256) inb_S8960x256_S128x256_7040_0 rfl y ?_)
    intro q; fin_cases q <;> simp <;> omega
  refine ex_later ?_
  by_cases h_54 : (y 0).val / 128 = 54
  · refine ex_here (mem_unit (s := S8960x256) inb_S8960x256_S128x256_6912_0 rfl y ?_)
    intro q; fin_cases q <;> simp <;> omega
  refine ex_later ?_
  by_cases h_53 : (y 0).val / 128 = 53
  · refine ex_here (mem_unit (s := S8960x256) inb_S8960x256_S128x256_6784_0 rfl y ?_)
    intro q; fin_cases q <;> simp <;> omega
  refine ex_later ?_
  by_cases h_52 : (y 0).val / 128 = 52
  · refine ex_here (mem_unit (s := S8960x256) inb_S8960x256_S128x256_6656_0 rfl y ?_)
    intro q; fin_cases q <;> simp <;> omega
  refine ex_later ?_
  by_cases h_51 : (y 0).val / 128 = 51
  · refine ex_here (mem_unit (s := S8960x256) inb_S8960x256_S128x256_6528_0 rfl y ?_)
    intro q; fin_cases q <;> simp <;> omega
  refine ex_later ?_
  by_cases h_50 : (y 0).val / 128 = 50
  · refine ex_here (mem_unit (s := S8960x256) inb_S8960x256_S128x256_6400_0 rfl y ?_)
    intro q; fin_cases q <;> simp <;> omega
  refine ex_later ?_
  by_cases h_49 : (y 0).val / 128 = 49
  · refine ex_here (mem_unit (s := S8960x256) inb_S8960x256_S128x256_6272_0 rfl y ?_)
    intro q; fin_cases q <;> simp <;> omega
  refine ex_later ?_
  by_cases h_48 : (y 0).val / 128 = 48
  · refine ex_here (mem_unit (s := S8960x256) inb_S8960x256_S128x256_6144_0 rfl y ?_)
    intro q; fin_cases q <;> simp <;> omega
  refine ex_later ?_
  by_cases h_47 : (y 0).val / 128 = 47
  · refine ex_here (mem_unit (s := S8960x256) inb_S8960x256_S128x256_6016_0 rfl y ?_)
    intro q; fin_cases q <;> simp <;> omega
  refine ex_later ?_
  by_cases h_46 : (y 0).val / 128 = 46
  · refine ex_here (mem_unit (s := S8960x256) inb_S8960x256_S128x256_5888_0 rfl y ?_)
    intro q; fin_cases q <;> simp <;> omega
  refine ex_later ?_
  by_cases h_45 : (y 0).val / 128 = 45
  · refine ex_here (mem_unit (s := S8960x256) inb_S8960x256_S128x256_5760_0 rfl y ?_)
    intro q; fin_cases q <;> simp <;> omega
  refine ex_later ?_
  by_cases h_44 : (y 0).val / 128 = 44
  · refine ex_here (mem_unit (s := S8960x256) inb_S8960x256_S128x256_5632_0 rfl y ?_)
    intro q; fin_cases q <;> simp <;> omega
  refine ex_later ?_
  by_cases h_43 : (y 0).val / 128 = 43
  · refine ex_here (mem_unit (s := S8960x256) inb_S8960x256_S128x256_5504_0 rfl y ?_)
    intro q; fin_cases q <;> simp <;> omega
  refine ex_later ?_
  by_cases h_42 : (y 0).val / 128 = 42
  · refine ex_here (mem_unit (s := S8960x256) inb_S8960x256_S128x256_5376_0 rfl y ?_)
    intro q; fin_cases q <;> simp <;> omega
  refine ex_later ?_
  by_cases h_41 : (y 0).val / 128 = 41
  · refine ex_here (mem_unit (s := S8960x256) inb_S8960x256_S128x256_5248_0 rfl y ?_)
    intro q; fin_cases q <;> simp <;> omega
  refine ex_later ?_
  by_cases h_40 : (y 0).val / 128 = 40
  · refine ex_here (mem_unit (s := S8960x256) inb_S8960x256_S128x256_5120_0 rfl y ?_)
    intro q; fin_cases q <;> simp <;> omega
  refine ex_later ?_
  by_cases h_39 : (y 0).val / 128 = 39
  · refine ex_here (mem_unit (s := S8960x256) inb_S8960x256_S128x256_4992_0 rfl y ?_)
    intro q; fin_cases q <;> simp <;> omega
  refine ex_later ?_
  by_cases h_38 : (y 0).val / 128 = 38
  · refine ex_here (mem_unit (s := S8960x256) inb_S8960x256_S128x256_4864_0 rfl y ?_)
    intro q; fin_cases q <;> simp <;> omega
  refine ex_later ?_
  by_cases h_37 : (y 0).val / 128 = 37
  · refine ex_here (mem_unit (s := S8960x256) inb_S8960x256_S128x256_4736_0 rfl y ?_)
    intro q; fin_cases q <;> simp <;> omega
  refine ex_later ?_
  by_cases h_36 : (y 0).val / 128 = 36
  · refine ex_here (mem_unit (s := S8960x256) inb_S8960x256_S128x256_4608_0 rfl y ?_)
    intro q; fin_cases q <;> simp <;> omega
  refine ex_later ?_
  by_cases h_35 : (y 0).val / 128 = 35
  · refine ex_here (mem_unit (s := S8960x256) inb_S8960x256_S128x256_4480_0 rfl y ?_)
    intro q; fin_cases q <;> simp <;> omega
  refine ex_later ?_
  by_cases h_34 : (y 0).val / 128 = 34
  · refine ex_here (mem_unit (s := S8960x256) inb_S8960x256_S128x256_4352_0 rfl y ?_)
    intro q; fin_cases q <;> simp <;> omega
  refine ex_later ?_
  by_cases h_33 : (y 0).val / 128 = 33
  · refine ex_here (mem_unit (s := S8960x256) inb_S8960x256_S128x256_4224_0 rfl y ?_)
    intro q; fin_cases q <;> simp <;> omega
  refine ex_later ?_
  by_cases h_32 : (y 0).val / 128 = 32
  · refine ex_here (mem_unit (s := S8960x256) inb_S8960x256_S128x256_4096_0 rfl y ?_)
    intro q; fin_cases q <;> simp <;> omega
  refine ex_later ?_
  by_cases h_31 : (y 0).val / 128 = 31
  · refine ex_here (mem_unit (s := S8960x256) inb_S8960x256_S128x256_3968_0 rfl y ?_)
    intro q; fin_cases q <;> simp <;> omega
  refine ex_later ?_
  by_cases h_30 : (y 0).val / 128 = 30
  · refine ex_here (mem_unit (s := S8960x256) inb_S8960x256_S128x256_3840_0 rfl y ?_)
    intro q; fin_cases q <;> simp <;> omega
  refine ex_later ?_
  by_cases h_29 : (y 0).val / 128 = 29
  · refine ex_here (mem_unit (s := S8960x256) inb_S8960x256_S128x256_3712_0 rfl y ?_)
    intro q; fin_cases q <;> simp <;> omega
  refine ex_later ?_
  by_cases h_28 : (y 0).val / 128 = 28
  · refine ex_here (mem_unit (s := S8960x256) inb_S8960x256_S128x256_3584_0 rfl y ?_)
    intro q; fin_cases q <;> simp <;> omega
  refine ex_later ?_
  by_cases h_27 : (y 0).val / 128 = 27
  · refine ex_here (mem_unit (s := S8960x256) inb_S8960x256_S128x256_3456_0 rfl y ?_)
    intro q; fin_cases q <;> simp <;> omega
  refine ex_later ?_
  by_cases h_26 : (y 0).val / 128 = 26
  · refine ex_here (mem_unit (s := S8960x256) inb_S8960x256_S128x256_3328_0 rfl y ?_)
    intro q; fin_cases q <;> simp <;> omega
  refine ex_later ?_
  by_cases h_25 : (y 0).val / 128 = 25
  · refine ex_here (mem_unit (s := S8960x256) inb_S8960x256_S128x256_3200_0 rfl y ?_)
    intro q; fin_cases q <;> simp <;> omega
  refine ex_later ?_
  by_cases h_24 : (y 0).val / 128 = 24
  · refine ex_here (mem_unit (s := S8960x256) inb_S8960x256_S128x256_3072_0 rfl y ?_)
    intro q; fin_cases q <;> simp <;> omega
  refine ex_later ?_
  by_cases h_23 : (y 0).val / 128 = 23
  · refine ex_here (mem_unit (s := S8960x256) inb_S8960x256_S128x256_2944_0 rfl y ?_)
    intro q; fin_cases q <;> simp <;> omega
  refine ex_later ?_
  by_cases h_22 : (y 0).val / 128 = 22
  · refine ex_here (mem_unit (s := S8960x256) inb_S8960x256_S128x256_2816_0 rfl y ?_)
    intro q; fin_cases q <;> simp <;> omega
  refine ex_later ?_
  by_cases h_21 : (y 0).val / 128 = 21
  · refine ex_here (mem_unit (s := S8960x256) inb_S8960x256_S128x256_2688_0 rfl y ?_)
    intro q; fin_cases q <;> simp <;> omega
  refine ex_later ?_
  by_cases h_20 : (y 0).val / 128 = 20
  · refine ex_here (mem_unit (s := S8960x256) inb_S8960x256_S128x256_2560_0 rfl y ?_)
    intro q; fin_cases q <;> simp <;> omega
  refine ex_later ?_
  by_cases h_19 : (y 0).val / 128 = 19
  · refine ex_here (mem_unit (s := S8960x256) inb_S8960x256_S128x256_2432_0 rfl y ?_)
    intro q; fin_cases q <;> simp <;> omega
  refine ex_later ?_
  by_cases h_18 : (y 0).val / 128 = 18
  · refine ex_here (mem_unit (s := S8960x256) inb_S8960x256_S128x256_2304_0 rfl y ?_)
    intro q; fin_cases q <;> simp <;> omega
  refine ex_later ?_
  by_cases h_17 : (y 0).val / 128 = 17
  · refine ex_here (mem_unit (s := S8960x256) inb_S8960x256_S128x256_2176_0 rfl y ?_)
    intro q; fin_cases q <;> simp <;> omega
  refine ex_later ?_
  by_cases h_16 : (y 0).val / 128 = 16
  · refine ex_here (mem_unit (s := S8960x256) inb_S8960x256_S128x256_2048_0 rfl y ?_)
    intro q; fin_cases q <;> simp <;> omega
  refine ex_later ?_
  by_cases h_15 : (y 0).val / 128 = 15
  · refine ex_here (mem_unit (s := S8960x256) inb_S8960x256_S128x256_1920_0 rfl y ?_)
    intro q; fin_cases q <;> simp <;> omega
  refine ex_later ?_
  by_cases h_14 : (y 0).val / 128 = 14
  · refine ex_here (mem_unit (s := S8960x256) inb_S8960x256_S128x256_1792_0 rfl y ?_)
    intro q; fin_cases q <;> simp <;> omega
  refine ex_later ?_
  by_cases h_13 : (y 0).val / 128 = 13
  · refine ex_here (mem_unit (s := S8960x256) inb_S8960x256_S128x256_1664_0 rfl y ?_)
    intro q; fin_cases q <;> simp <;> omega
  refine ex_later ?_
  by_cases h_12 : (y 0).val / 128 = 12
  · refine ex_here (mem_unit (s := S8960x256) inb_S8960x256_S128x256_1536_0 rfl y ?_)
    intro q; fin_cases q <;> simp <;> omega
  refine ex_later ?_
  by_cases h_11 : (y 0).val / 128 = 11
  · refine ex_here (mem_unit (s := S8960x256) inb_S8960x256_S128x256_1408_0 rfl y ?_)
    intro q; fin_cases q <;> simp <;> omega
  refine ex_later ?_
  by_cases h_10 : (y 0).val / 128 = 10
  · refine ex_here (mem_unit (s := S8960x256) inb_S8960x256_S128x256_1280_0 rfl y ?_)
    intro q; fin_cases q <;> simp <;> omega
  refine ex_later ?_
  by_cases h_9 : (y 0).val / 128 = 9
  · refine ex_here (mem_unit (s := S8960x256) inb_S8960x256_S128x256_1152_0 rfl y ?_)
    intro q; fin_cases q <;> simp <;> omega
  refine ex_later ?_
  by_cases h_8 : (y 0).val / 128 = 8
  · refine ex_here (mem_unit (s := S8960x256) inb_S8960x256_S128x256_1024_0 rfl y ?_)
    intro q; fin_cases q <;> simp <;> omega
  refine ex_later ?_
  by_cases h_7 : (y 0).val / 128 = 7
  · refine ex_here (mem_unit (s := S8960x256) inb_S8960x256_S128x256_896_0 rfl y ?_)
    intro q; fin_cases q <;> simp <;> omega
  refine ex_later ?_
  by_cases h_6 : (y 0).val / 128 = 6
  · refine ex_here (mem_unit (s := S8960x256) inb_S8960x256_S128x256_768_0 rfl y ?_)
    intro q; fin_cases q <;> simp <;> omega
  refine ex_later ?_
  by_cases h_5 : (y 0).val / 128 = 5
  · refine ex_here (mem_unit (s := S8960x256) inb_S8960x256_S128x256_640_0 rfl y ?_)
    intro q; fin_cases q <;> simp <;> omega
  refine ex_later ?_
  by_cases h_4 : (y 0).val / 128 = 4
  · refine ex_here (mem_unit (s := S8960x256) inb_S8960x256_S128x256_512_0 rfl y ?_)
    intro q; fin_cases q <;> simp <;> omega
  refine ex_later ?_
  by_cases h_3 : (y 0).val / 128 = 3
  · refine ex_here (mem_unit (s := S8960x256) inb_S8960x256_S128x256_384_0 rfl y ?_)
    intro q; fin_cases q <;> simp <;> omega
  refine ex_later ?_
  by_cases h_2 : (y 0).val / 128 = 2
  · refine ex_here (mem_unit (s := S8960x256) inb_S8960x256_S128x256_256_0 rfl y ?_)
    intro q; fin_cases q <;> simp <;> omega
  refine ex_later ?_
  by_cases h_1 : (y 0).val / 128 = 1
  · refine ex_here (mem_unit (s := S8960x256) inb_S8960x256_S128x256_128_0 rfl y ?_)
    intro q; fin_cases q <;> simp <;> omega
  refine ex_later ?_
  by_cases h_0 : (y 0).val / 128 = 0
  · refine ex_here (mem_unit (s := S8960x256) inb_S8960x256_S128x256_0_0 rfl y ?_)
    intro q; fin_cases q <;> simp <;> omega
  refine ex_later ?_
  exfalso
  omega

/-- After the seventy stores the transposed buffer holds the tokens' rows. -/
theorem xt_read (f : BufTy.Contents (Elt Ideal) arg11.view.ty) (r : Fin 8960) (t : Fin 256) :
    arg11.view.read (Elt Ideal) (arg11.view.writes (Elt Ideal) f (body_B.sl.H10_70 (F := Ideal) c arg1 harg1 x0)) (ix2 r t) = Xt x0 (ix2 r t) :=
  View.read_writes_apply_of_pieces _ _ (Xt x0) _ (xt_pieces c arg1 harg1 x0) _ (xt_cover c arg1 harg1 x0 _)

/-- The rotation matrix by its row and its column. -/
def Hm (x1 : S140x140.Idx → EReal) (s k : Fin 140) : EReal := x1 (ix2 s k)

theorem had_load (s k : Fin 140) :
    View.readAt (Elt Ideal) arg2.view (Rect.unit (s := S140x140) ![0, 0] S140x140.size inb_S140x140_S140x140_0_0).toLoadRect (harg2.unread x1) (ix2 s k) = Hm x1 s k := by
  rw [View.readAt_apply, harg2.read_unread, unit_idx (s := S140x140) inb_S140x140_S140x140_0_0 rfl (ix2 s k) (ix2 s k) (by intro q; fin_cases q <;> simp [ix2])]
  rfl

theorem hadp_0 (z : Fin 1) (s k : Fin 140) : k0_pay171 (View.readAt (Elt Ideal) arg2.view (Rect.unit (s := S140x140) ![0, 0] S140x140.size inb_S140x140_S140x140_0_0).toLoadRect (harg2.unread x1)) (ix3 z s k) = Hm x1 s k := by
  refine Eq.trans ?_ (had_load arg2 harg2 x1 s k)
  try simp only [body_A.sl.r]
  unfold_payloads
  pointwise []

theorem zerp_0 (z : Fin 1) (a : Fin 144) (b : Fin 160) : k0_pay170 (F := Ideal) (ix3 z a b) = 0 := by
  unfold_payloads
  pointwise []

theorem hadp_1 (z : Fin 1) (s k : Fin 140) : k0_pay173 (View.readAt (Elt Ideal) arg2.view (Rect.unit (s := S140x140) ![0, 0] S140x140.size inb_S140x140_S140x140_0_0).toLoadRect (harg2.unread x1)) (ix3 z s k) = Hm x1 s k := by
  refine Eq.trans ?_ (had_load arg2 harg2 x1 s k)
  try simp only [body_A.sl.r]
  unfold_payloads
  pointwise []

theorem zerp_1 (z : Fin 1) (a : Fin 144) (b : Fin 160) : k0_pay172 (F := Ideal) (ix3 z a b) = 0 := by
  unfold_payloads
  pointwise []

theorem hadp_2 (z : Fin 1) (s k : Fin 140) : k0_pay175 (View.readAt (Elt Ideal) arg2.view (Rect.unit (s := S140x140) ![0, 0] S140x140.size inb_S140x140_S140x140_0_0).toLoadRect (harg2.unread x1)) (ix3 z s k) = Hm x1 s k := by
  refine Eq.trans ?_ (had_load arg2 harg2 x1 s k)
  try simp only [body_A.sl.r]
  unfold_payloads
  pointwise []

theorem zerp_2 (z : Fin 1) (a : Fin 144) (b : Fin 160) : k0_pay174 (F := Ideal) (ix3 z a b) = 0 := by
  unfold_payloads
  pointwise []

theorem hadp_3 (z : Fin 1) (s k : Fin 140) : k0_pay307 (body_A.sl.r c arg2 harg2 x1) (ix3 z s k) = Hm x1 s k := by
  refine Eq.trans ?_ (had_load arg2 harg2 x1 s k)
  try simp only [body_A.sl.r]
  unfold_payloads
  pointwise []

theorem zerp_3 (z : Fin 1) (a : Fin 144) (b : Fin 160) : k0_pay176 (F := Ideal) (ix3 z a b) = 0 := by
  unfold_payloads
  pointwise []

/-- After the eight stores of the first point the matrix buffer holds the four shifted copies. -/
theorem had_read (f : BufTy.Contents (Elt Ideal) arg10.view.ty) (σ : Fin 4) (r : Fin 144) (q : Fin 160) :
    arg10.view.read (Elt Ideal) (arg10.view.writes (Elt Ideal) f (body_A.sl.H9_8 (F := Ideal) c arg2 harg2 x1)) (ix3 σ r q) = padH (Hm x1) σ r q := by
  unfold body_A.sl.H9_8
  by_cases hs3 : σ.val = 3
  · obtain rfl : σ = 3 := Fin.ext hs3
    by_cases h : r.val < 140 ∧ 4 * 3 ≤ q.val ∧ q.val < 4 * 3 + 140
    · rw [View.read_writes_cons_unit_of_mem (s := S4x144x160) arg10.view f inb_S4x144x160_S1x140x140_3_0_12 _ _ (ix3 3 r q) (ix3 0 ⟨r.val, h.1⟩ ⟨q.val - 4 * 3, by omega⟩) rfl (by intro a; fin_cases a <;> simp [ix3] <;> omega)]
      refine (hadp_3 c arg2 harg2 x1 _ _ _).trans ?_
      unfold padH
      rw [dif_pos (show r.val < 140 ∧ 4 * (3 : Fin 4).val ≤ q.val ∧ q.val < 4 * (3 : Fin 4).val + 140 from h)]
      rfl
    · rw [View.read_writes_cons_miss _ _ _ _ _ (by
        rw [Rect.mem_set_unit]
        intro H
        have H1 := H 1
        have H2 := H 2
        simp [ix3] at H1 H2
        omega)]
      rw [View.read_writes_cons_unit_of_mem (s := S4x144x160) arg10.view f inb_S4x144x160_S1x144x160_3_0_0 _ _ (ix3 3 r q) (ix3 0 r q) rfl (by intro a; fin_cases a <;> simp [ix3])]
      refine (zerp_3 _ _ _).trans ?_
      unfold padH
      rw [dif_neg (show ¬ (r.val < 140 ∧ 4 * (3 : Fin 4).val ≤ q.val ∧ q.val < 4 * (3 : Fin 4).val + 140) from h)]
  rw [View.read_writes_cons_miss_of_axis _ _ _ _ _ (0 : Fin 3) 3 1 rfl rfl rfl (by show σ.val < 3 ∨ 3 + 1 ≤ σ.val; omega),
    View.read_writes_cons_miss_of_axis _ _ _ _ _ (0 : Fin 3) 3 1 rfl rfl rfl (by show σ.val < 3 ∨ 3 + 1 ≤ σ.val; omega)]
  by_cases hs2 : σ.val = 2
  · obtain rfl : σ = 2 := Fin.ext hs2
    by_cases h : r.val < 140 ∧ 4 * 2 ≤ q.val ∧ q.val < 4 * 2 + 140
    · rw [View.read_writes_cons_unit_of_mem (s := S4x144x160) arg10.view f inb_S4x144x160_S1x140x140_2_0_8 _ _ (ix3 2 r q) (ix3 0 ⟨r.val, h.1⟩ ⟨q.val - 4 * 2, by omega⟩) rfl (by intro a; fin_cases a <;> simp [ix3] <;> omega)]
      refine (hadp_2 arg2 harg2 x1 _ _ _).trans ?_
      unfold padH
      rw [dif_pos (show r.val < 140 ∧ 4 * (2 : Fin 4).val ≤ q.val ∧ q.val < 4 * (2 : Fin 4).val + 140 from h)]
      rfl
    · rw [View.read_writes_cons_miss _ _ _ _ _ (by
        rw [Rect.mem_set_unit]
        intro H
        have H1 := H 1
        have H2 := H 2
        simp [ix3] at H1 H2
        omega)]
      rw [View.read_writes_cons_unit_of_mem (s := S4x144x160) arg10.view f inb_S4x144x160_S1x144x160_2_0_0 _ _ (ix3 2 r q) (ix3 0 r q) rfl (by intro a; fin_cases a <;> simp [ix3])]
      refine (zerp_2 _ _ _).trans ?_
      unfold padH
      rw [dif_neg (show ¬ (r.val < 140 ∧ 4 * (2 : Fin 4).val ≤ q.val ∧ q.val < 4 * (2 : Fin 4).val + 140) from h)]
  rw [View.read_writes_cons_miss_of_axis _ _ _ _ _ (0 : Fin 3) 2 1 rfl rfl rfl (by show σ.val < 2 ∨ 2 + 1 ≤ σ.val; omega),
    View.read_writes_cons_miss_of_axis _ _ _ _ _ (0 : Fin 3) 2 1 rfl rfl rfl (by show σ.val < 2 ∨ 2 + 1 ≤ σ.val; omega)]
  by_cases hs1 : σ.val = 1
  · obtain rfl : σ = 1 := Fin.ext hs1
    by_cases h : r.val < 140 ∧ 4 * 1 ≤ q.val ∧ q.val < 4 * 1 + 140
    · rw [View.read_writes_cons_unit_of_mem (s := S4x144x160) arg10.view f inb_S4x144x160_S1x140x140_1_0_4 _ _ (ix3 1 r q) (ix3 0 ⟨r.val, h.1⟩ ⟨q.val - 4 * 1, by omega⟩) rfl (by intro a; fin_cases a <;> simp [ix3] <;> omega)]
      refine (hadp_1 arg2 harg2 x1 _ _ _).trans ?_
      unfold padH
      rw [dif_pos (show r.val < 140 ∧ 4 * (1 : Fin 4).val ≤ q.val ∧ q.val < 4 * (1 : Fin 4).val + 140 from h)]
      rfl
    · rw [View.read_writes_cons_miss _ _ _ _ _ (by
        rw [Rect.mem_set_unit]
        intro H
        have H1 := H 1
        have H2 := H 2
        simp [ix3] at H1 H2
        omega)]
      rw [View.read_writes_cons_unit_of_mem (s := S4x144x160) arg10.view f inb_S4x144x160_S1x144x160_1_0_0 _ _ (ix3 1 r q) (ix3 0 r q) rfl (by intro a; fin_cases a <;> simp [ix3])]
      refine (zerp_1 _ _ _).trans ?_
      unfold padH
      rw [dif_neg (show ¬ (r.val < 140 ∧ 4 * (1 : Fin 4).val ≤ q.val ∧ q.val < 4 * (1 : Fin 4).val + 140) from h)]
  rw [View.read_writes_cons_miss_of_axis _ _ _ _ _ (0 : Fin 3) 1 1 rfl rfl rfl (by show σ.val < 1 ∨ 1 + 1 ≤ σ.val; omega),
    View.read_writes_cons_miss_of_axis _ _ _ _ _ (0 : Fin 3) 1 1 rfl rfl rfl (by show σ.val < 1 ∨ 1 + 1 ≤ σ.val; omega)]
  by_cases hs0 : σ.val = 0
  · obtain rfl : σ = 0 := Fin.ext hs0
    by_cases h : r.val < 140 ∧ 4 * 0 ≤ q.val ∧ q.val < 4 * 0 + 140
    · rw [View.read_writes_cons_unit_of_mem (s := S4x144x160) arg10.view f inb_S4x144x160_S1x140x140_0_0_0 _ _ (ix3 0 r q) (ix3 0 ⟨r.val, h.1⟩ ⟨q.val - 4 * 0, by omega⟩) rfl (by intro a; fin_cases a <;> simp [ix3] <;> omega)]
      refine (hadp_0 arg2 harg2 x1 _ _ _).trans ?_
      unfold padH
      rw [dif_pos (show r.val < 140 ∧ 4 * (0 : Fin 4).val ≤ q.val ∧ q.val < 4 * (0 : Fin 4).val + 140 from h)]
      rfl
    · rw [View.read_writes_cons_miss _ _ _ _ _ (by
        rw [Rect.mem_set_unit]
        intro H
        have H1 := H 1
        have H2 := H 2
        simp [ix3] at H1 H2
        omega)]
      rw [View.read_writes_cons_unit_of_mem (s := S4x144x160) arg10.view f inb_S4x144x160_S1x144x160_0_0_0 _ _ (ix3 0 r q) (ix3 0 r q) rfl (by intro a; fin_cases a <;> simp [ix3])]
      refine (zerp_0 _ _ _).trans ?_
      unfold padH
      rw [dif_neg (show ¬ (r.val < 140 ∧ 4 * (0 : Fin 4).val ≤ q.val ∧ q.val < 4 * (0 : Fin 4).val + 140) from h)]
  rw [View.read_writes_cons_miss_of_axis _ _ _ _ _ (0 : Fin 3) 0 1 rfl rfl rfl (by show σ.val < 0 ∨ 0 + 1 ≤ σ.val; omega),
    View.read_writes_cons_miss_of_axis _ _ _ _ _ (0 : Fin 3) 0 1 rfl rfl rfl (by show σ.val < 0 ∨ 0 + 1 ≤ σ.val; omega)]
  omega
end
end Cert.KernelIdeal.Val
-- ==== Proof.KernelIdeal.Stores.lean ====
/- What the body stores in the three results: the projections, the codes and a row of scales. -/
module

public import proofs.«01_k».proof.Proof.Gen.KernelIdeal.Loops
public import proofs.«01_k».proof.Proof.KernelIdeal.Rows
public import proofs.«01_k».proof.Proof.KernelIdeal.Fills

@[expose] public section

set_option maxRecDepth 16384
set_option maxHeartbeats 4000000

noncomputable section

namespace Cert.KernelIdeal.Val

open Idealize.ShloMosaic Idealize.ShloMosaic.TcCoe Idealize.ShloMosaic.Tactic
open Cert.KernelIdeal Cert.KernelIdeal.Gen
open Cert.Spec

/-- The result of token `t` at output column `n`. -/
def Yk (H : Fin 140 → Fin 140 → EReal) (X : S8960x256.Idx → EReal) (W : S1536x8960.Idx → EReal) (S : S1x1536.Idx → EReal) (t : Fin 256) (n : Fin 1536) : EReal :=
  (∑ k : Fin 8960, W (ix2 n k) * Qk H X k t) * Sk H X t * S (ix2 0 n)

section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
variable (x4 : Vec Ideal S1x1536 .f32) (X9 : BufTy.Contents (Elt Ideal) arg9.view.ty) (X13 : BufTy.Contents (Elt Ideal) arg13.view.ty) (v0 v1 : FVec Ideal S32x128 .f32)

theorem ypay_0 (z : Fin 1) (t : Fin 256) (n : Fin 512) : k0_pay409 (k0_pay408 v0 v1 (View.readAt (Elt Ideal) arg9.view (Rect.unit (s := S1536x8960) ![0, 0] S512x8960.size inb_S1536x8960_S512x8960_0_0).toLoadRect X9) (View.readAt (Elt Ideal) arg13.view (Rect.unit (s := S8960x256) ![0, 0] S8960x256.size inb_S8960x256_S8960x256_0_0).toLoadRect X13)) (View.readAt (Elt Ideal) arg5.view (Rect.unit (s := S1x1536) ![0, 0] S1x512.size inb_S1x1536_S1x512_0_0).toLoadRect (harg5.unread x4)) (ix3 z t n)
      = (fun y : S1x256x1536.Idx => (∑ k : Fin 8960, arg9.view.read (Elt Ideal) X9 (ix2 (y 2) k) * arg13.view.read (Elt Ideal) X13 (ix2 k (y 1))) * k0_pay405 v0 v1 (ix2 0 (y 1)) * x4 (ix2 0 (y 2))) ((Rect.unit (s := S1x256x1536) ![0, 0, 0] S1x256x512.size inb_S1x256x1536_S1x256x512_0_0_0).emb (ix3 z t n)) := by
  have e9 : ∀ k : Fin 8960, (View.readAt (Elt Ideal) arg9.view (Rect.unit (s := S1536x8960) ![0, 0] S512x8960.size inb_S1536x8960_S512x8960_0_0).toLoadRect X9) (ix2 n k) = arg9.view.read (Elt Ideal) X9 (ix2 ⟨0 + n.val, by omega⟩ k) := fun k => by
    rw [View.readAt_apply, unit_idx (s := S1536x8960) inb_S1536x8960_S512x8960_0_0 rfl (ix2 n k) (ix2 ⟨0 + n.val, by omega⟩ k) (by intro q; fin_cases q <;> simp [ix2])]
  have e13 : ∀ k : Fin 8960, (View.readAt (Elt Ideal) arg13.view (Rect.unit (s := S8960x256) ![0, 0] S8960x256.size inb_S8960x256_S8960x256_0_0).toLoadRect X13) (ix2 k t) = arg13.view.read (Elt Ideal) X13 (ix2 k t) := fun k => by
    rw [View.readAt_apply, unit_idx (s := S8960x256) inb_S8960x256_S8960x256_0_0 rfl (ix2 k t) (ix2 k t) (by intro q; fin_cases q <;> simp [ix2])]
  have e5 : (View.readAt (Elt Ideal) arg5.view (Rect.unit (s := S1x1536) ![0, 0] S1x512.size inb_S1x1536_S1x512_0_0).toLoadRect (harg5.unread x4)) (ix2 0 n) = x4 (ix2 0 ⟨0 + n.val, by omega⟩) := by
    rw [View.readAt_apply, harg5.read_unread, unit_idx (s := S1x1536) inb_S1x1536_S1x512_0_0 rfl (ix2 0 n) (ix2 0 ⟨0 + n.val, by omega⟩) (by intro q; fin_cases q <;> simp [ix2])]
  rw [unit_emb (s := S1x256x1536) inb_S1x256x1536_S1x256x512_0_0_0 rfl (ix3 z t n) (ix3 z t ⟨0 + n.val, by omega⟩) (by intro q; fin_cases q <;> simp [ix3])]
  refine Eq.trans (b := (∑ k : Fin 8960, (View.readAt (Elt Ideal) arg9.view (Rect.unit (s := S1536x8960) ![0, 0] S512x8960.size inb_S1536x8960_S512x8960_0_0).toLoadRect X9) (ix2 n k) * (View.readAt (Elt Ideal) arg13.view (Rect.unit (s := S8960x256) ![0, 0] S8960x256.size inb_S8960x256_S8960x256_0_0).toLoadRect X13) (ix2 k t)) * k0_pay405 v0 v1 (ix2 0 t) * (View.readAt (Elt Ideal) arg5.view (Rect.unit (s := S1x1536) ![0, 0] S1x512.size inb_S1x1536_S1x512_0_0).toLoadRect (harg5.unread x4)) (ix2 0 n)) ?_ ?_
  · generalize (View.readAt (Elt Ideal) arg9.view (Rect.unit (s := S1536x8960) ![0, 0] S512x8960.size inb_S1536x8960_S512x8960_0_0).toLoadRect X9) = A
    generalize (View.readAt (Elt Ideal) arg13.view (Rect.unit (s := S8960x256) ![0, 0] S8960x256.size inb_S8960x256_S8960x256_0_0).toLoadRect X13) = B
    generalize (View.readAt (Elt Ideal) arg5.view (Rect.unit (s := S1x1536) ![0, 0] S1x512.size inb_S1x1536_S1x512_0_0).toLoadRect (harg5.unread x4)) = C
    unfold_payloads
    pointwise []
  · rw [e5]
    simp only [e9, e13]
    rfl

theorem ypay_512 (z : Fin 1) (t : Fin 256) (n : Fin 512) : k0_pay410 (k0_pay405 v0 v1) (View.readAt (Elt Ideal) arg9.view (Rect.unit (s := S1536x8960) ![512, 0] S512x8960.size inb_S1536x8960_S512x8960_512_0).toLoadRect X9) (View.readAt (Elt Ideal) arg13.view (Rect.unit (s := S8960x256) ![0, 0] S8960x256.size inb_S8960x256_S8960x256_0_0).toLoadRect X13) (View.readAt (Elt Ideal) arg5.view (Rect.unit (s := S1x1536) ![0, 512] S1x512.size inb_S1x1536_S1x512_0_512).toLoadRect (harg5.unread x4)) (ix3 z t n)
      = (fun y : S1x256x1536.Idx => (∑ k : Fin 8960, arg9.view.read (Elt Ideal) X9 (ix2 (y 2) k) * arg13.view.read (Elt Ideal) X13 (ix2 k (y 1))) * k0_pay405 v0 v1 (ix2 0 (y 1)) * x4 (ix2 0 (y 2))) ((Rect.unit (s := S1x256x1536) ![0, 0, 512] S1x256x512.size inb_S1x256x1536_S1x256x512_0_0_512).emb (ix3 z t n)) := by
  have e9 : ∀ k : Fin 8960, (View.readAt (Elt Ideal) arg9.view (Rect.unit (s := S1536x8960) ![512, 0] S512x8960.size inb_S1536x8960_S512x8960_512_0).toLoadRect X9) (ix2 n k) = arg9.view.read (Elt Ideal) X9 (ix2 ⟨512 + n.val, by omega⟩ k) := fun k => by
    rw [View.readAt_apply, unit_idx (s := S1536x8960) inb_S1536x8960_S512x8960_512_0 rfl (ix2 n k) (ix2 ⟨512 + n.val, by omega⟩ k) (by intro q; fin_cases q <;> simp [ix2])]
  have e13 : ∀ k : Fin 8960, (View.readAt (Elt Ideal) arg13.view (Rect.unit (s := S8960x256) ![0, 0] S8960x256.size inb_S8960x256_S8960x256_0_0).toLoadRect X13) (ix2 k t) = arg13.view.read (Elt Ideal) X13 (ix2 k t) := fun k => by
    rw [View.readAt_apply, unit_idx (s := S8960x256) inb_S8960x256_S8960x256_0_0 rfl (ix2 k t) (ix2 k t) (by intro q; fin_cases q <;> simp [ix2])]
  have e5 : (View.readAt (Elt Ideal) arg5.view (Rect.unit (s := S1x1536) ![0, 512] S1x512.size inb_S1x1536_S1x512_0_512).toLoadRect (harg5.unread x4)) (ix2 0 n) = x4 (ix2 0 ⟨512 + n.val, by omega⟩) := by
    rw [View.readAt_apply, harg5.read_unread, unit_idx (s := S1x1536) inb_S1x1536_S1x512_0_512 rfl (ix2 0 n) (ix2 0 ⟨512 + n.val, by omega⟩) (by intro q; fin_cases q <;> simp [ix2])]
  rw [unit_emb (s := S1x256x1536) inb_S1x256x1536_S1x256x512_0_0_512 rfl (ix3 z t n) (ix3 z t ⟨512 + n.val, by omega⟩) (by intro q; fin_cases q <;> simp [ix3])]
  refine Eq.trans (b := (∑ k : Fin 8960, (View.readAt (Elt Ideal) arg9.view (Rect.unit (s := S1536x8960) ![512, 0] S512x8960.size inb_S1536x8960_S512x8960_512_0).toLoadRect X9) (ix2 n k) * (View.readAt (Elt Ideal) arg13.view (Rect.unit (s := S8960x256) ![0, 0] S8960x256.size inb_S8960x256_S8960x256_0_0).toLoadRect X13) (ix2 k t)) * k0_pay405 v0 v1 (ix2 0 t) * (View.readAt (Elt Ideal) arg5.view (Rect.unit (s := S1x1536) ![0, 512] S1x512.size inb_S1x1536_S1x512_0_512).toLoadRect (harg5.unread x4)) (ix2 0 n)) ?_ ?_
  · generalize (View.readAt (Elt Ideal) arg9.view (Rect.unit (s := S1536x8960) ![512, 0] S512x8960.size inb_S1536x8960_S512x8960_512_0).toLoadRect X9) = A
    generalize (View.readAt (Elt Ideal) arg13.view (Rect.unit (s := S8960x256) ![0, 0] S8960x256.size inb_S8960x256_S8960x256_0_0).toLoadRect X13) = B
    generalize (View.readAt (Elt Ideal) arg5.view (Rect.unit (s := S1x1536) ![0, 512] S1x512.size inb_S1x1536_S1x512_0_512).toLoadRect (harg5.unread x4)) = C
    unfold_payloads
    pointwise []
  · rw [e5]
    simp only [e9, e13]
    rfl

theorem ypay_1024 (z : Fin 1) (t : Fin 256) (n : Fin 512) : k0_pay1 (k0_pay411 (k0_pay405 v0 v1) (View.readAt (Elt Ideal) arg9.view (Rect.unit (s := S1536x8960) ![1024, 0] S512x8960.size inb_S1536x8960_S512x8960_1024_0).toLoadRect X9) (View.readAt (Elt Ideal) arg13.view (Rect.unit (s := S8960x256) ![0, 0] S8960x256.size inb_S8960x256_S8960x256_0_0).toLoadRect X13) (View.readAt (Elt Ideal) arg5.view (Rect.unit (s := S1x1536) ![0, 1024] S1x512.size inb_S1x1536_S1x512_0_1024).toLoadRect (harg5.unread x4))) (ix3 z t n)
      = (fun y : S1x256x1536.Idx => (∑ k : Fin 8960, arg9.view.read (Elt Ideal) X9 (ix2 (y 2) k) * arg13.view.read (Elt Ideal) X13 (ix2 k (y 1))) * k0_pay405 v0 v1 (ix2 0 (y 1)) * x4 (ix2 0 (y 2))) ((Rect.unit (s := S1x256x1536) ![0, 0, 1024] S1x256x512.size inb_S1x256x1536_S1x256x512_0_0_1024).emb (ix3 z t n)) := by
  have e9 : ∀ k : Fin 8960, (View.readAt (Elt Ideal) arg9.view (Rect.unit (s := S1536x8960) ![1024, 0] S512x8960.size inb_S1536x8960_S512x8960_1024_0).toLoadRect X9) (ix2 n k) = arg9.view.read (Elt Ideal) X9 (ix2 ⟨1024 + n.val, by omega⟩ k) := fun k => by
    rw [View.readAt_apply, unit_idx (s := S1536x8960) inb_S1536x8960_S512x8960_1024_0 rfl (ix2 n k) (ix2 ⟨1024 + n.val, by omega⟩ k) (by intro q; fin_cases q <;> simp [ix2])]
  have e13 : ∀ k : Fin 8960, (View.readAt (Elt Ideal) arg13.view (Rect.unit (s := S8960x256) ![0, 0] S8960x256.size inb_S8960x256_S8960x256_0_0).toLoadRect X13) (ix2 k t) = arg13.view.read (Elt Ideal) X13 (ix2 k t) := fun k => by
    rw [View.readAt_apply, unit_idx (s := S8960x256) inb_S8960x256_S8960x256_0_0 rfl (ix2 k t) (ix2 k t) (by intro q; fin_cases q <;> simp [ix2])]
  have e5 : (View.readAt (Elt Ideal) arg5.view (Rect.unit (s := S1x1536) ![0, 1024] S1x512.size inb_S1x1536_S1x512_0_1024).toLoadRect (harg5.unread x4)) (ix2 0 n) = x4 (ix2 0 ⟨1024 + n.val, by omega⟩) := by
    rw [View.readAt_apply, harg5.read_unread, unit_idx (s := S1x1536) inb_S1x1536_S1x512_0_1024 rfl (ix2 0 n) (ix2 0 ⟨1024 + n.val, by omega⟩) (by intro q; fin_cases q <;> simp [ix2])]
  rw [unit_emb (s := S1x256x1536) inb_S1x256x1536_S1x256x512_0_0_1024 rfl (ix3 z t n) (ix3 z t ⟨1024 + n.val, by omega⟩) (by intro q; fin_cases q <;> simp [ix3])]
  refine Eq.trans (b := (∑ k : Fin 8960, (View.readAt (Elt Ideal) arg9.view (Rect.unit (s := S1536x8960) ![1024, 0] S512x8960.size inb_S1536x8960_S512x8960_1024_0).toLoadRect X9) (ix2 n k) * (View.readAt (Elt Ideal) arg13.view (Rect.unit (s := S8960x256) ![0, 0] S8960x256.size inb_S8960x256_S8960x256_0_0).toLoadRect X13) (ix2 k t)) * k0_pay405 v0 v1 (ix2 0 t) * (View.readAt (Elt Ideal) arg5.view (Rect.unit (s := S1x1536) ![0, 1024] S1x512.size inb_S1x1536_S1x512_0_1024).toLoadRect (harg5.unread x4)) (ix2 0 n)) ?_ ?_
  · generalize (View.readAt (Elt Ideal) arg9.view (Rect.unit (s := S1536x8960) ![1024, 0] S512x8960.size inb_S1536x8960_S512x8960_1024_0).toLoadRect X9) = A
    generalize (View.readAt (Elt Ideal) arg13.view (Rect.unit (s := S8960x256) ![0, 0] S8960x256.size inb_S8960x256_S8960x256_0_0).toLoadRect X13) = B
    generalize (View.readAt (Elt Ideal) arg5.view (Rect.unit (s := S1x1536) ![0, 1024] S1x512.size inb_S1x1536_S1x512_0_1024).toLoadRect (harg5.unread x4)) = C
    unfold_payloads
    pointwise []
  · rw [e5]
    simp only [e9, e13]
    rfl

theorem y_read (f5 : BufTy.Contents (Elt Ideal) arg6.view.ty) (y : S1x256x1536.Idx) :
    arg6.view.read (Elt Ideal) (arg6.view.writes (Elt Ideal) f5 [(⟨Rect.unit (s := S1x256x1536) ![0, 0, 1024] S1x256x512.size inb_S1x256x1536_S1x256x512_0_0_1024, k0_pay1 (k0_pay411 (k0_pay405 v0 v1) (View.readAt (Elt Ideal) arg9.view (Rect.unit (s := S1536x8960) ![1024, 0] S512x8960.size inb_S1536x8960_S512x8960_1024_0).toLoadRect X9) (View.readAt (Elt Ideal) arg13.view (Rect.unit (s := S8960x256) ![0, 0] S8960x256.size inb_S8960x256_S8960x256_0_0).toLoadRect X13) (View.readAt (Elt Ideal) arg5.view (Rect.unit (s := S1x1536) ![0, 1024] S1x512.size inb_S1x1536_S1x512_0_1024).toLoadRect (harg5.unread x4)))⟩ : View.Piece (Elt Ideal) S1x256x1536 .bf16), (⟨Rect.unit (s := S1x256x1536) ![0, 0, 512] S1x256x512.size inb_S1x256x1536_S1x256x512_0_0_512, k0_pay410 (k0_pay405 v0 v1) (View.readAt (Elt Ideal) arg9.view (Rect.unit (s := S1536x8960) ![512, 0] S512x8960.size inb_S1536x8960_S512x8960_512_0).toLoadRect X9) (View.readAt (Elt Ideal) arg13.view (Rect.unit (s := S8960x256) ![0, 0] S8960x256.size inb_S8960x256_S8960x256_0_0).toLoadRect X13) (View.readAt (Elt Ideal) arg5.view (Rect.unit (s := S1x1536) ![0, 512] S1x512.size inb_S1x1536_S1x512_0_512).toLoadRect (harg5.unread x4))⟩ : View.Piece (Elt Ideal) S1x256x1536 .bf16), (⟨Rect.unit (s := S1x256x1536) ![0, 0, 0] S1x256x512.size inb_S1x256x1536_S1x256x512_0_0_0, k0_pay409 (k0_pay408 v0 v1 (View.readAt (Elt Ideal) arg9.view (Rect.unit (s := S1536x8960) ![0, 0] S512x8960.size inb_S1536x8960_S512x8960_0_0).toLoadRect X9) (View.readAt (Elt Ideal) arg13.view (Rect.unit (s := S8960x256) ![0, 0] S8960x256.size inb_S8960x256_S8960x256_0_0).toLoadRect X13)) (View.readAt (Elt Ideal) arg5.view (Rect.unit (s := S1x1536) ![0, 0] S1x512.size inb_S1x1536_S1x512_0_0).toLoadRect (harg5.unread x4))⟩ : View.Piece (Elt Ideal) S1x256x1536 .bf16)]) y = (fun y : S1x256x1536.Idx => (∑ k : Fin 8960, arg9.view.read (Elt Ideal) X9 (ix2 (y 2) k) * arg13.view.read (Elt Ideal) X13 (ix2 k (y 1))) * k0_pay405 v0 v1 (ix2 0 (y 1)) * x4 (ix2 0 (y 2))) y := by
  refine View.read_writes_apply_of_pieces arg6.view f5 (fun y : S1x256x1536.Idx => (∑ k : Fin 8960, arg9.view.read (Elt Ideal) X9 (ix2 (y 2) k) * arg13.view.read (Elt Ideal) X13 (ix2 k (y 1))) * k0_pay405 v0 v1 (ix2 0 (y 1)) * x4 (ix2 0 (y 2))) _ ?_ y ?_
  · intro p hp x
    rcases List.mem_cons.mp hp with rfl | hp
    · obtain ⟨z, s, l, rfl⟩ : ∃ (z : Fin 1) (s : Fin 256) (l : Fin 512), x = ix3 z s l := ⟨x 0, x 1, x 2, eq_ix3 x⟩
      exact ypay_1024 arg5 harg5 arg9 arg13 x4 X9 X13 v0 v1 z s l
    rcases List.mem_cons.mp hp with rfl | hp
    · obtain ⟨z, s, l, rfl⟩ : ∃ (z : Fin 1) (s : Fin 256) (l : Fin 512), x = ix3 z s l := ⟨x 0, x 1, x 2, eq_ix3 x⟩
      exact ypay_512 arg5 harg5 arg9 arg13 x4 X9 X13 v0 v1 z s l
    rcases List.mem_cons.mp hp with rfl | hp
    · obtain ⟨z, s, l, rfl⟩ : ∃ (z : Fin 1) (s : Fin 256) (l : Fin 512), x = ix3 z s l := ⟨x 0, x 1, x 2, eq_ix3 x⟩
      exact ypay_0 arg5 harg5 arg9 arg13 x4 X9 X13 v0 v1 z s l
    exact absurd hp List.not_mem_nil
  · have h0 : (y 0).val < 1 := (y 0).isLt
    have h1 : (y 1).val < 256 := (y 1).isLt
    have h2 : (y 2).val < 1536 := (y 2).isLt
    by_cases h_1024 : (y 2).val / 512 = 2
    · refine ex_here (mem_unit (s := S1x256x1536) inb_S1x256x1536_S1x256x512_0_0_1024 rfl y ?_)
      intro q; fin_cases q <;> simp <;> omega
    refine ex_later ?_
    by_cases h_512 : (y 2).val / 512 = 1
    · refine ex_here (mem_unit (s := S1x256x1536) inb_S1x256x1536_S1x256x512_0_0_512 rfl y ?_)
      intro q; fin_cases q <;> simp <;> omega
    refine ex_later ?_
    by_cases h_0 : (y 2).val / 512 = 0
    · refine ex_here (mem_unit (s := S1x256x1536) inb_S1x256x1536_S1x256x512_0_0_0 rfl y ?_)
      intro q; fin_cases q <;> simp <;> omega
    refine ex_later ?_
    exfalso
    omega

variable (arg0 : BitVec 32) (v418 : FVec Ideal S256x128 .bf16) (H : Fin 140 → Fin 140 → EReal) (X : S8960x256.Idx → EReal)

/-- The results the body stores. -/
theorem y_final (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (f5 : BufTy.Contents (Elt Ideal) arg6.view.ty) (f13 : BufTy.Contents (Elt Ideal) arg13.view.ty) (W : S1536x8960.Idx → EReal) (hW : arg9.view.read (Elt Ideal) X9 = W) :
    arg6.view.read (Elt Ideal) (arg6.view.writes (Elt Ideal) f5 [(⟨Rect.unit (s := S1x256x1536) ![0, 0, 1024] S1x256x512.size inb_S1x256x1536_S1x256x512_0_0_1024, k0_pay1 (k0_pay411 (k0_pay405 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2) (View.readAt (Elt Ideal) arg9.view (Rect.unit (s := S1536x8960) ![1024, 0] S512x8960.size inb_S1536x8960_S512x8960_1024_0).toLoadRect X9) (View.readAt (Elt Ideal) arg13.view (Rect.unit (s := S8960x256) ![0, 0] S8960x256.size inb_S8960x256_S8960x256_0_0).toLoadRect (arg13.view.writes (Elt Ideal) f13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) k0_t4_loop.trips).2)) (View.readAt (Elt Ideal) arg5.view (Rect.unit (s := S1x1536) ![0, 1024] S1x512.size inb_S1x1536_S1x512_0_1024).toLoadRect (harg5.unread x4)))⟩ : View.Piece (Elt Ideal) S1x256x1536 .bf16), (⟨Rect.unit (s := S1x256x1536) ![0, 0, 512] S1x256x512.size inb_S1x256x1536_S1x256x512_0_0_512, k0_pay410 (k0_pay405 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2) (View.readAt (Elt Ideal) arg9.view (Rect.unit (s := S1536x8960) ![512, 0] S512x8960.size inb_S1536x8960_S512x8960_512_0).toLoadRect X9) (View.readAt (Elt Ideal) arg13.view (Rect.unit (s := S8960x256) ![0, 0] S8960x256.size inb_S8960x256_S8960x256_0_0).toLoadRect (arg13.view.writes (Elt Ideal) f13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) k0_t4_loop.trips).2)) (View.readAt (Elt Ideal) arg5.view (Rect.unit (s := S1x1536) ![0, 512] S1x512.size inb_S1x1536_S1x512_0_512).toLoadRect (harg5.unread x4))⟩ : View.Piece (Elt Ideal) S1x256x1536 .bf16), (⟨Rect.unit (s := S1x256x1536) ![0, 0, 0] S1x256x512.size inb_S1x256x1536_S1x256x512_0_0_0, k0_pay409 (k0_pay408 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (View.readAt (Elt Ideal) arg9.view (Rect.unit (s := S1536x8960) ![0, 0] S512x8960.size inb_S1536x8960_S512x8960_0_0).toLoadRect X9) (View.readAt (Elt Ideal) arg13.view (Rect.unit (s := S8960x256) ![0, 0] S8960x256.size inb_S8960x256_S8960x256_0_0).toLoadRect (arg13.view.writes (Elt Ideal) f13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) k0_t4_loop.trips).2))) (View.readAt (Elt Ideal) arg5.view (Rect.unit (s := S1x1536) ![0, 0] S1x512.size inb_S1x1536_S1x512_0_0).toLoadRect (harg5.unread x4))⟩ : View.Piece (Elt Ideal) S1x256x1536 .bf16)]) = fun y => Yk H X W x4 (y 1) (y 2) := by
  funext y
  obtain ⟨z, t, n, rfl⟩ : ∃ (z : Fin 1) (t : Fin 256) (n : Fin 1536), y = ix3 z t n := ⟨y 0, y 1, y 2, eq_ix3 y⟩
  refine (y_read arg5 harg5 arg6 arg9 arg13 x4 X9 _ _ _ f5 (ix3 z t n)).trans ?_
  refine congrArg (fun u => u * x4 (ix2 0 n)) (congrArg₂ (fun u v => u * v) (Finset.sum_congr rfl fun k _ => congrArg₂ (fun u v => u * v) (congrFun hW (ix2 n k)) ?_) ?_)
  · exact fact_final 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11 f13 k t
  · exact scale_final 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11 t

/-- The codes the body stores. -/
theorem q_final (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (f7 : BufTy.Contents (Elt Ideal) arg7.view.ty) :
    arg7.view.read (Elt Ideal) (arg7.view.writes (Elt Ideal) f7 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2 (arg12.view.writes (Elt Ideal) f11 ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips))) k0_t4_loop.trips).1) = fun y => FloatOps.fptosi (F := Ideal) (φ := .bf16) 8 (Qk H X (y 2) (y 1)) := by
  funext y
  obtain ⟨z, s, l, rfl⟩ : ∃ (z : Fin 1) (s : Fin 256) (l : Fin 8960), y = ix3 z s l := ⟨y 0, y 1, y 2, eq_ix3 y⟩
  obtain rfl : z = 0 := Subsingleton.elim _ _
  exact codes_final 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11 f7 s l

/-- The row of scales the body stores, the other rows kept. -/
theorem s_final (X10 : BufTy.Contents (Elt Ideal) arg10.view.ty) (X11 : BufTy.Contents (Elt Ideal) arg11.view.ty) (f11 : BufTy.Contents (Elt Ideal) arg12.view.ty) (h10 : ∀ σ r q, arg10.view.read (Elt Ideal) X10 (ix3 σ r q) = padH H σ r q) (h11 : ∀ r t, arg11.view.read (Elt Ideal) X11 (ix2 r t) = X (ix2 r t)) (f8 : BufTy.Contents (Elt Ideal) arg8.view.ty) (d : S6x256.Idx → EReal) (hd : arg8.view.read (Elt Ideal) f8 = d) :
    arg8.view.read (Elt Ideal) (arg8.view.writes (Elt Ideal) f8 [(⟨Rect.unit (s := S6x256) (k0_off113 i) S1x256.size (k0_off113_inb i), k0_pay405 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.1 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 (arg12.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v418 X10 X11 k0_t2_loop.trips)) (k0_pay399, k0_pay399) k0_t3_loop.trips).1.2⟩ : View.Piece (Elt Ideal) S6x256 .f32)])
      = fun y => if (y 0).val = (i 0).val then Sk H X (y 1) else d y := by
  funext y
  by_cases h : (y 0).val = (i 0).val
  · rw [if_pos h, View.read_writes_cons_unit_of_mem (s := S6x256) arg8.view f8 (k0_off113_inb i) _ _ y (ix2 0 (y 1)) (k0_off113_eq i) (by intro q; fin_cases q <;> simp [ix2, h])]
    exact scale_final 𝒱 c bd i arg1 harg1 arg2 harg2 arg3 harg3 arg4 harg4 arg5 harg5 arg6 harg6 arg7 harg7 arg8 harg8 arg9 harg9 arg10 harg10 arg11 harg11 arg12 harg12 arg13 harg13 arg0 v418 H X X10 X11 f11 h10 h11 (y 1)
  · rw [if_neg h, View.read_writes_cons_miss_of_axis _ _ _ _ _ (0 : Fin 2) (i 0).val 1 (congrFun (k0_off113_eq i) 0) rfl rfl (by show (y 0).val < (i 0).val ∨ (i 0).val + 1 ≤ (y 0).val; omega), ← hd]
    rfl
end
end Cert.KernelIdeal.Val
-- ==== Proof.Agree.lean ====
/- The kernel's scales, codes and projections of a token are the reference's. -/
module

public import proofs.«01_k».proof.Proof.Math
public import proofs.«01_k».proof.Proof.ReferenceIdeal.Run
public import proofs.«01_k».proof.Proof.KernelIdeal.Stores

@[expose] public section

set_option maxRecDepth 16384

noncomputable section

namespace Cert.Agree

open Idealize.ShloMosaic Idealize.ShloMosaic.TcCoe Idealize.ShloMosaic.Tactic
open Cert.Spec
open Cert.KernelIdeal.Val (Rk Sk Mk Qk Yk G2 G3 dotU W8 lo4 hi4 wval)
open Cert.ReferenceIdeal.Val (cq wR loR hiR nib sgnR rowR codeR projR)

variable (H : Fin 140 → Fin 140 → EReal) (X : Cert.KernelIdeal.S8960x256.Idx → EReal)

/-- The row of token `t` in the transposed tokens. -/
def row (t : Fin 256) (r : Fin 8960) : EReal := X (ix2 r t)

theorem dotU_congr {p p' : Fin 64} {s s' : Fin 140} {t t' : Fin 256} (hp : p.val = p'.val) (hs : s.val = s'.val) (ht : t.val = t'.val) :
    dotU H X p s t = dotU H X p' s' t' := by
  rw [Fin.ext hp, Fin.ext hs, Fin.ext ht]

/-- The kernel's rotated value is two butterflies of the products with the matrix. -/
theorem Rk_eq (r : Fin 8960) (t : Fin 256) : Rk H X r t = rowK H (row X t) r := by
  unfold Rk G3 rowK
  refine congr (congrArg bfly (funext fun a' => ?_)) rfl
  unfold G2
  refine congr (congrArg bfly (funext fun i => ?_)) (Fin.ext ?_)
  · refine (dotU_congr H X (p' := ⟨8 * a'.val + i.val, by omega⟩) (s' := ⟨r.val % 140, by omega⟩) (t' := t) ?_ ?_ ?_).trans ?_
    · show 8 * ((1120 * a'.val + r.val % 1120) / 1120) + i.val = 8 * a'.val + i.val
      omega
    · show (1120 * a'.val + r.val % 1120) % 140 = r.val % 140
      omega
    · show 128 * (t.val / 128) + t.val % 128 = t.val
      omega
    · rfl
  · show (1120 * a'.val + r.val % 1120) % 1120 / 140 = r.val % 1120 / 140
    omega

/-- The scale of a token. -/
theorem Sk_eq (t : Fin 256) : Sk H X t = scaleOf (amaxOf (rowW H (row X t))) := by
  unfold Sk
  rw [show (fun r => Rk H X r t) = rowK H (row X t) from funext fun r => Rk_eq H X r t, amax_eq]

/-- The code of a token at a position, before its conversion. -/
theorem Qk_eq (r : Fin 8960) (t : Fin 256) : Qk H X r t = cq (Ideal.div (rowW H (row X t) r) (scaleOf (amaxOf (rowW H (row X t))))) := by
  unfold Qk Mk kq
  rw [Rk_eq, Sk_eq, quot_eq]
  rfl

/-- The reference's row is the Walsh–Hadamard transform and the products with the matrix. -/
theorem rowR_eq (x : Fin 8960 → EReal) (r : Fin 8960) : rowR H x r = rowW H x r := rfl

/-- A code converted to eight bits and back is itself. -/
theorem trip (w : EReal) : FloatOps.sitofp (F := Ideal) .bf16 (FloatOps.fptosi (F := Ideal) (φ := .f32) 8 (cq w)) = cq w := by
  obtain ⟨z, h1, h2, e⟩ := code_int w
  have e' : cq w = ((z : ℝ) : EReal) := e
  rw [e']
  show (((Ideal.fptosi 8 ((z : ℝ) : EReal)).toInt : ℝ) : EReal) = ((z : ℝ) : EReal)
  rw [code_trip z h1 h2]

theorem lo_eq (v : BitVec 8) : lo4 v = loR v := rfl
theorem hi_eq : ∀ v : BitVec 8, hi4 v = hiR v := by decide +kernel

theorem sum_halves (f : Fin 8960 → EReal) : ∑ k : Fin 8960, f k = (∑ x : Fin 4480, f ⟨x.val, by omega⟩) + ∑ x : Fin 4480, f ⟨4480 + x.val, by omega⟩ :=
  Fin.sum_univ_add (a := 4480) (b := 4480) f

section
variable (WP : Cert.KernelIdeal.S1536x4480.Idx → BitVec 8) (GE : Cert.KernelIdeal.S1536x70.Idx → BitVec 8)

theorem W8_lo (n : Fin 1536) (x : Fin 4480) : W8 WP GE (ix2 n ⟨x.val, by omega⟩) = wR (loR (WP (ix2 n x))) (GE (ix2 n ⟨x.val / 128, by omega⟩)) := by
  unfold W8
  exact dif_pos (show x.val < 4480 from x.isLt)

theorem W8_hi (n : Fin 1536) (x : Fin 4480) : W8 WP GE (ix2 n ⟨4480 + x.val, by omega⟩) = wR (hiR (WP (ix2 n x))) (GE (ix2 n ⟨35 + x.val / 128, by omega⟩)) := by
  unfold W8
  refine (dif_neg (show ¬ 4480 + x.val < 4480 by omega)).trans ?_
  rw [hi_eq]
  refine congr (congrArg wR (congrArg (fun k => hiR (WP (ix2 n k))) (Fin.ext ?_))) (congrArg (fun k => GE (ix2 n k)) (Fin.ext ?_))
  · show 4480 + x.val - 4480 = x.val
    omega
  · show (4480 + x.val) / 128 = 35 + x.val / 128
    omega

/-- The projection of a token on one row of the weights. -/
theorem Yk_eq (S : Cert.KernelIdeal.S1x1536.Idx → EReal) (t : Fin 256) (n : Fin 1536) :
    Yk H X (W8 WP GE) S t n = projR (rowW H (row X t)) (fun x => WP (ix2 n x)) (fun x => GE (ix2 n x)) (S (ix2 0 n)) := by
  unfold Yk projR codeR
  rw [Sk_eq, sum_halves]
  refine congrArg (· * _ * _) (congrArg₂ (· + ·) (Finset.sum_congr rfl fun x _ => ?_) (Finset.sum_congr rfl fun x _ => ?_))
  · rw [trip, Qk_eq, W8_lo, mul_comm]
  · rw [trip, Qk_eq, W8_hi, mul_comm]
end

end Cert.Agree

end
-- ==== Proof.KernelIdeal.BodyV.lean ====
/- The kernel body with what it leaves named, at the ideal values. -/
module

public import proofs.«01_k».proof.Proof.KernelIdeal.Stores

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.KernelIdeal.Val

/-- The four shifted copies of the matrix. -/
def PH (x1 : S140x140.Idx → EReal) (y : S4x144x160.Idx) : EReal := padH (Hm x1) (y 0) (y 1) (y 2)
/-- The results of a point. -/
def Y6 (x0 : S1x256x8960.Idx → EReal) (x1 : S140x140.Idx → EReal) (x2 : S1536x4480.Idx → BitVec 8) (x3 : S1536x70.Idx → BitVec 8) (x4 : S1x1536.Idx → EReal) (y : S1x256x1536.Idx) : EReal :=
  Yk (Hm x1) (Xt x0) (W8 x2 x3) x4 (y 1) (y 2)
/-- The codes of a point. -/
def Q7 (x0 : S1x256x8960.Idx → EReal) (x1 : S140x140.Idx → EReal) (y : S1x256x8960.Idx) : BitVec 8 :=
  FloatOps.fptosi (F := Ideal) (φ := .bf16) 8 (Qk (Hm x1) (Xt x0) (y 2) (y 1))
/-- The scales after a point: its row written, the others kept. -/
def S8 (i : grid0.Coords) (x0 : S1x256x8960.Idx → EReal) (x1 : S140x140.Idx → EReal) (d : S6x256.Idx → EReal) (y : S6x256.Idx) : EReal :=
  if (y 0).val = (i 0).val then Sk (Hm x1) (Xt x0) (y 1) else d y

section
variable (𝒱 : Variants) (c : Dev nD) (bd : Option 𝒱.V) (i : grid0.Coords)
  (arg1 : Memref sig .tc .vmem S1x256x8960 .bf16) (harg1 : arg1.IsWhole)
  (arg2 : Memref sig .tc .vmem S140x140 .f32) (harg2 : arg2.IsWhole)
  (arg3 : Memref sig .tc .vmem S1536x4480 .i8) (harg3 : arg3.IsWhole)
  (arg4 : Memref sig .tc .vmem S1536x70 .i8) (harg4 : arg4.IsWhole)
  (arg5 : Memref sig .tc .vmem S1x1536 .f32) (harg5 : arg5.IsWhole)
  (arg6 : Memref sig .tc .vmem S1x256x1536 .bf16) (harg6 : arg6.IsWhole)
  (arg7 : Memref sig .tc .vmem S1x256x8960 .i8) (harg7 : arg7.IsWhole)
  (arg8 : Memref sig .tc .vmem S6x256 .f32) (harg8 : arg8.IsWhole)
  (arg9 : Memref sig .tc .vmem S1536x8960 .fp8e4m3) (harg9 : arg9.IsWhole)
  (arg10 : Memref sig .tc .vmem S4x144x160 .bf16) (harg10 : arg10.IsWhole)
  (arg11 : Memref sig .tc .vmem S8960x256 .bf16) (harg11 : arg11.IsWhole)
  (arg12 : Memref sig .tc .vmem S2x8960x128 .f32) (harg12 : arg12.IsWhole)
  (arg13 : Memref sig .tc .vmem S8960x256 .fp8e4m3) (harg13 : arg13.IsWhole)
theorem loopW (k0_h1 : k0_cond1 i = 1#1) (x2 : Vec Ideal S1536x4480 .i8) (x3 : Vec Ideal S1536x70 .i8) (f : BufTy.Contents (Elt Ideal) arg9.view.ty) :
    arg9.view.read (Elt Ideal) (arg9.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 (harg3.unread x2) (harg4.unread x3) k0_t1_loop.trips)) = W8 x2 x3 := by
  funext y
  rw [loop1_read, harg3.read_unread, harg4.read_unread]
end

set_option maxHeartbeats 1904000 in
/-- The kernel body at the first point: the weights and the matrix copies are written too, and everything the body leaves is named. -/
theorem bodyv_A (c : Dev nD) (i : grid0.Coords) (arg1 : Memref sig .tc .vmem S1x256x8960 .bf16) (harg1 : arg1.IsWhole) (arg2 : Memref sig .tc .vmem S140x140 .f32) (harg2 : arg2.IsWhole) (arg3 : Memref sig .tc .vmem S1536x4480 .i8) (harg3 : arg3.IsWhole) (arg4 : Memref sig .tc .vmem S1536x70 .i8) (harg4 : arg4.IsWhole) (arg5 : Memref sig .tc .vmem S1x1536 .f32) (harg5 : arg5.IsWhole) (arg6 : Memref sig .tc .vmem S1x256x1536 .bf16) (harg6 : arg6.IsWhole) (arg7 : Memref sig .tc .vmem S1x256x8960 .i8) (harg7 : arg7.IsWhole) (arg8 : Memref sig .tc .vmem S6x256 .f32) (harg8 : arg8.IsWhole) (arg9 : Memref sig .tc .vmem S1536x8960 .fp8e4m3) (harg9 : arg9.IsWhole) (arg10 : Memref sig .tc .vmem S4x144x160 .bf16) (harg10 : arg10.IsWhole) (arg11 : Memref sig .tc .vmem S8960x256 .bf16) (harg11 : arg11.IsWhole) (arg12 : Memref sig .tc .vmem S2x8960x128 .f32) (harg12 : arg12.IsWhole) (arg13 : Memref sig .tc .vmem S8960x256 .fp8e4m3) (harg13 : arg13.IsWhole) (hc0 : cond0_0 i)
    (x0 : Vec Ideal S1x256x8960 .bf16) (x1 : Vec Ideal S140x140 .f32) (x2 : Vec Ideal S1536x4480 .i8) (x3 : Vec Ideal S1536x70 .i8) (x4 : Vec Ideal S1x1536 .f32) (d7 : S6x256.Idx → EReal)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (Y6 x0 x1 x2 x3 x4) ∗ owns (c : Thread nD τ) arg7 fullShare (Q7 x0 x1) ∗ owns (c : Thread nD τ) arg8 fullShare (S8 i x0 x1 d7) ∗ owns (c : Thread nD τ) arg9 fullShare (W8 x2 x3) ∗ owns (c : Thread nD τ) arg10 fullShare (PH x1) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; exact y_final Variants.none c none i arg1 harg1 arg2 harg2 arg3 harg3 arg4 harg4 arg5 harg5 arg6 harg6 arg7 harg7 arg8 harg8 arg9 harg9 arg10 harg10 arg11 harg11 arg12 harg12 arg13 harg13 x4 _ _ _ (Hm x1) (Xt x0) _ _ _ (fun σ r q => had_read c arg2 harg2 arg10 x1 _ σ r q) (fun r t => xt_read c arg1 harg1 arg11 x0 _ r t) _ _ _ (loopW Variants.none c none i arg1 harg1 arg2 harg2 arg3 harg3 arg4 harg4 arg5 harg5 arg6 harg6 arg7 harg7 arg8 harg8 arg9 harg9 arg10 harg10 arg11 harg11 arg12 harg12 arg13 harg13 hc0 x2 x3 _)
  isplitl [H6]
  · iexists _; isplitr; swap; · iexact H6
    ipureintro; exact q_final Variants.none c none i arg1 harg1 arg2 harg2 arg3 harg3 arg4 harg4 arg5 harg5 arg6 harg6 arg7 harg7 arg8 harg8 arg9 harg9 arg10 harg10 arg11 harg11 arg12 harg12 arg13 harg13 _ _ (Hm x1) (Xt x0) _ _ _ (fun σ r q => had_read c arg2 harg2 arg10 x1 _ σ r q) (fun r t => xt_read c arg1 harg1 arg11 x0 _ r t) _
  isplitl [H7]
  · iexists _; isplitr; swap; · iexact H7
    ipureintro; exact s_final Variants.none c none i arg1 harg1 arg2 harg2 arg3 harg3 arg4 harg4 arg5 harg5 arg6 harg6 arg7 harg7 arg8 harg8 arg9 harg9 arg10 harg10 arg11 harg11 arg12 harg12 arg13 harg13 _ _ (Hm x1) (Xt x0) _ _ _ (fun σ r q => had_read c arg2 harg2 arg10 x1 _ σ r q) (fun r t => xt_read c arg1 harg1 arg11 x0 _ r t) _ d7 hf7
  isplitl [H8]
  · iexists _; isplitr; swap; · iexact H8
    ipureintro; exact (loopW Variants.none c none i arg1 harg1 arg2 harg2 arg3 harg3 arg4 harg4 arg5 harg5 arg6 harg6 arg7 harg7 arg8 harg8 arg9 harg9 arg10 harg10 arg11 harg11 arg12 harg12 arg13 harg13 hc0 x2 x3 _)
  isplitl [H9]
  · iexists _; isplitr; swap; · iexact H9
    ipureintro; exact funext fun y => by rw [eq_ix3 y]; exact had_read c arg2 harg2 arg10 x1 _ _ _ _
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1680000 in
/-- The kernel body at a later point: from the weights and the matrix copies the first point left, everything the body leaves is named. -/
theorem bodyv_B (c : Dev nD) (i : grid0.Coords) (arg1 : Memref sig .tc .vmem S1x256x8960 .bf16) (harg1 : arg1.IsWhole) (arg2 : Memref sig .tc .vmem S140x140 .f32) (harg2 : arg2.IsWhole) (arg3 : Memref sig .tc .vmem S1536x4480 .i8) (harg3 : arg3.IsWhole) (arg4 : Memref sig .tc .vmem S1536x70 .i8) (harg4 : arg4.IsWhole) (arg5 : Memref sig .tc .vmem S1x1536 .f32) (harg5 : arg5.IsWhole) (arg6 : Memref sig .tc .vmem S1x256x1536 .bf16) (harg6 : arg6.IsWhole) (arg7 : Memref sig .tc .vmem S1x256x8960 .i8) (harg7 : arg7.IsWhole) (arg8 : Memref sig .tc .vmem S6x256 .f32) (harg8 : arg8.IsWhole) (arg9 : Memref sig .tc .vmem S1536x8960 .fp8e4m3) (harg9 : arg9.IsWhole) (arg10 : Memref sig .tc .vmem S4x144x160 .bf16) (harg10 : arg10.IsWhole) (arg11 : Memref sig .tc .vmem S8960x256 .bf16) (harg11 : arg11.IsWhole) (arg12 : Memref sig .tc .vmem S2x8960x128 .f32) (harg12 : arg12.IsWhole) (arg13 : Memref sig .tc .vmem S8960x256 .fp8e4m3) (harg13 : arg13.IsWhole) (hc0 : ¬cond0_0 i)
    (x0 : Vec Ideal S1x256x8960 .bf16) (x1 : Vec Ideal S140x140 .f32) (x2 : Vec Ideal S1536x4480 .i8) (x3 : Vec Ideal S1536x70 .i8) (x4 : Vec Ideal S1x1536 .f32) (d7 : S6x256.Idx → EReal)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d7 ∗ owns (c : Thread nD τ) arg9 fullShare (W8 x2 x3) ∗ owns (c : Thread nD τ) arg10 fullShare (PH x1) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (Y6 x0 x1 x2 x3 x4) ∗ owns (c : Thread nD τ) arg7 fullShare (Q7 x0 x1) ∗ owns (c : Thread nD τ) arg8 fullShare (S8 i x0 x1 d7) ∗ owns (c : Thread nD τ) arg9 fullShare (W8 x2 x3) ∗ owns (c : Thread nD τ) arg10 fullShare (PH x1) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; exact y_final Variants.none c none i arg1 harg1 arg2 harg2 arg3 harg3 arg4 harg4 arg5 harg5 arg6 harg6 arg7 harg7 arg8 harg8 arg9 harg9 arg10 harg10 arg11 harg11 arg12 harg12 arg13 harg13 x4 _ _ _ (Hm x1) (Xt x0) _ _ _ (fun σ r q => congrFun hf9 (ix3 σ r q)) (fun r t => xt_read c arg1 harg1 arg11 x0 _ r t) _ _ _ hf8
  isplitl [H6]
  · iexists _; isplitr; swap; · iexact H6
    ipureintro; exact q_final Variants.none c none i arg1 harg1 arg2 harg2 arg3 harg3 arg4 harg4 arg5 harg5 arg6 harg6 arg7 harg7 arg8 harg8 arg9 harg9 arg10 harg10 arg11 harg11 arg12 harg12 arg13 harg13 _ _ (Hm x1) (Xt x0) _ _ _ (fun σ r q => congrFun hf9 (ix3 σ r q)) (fun r t => xt_read c arg1 harg1 arg11 x0 _ r t) _
  isplitl [H7]
  · iexists _; isplitr; swap; · iexact H7
    ipureintro; exact s_final Variants.none c none i arg1 harg1 arg2 harg2 arg3 harg3 arg4 harg4 arg5 harg5 arg6 harg6 arg7 harg7 arg8 harg8 arg9 harg9 arg10 harg10 arg11 harg11 arg12 harg12 arg13 harg13 _ _ (Hm x1) (Xt x0) _ _ _ (fun σ r q => congrFun hf9 (ix3 σ r q)) (fun r t => xt_read c arg1 harg1 arg11 x0 _ r t) _ d7 hf7
  isplitl [H8]
  · iexists _; isplitr; swap; · iexact H8
    ipureintro; exact hf8
  isplitl [H9]
  · iexists _; isplitr; swap; · iexact H9
    ipureintro; exact hf9
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.KernelIdeal.Run

end
-- ==== Proof.KernelIdeal.Blocks.lean ====
/- The blocks the kernel's windows are at, read off the arguments. -/
module

public import proofs.«01_k».proof.Proof.KernelIdeal.Frame
public import proofs.«01_k».proof.Proof.KernelIdeal.BodyV
public import Idealize.ShloMosaic.Lib.Pipeline.ValueKit
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem wix0_0 : ∀ t : Fin cfg0.N, win0_0.index t 0 = t.val := by decide +kernel
theorem wix0_1 : ∀ t : Fin cfg0.N, win0_0.index t 1 = 0 := by decide +kernel
theorem wix0_2 : ∀ t : Fin cfg0.N, win0_0.index t 2 = 0 := by decide +kernel
theorem wix1_0 : ∀ t : Fin cfg0.N, win0_1.index t 0 = 0 := by decide +kernel
theorem wix1_1 : ∀ t : Fin cfg0.N, win0_1.index t 1 = 0 := by decide +kernel
theorem wix2_0 : ∀ t : Fin cfg0.N, win0_2.index t 0 = 0 := by decide +kernel
theorem wix2_1 : ∀ t : Fin cfg0.N, win0_2.index t 1 = 0 := by decide +kernel
theorem wix3_0 : ∀ t : Fin cfg0.N, win0_3.index t 0 = 0 := by decide +kernel
theorem wix3_1 : ∀ t : Fin cfg0.N, win0_3.index t 1 = 0 := by decide +kernel
theorem wix4_0 : ∀ t : Fin cfg0.N, win0_4.index t 0 = 0 := by decide +kernel
theorem wix4_1 : ∀ t : Fin cfg0.N, win0_4.index t 1 = 0 := by decide +kernel
theorem wix5_0 : ∀ t : Fin cfg0.N, win0_5.index t 0 = t.val := by decide +kernel
theorem wix5_1 : ∀ t : Fin cfg0.N, win0_5.index t 1 = 0 := by decide +kernel
theorem wix5_2 : ∀ t : Fin cfg0.N, win0_5.index t 2 = 0 := by decide +kernel
theorem wix6_0 : ∀ t : Fin cfg0.N, win0_6.index t 0 = t.val := by decide +kernel
theorem wix6_1 : ∀ t : Fin cfg0.N, win0_6.index t 1 = 0 := by decide +kernel
theorem wix6_2 : ∀ t : Fin cfg0.N, win0_6.index t 2 = 0 := by decide +kernel
theorem wix7_0 : ∀ t : Fin cfg0.N, win0_7.index t 0 = 0 := by decide +kernel
theorem wix7_1 : ∀ t : Fin cfg0.N, win0_7.index t 1 = 0 := by decide +kernel
theorem blk0 (c : Dev nD) (t : Fin cfg0.N) (z : Fin 1) (s : Fin 256) (k : Fin 8960) :
    (iblk m c 0 t : S1x256x8960.Idx → EReal) (ix3 z s k) = (m ((c : Thread nD τ).loc main_arg0) : S6x256x8960.Idx → EReal) (ix3 ⟨t.val, t.isLt⟩ s k) := by
  blk_ext [iblk, V_main_arg0, wix0_0, wix0_1, wix0_2]
theorem blk1 (c : Dev nD) (t : Fin cfg0.N) :
    (iblk m c 1 t : S140x140.Idx → EReal) = (m ((c : Thread nD τ).loc main_arg1) : S140x140.Idx → EReal) := by
  funext y
  blk_ext [iblk, V_main_arg1, wix1_0, wix1_1]
theorem blk2 (c : Dev nD) (t : Fin cfg0.N) :
    (iblk m c 2 t : S1536x4480.Idx → BitVec 8) = (m ((c : Thread nD τ).loc main_arg2) : S1536x4480.Idx → BitVec 8) := by
  funext y
  blk_ext [iblk, V_main_arg2, wix2_0, wix2_1]
theorem blk3 (c : Dev nD) (t : Fin cfg0.N) :
    (iblk m c 3 t : S1536x70.Idx → BitVec 8) = (m ((c : Thread nD τ).loc main_arg3) : S1536x70.Idx → BitVec 8) := by
  funext y
  blk_ext [iblk, V_main_arg3, wix3_0, wix3_1]
theorem blk4 (c : Dev nD) (t : Fin cfg0.N) (z : Fin 1) (n : Fin 1536) :
    (iblk m c 4 t : S1x1536.Idx → EReal) (ix2 z n) = (m ((c : Thread nD τ).loc main_arg4) : S1536.Idx → EReal) (ix1 n) := by
  blk_simp [iblk, wix4_0, wix4_1]
  entry_read
  pointwise
  blk_ext [wix4_0, wix4_1]
end Cert.KernelIdeal.Run

end
-- ==== Proof.KernelIdeal.VRun.lean ====
/- The run of the kernel with what it leaves in each result's window stated. -/
module

public import proofs.«01_k».proof.Proof.KernelIdeal.Blocks
public import Idealize.ShloMosaic.Lib.Pipeline.DatRel
public import Idealize.ShloMosaic.Lib.Pipeline.ArrRel
public import Idealize.ShloMosaic.Lib.Pipeline.ValueKit
public import Idealize.ShloMosaic.Lib.Claim

@[expose] public section

set_option maxRecDepth 16384

noncomputable section

namespace Cert.KernelIdeal.VRun

open Cert.KernelIdeal.Gen Cert.KernelIdeal.Run Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The weights the first point writes, of the packed weights and their exponents. -/
def PW (c : Dev nD) : S1536x8960.Idx → EReal := W8 (m ((c : Thread nD τ).loc main_arg2) : S1536x4480.Idx → BitVec 8) (m ((c : Thread nD τ).loc main_arg3) : S1536x70.Idx → BitVec 8)
/-- The copies of the matrix the first point writes. -/
def PM (c : Dev nD) : S4x144x160.Idx → EReal := PH (m ((c : Thread nD τ).loc main_arg1) : S140x140.Idx → EReal)
theorem PW_eq (c : Dev nD) (t : Fin cfg0.N) : PW m c = W8 (iblk m c 2 t : S1536x4480.Idx → BitVec 8) (iblk m c 3 t : S1536x70.Idx → BitVec 8) := by
  rw [blk2, blk3]; rfl
theorem PM_eq (c : Dev nD) (t : Fin cfg0.N) : PM m c = PH (iblk m c 1 t : S140x140.Idx → EReal) := by
  rw [blk1]; rfl

/-- The scales of the tokens of point `t`. -/
def SC (c : Dev nD) (t : Fin cfg0.N) (k : Fin 256) : EReal := Sk (Hm (iblk m c 1 t)) (Xt (iblk m c 0 t)) k

/-- What the body leaves in the results' windows: the results and the codes of the point, and the scales of every point so far. -/
def Rl (c : Dev nD) : (w : Fin cfg0.W) → Fin cfg0.N → ((cfg0.win w).block.Idx → Elt Ideal (cfg0.win w).elt) → Prop
  | ⟨5, _⟩ => fun t X => X = Y6 (iblk m c 0 t) (iblk m c 1 t) (iblk m c 2 t) (iblk m c 3 t) (iblk m c 4 t)
  | ⟨6, _⟩ => fun t X => X = Q7 (iblk m c 0 t) (iblk m c 1 t)
  | ⟨7, _⟩ => fun t X => ∀ y : S6x256.Idx, (y 0).val ≤ t.val → X y = SC m c ⟨(y 0).val, (y 0).isLt⟩ (y 1)
  | _ => fun _ _ => True

/-- The invariant: after the first point the two carried scratch buffers hold the weights and the matrix copies. -/
def PhiV (c : Dev nD) : ℕ → sProp 𝕄
  | 0 => Pipeline.ΦA spec0 c
  | _ + 1 => iprop(iprop(owns (c : Thread nD τ) scM0_0 fullShare (PW m c) ∗ owns (c : Thread nD τ) scM0_1 fullShare (PM m c) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiV_pos (c : Dev nD) (n : ℕ) (h : n ≠ 0) : PhiV m c n = iprop(iprop(owns (c : Thread nD τ) scM0_0 fullShare (PW m c) ∗ owns (c : Thread nD τ) scM0_1 fullShare (PM m c) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl h
  | succ n => rfl

/-- The results' windows, of which `Rl` says what they hold. -/
def marked0 : Fin 8 → Bool := fun w => w.val == 5 || w.val == 6 || w.val == 7

/-- The proof data of the pipeline on core `c`: the inputs' buffers at their blocks, the invariant `PhiV`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiV m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem fetch7 : ∀ t : Fin cfg0.N, (cfg0.win 7).fetch t = false := by decide +kernel
theorem coord0 : ∀ t : Fin cfg0.N, (grid0.coords t 0).val = t.val := by decide +kernel

/-- What the scales' buffer may hold when the body runs at a later point: the rows of the points before. -/
theorem finds7 (c : Dev nD) (t : Fin cfg0.N) (ht : t.val ≠ 0) (X : S6x256.Idx → EReal)
    (h : ((dats m 0 c).toRRel marked0 (Rl m c)).Finds 7 t X) : ∀ y : S6x256.Idx, (y 0).val < t.val → X y = SC m c ⟨(y 0).val, (y 0).isLt⟩ (y 1) := by
  have hN : t.val < 6 := lt_of_lt_of_eq t.isLt (show cfg0.N = 6 from N_0)
  unfold Pipeline.RDat.Finds at h
  rw [if_neg (by rw [show (cfg0.win 7).fetch t = false from fetch7 t]; exact Bool.false_ne_true), if_neg ht,
    if_neg (by rw [flush0_7]; show ¬ (t.val - 1) % 6 = 5; omega)] at h
  obtain ⟨Y, -, h⟩ := h
  rw [(dats m 0 c).toRRel_after_of_eq_true (fgt := marked0) (w := 7) rfl] at h
  intro y hy
  exact h y (by show (y 0).val ≤ t.val - 1; omega)

/-- The scales after a point: the row of the point and, of what was found, the rows before. -/
theorem row7 (c : Dev nD) (t : Fin cfg0.N) (X : S6x256.Idx → EReal)
    (h : ((dats m 0 c).toRRel marked0 (Rl m c)).Finds 7 t X) : Rl m c 7 t (S8 (grid0.coords t) (iblk m c 0 t) (iblk m c 1 t) X) := by
  have hN : t.val < 6 := lt_of_lt_of_eq t.isLt (show cfg0.N = 6 from N_0)
  have hc : (grid0.coords t 0).val = t.val := coord0 t
  intro y hy
  unfold S8
  rw [hc]
  by_cases e : (y 0).val = t.val
  · rw [if_pos e]
    unfold SC
    rw [show (⟨(y 0).val, (y 0).isLt⟩ : Fin cfg0.N) = t from Fin.ext e]
  · rw [if_neg e]
    exact finds7 m c t (by omega) X h y (by omega)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜((dats m 0 c).toRRel marked0 (Rl m c)).Finds 5 t Y⌝ ∗ owns (c : Thread nD τ) (ms0_5 t) fullShare Y)
    ∗ (∃ Y, ⌜((dats m 0 c).toRRel marked0 (Rl m c)).Finds 6 t Y⌝ ∗ owns (c : Thread nD τ) (ms0_6 t) fullShare Y)
    ∗ (∃ Y, ⌜((dats m 0 c).toRRel marked0 (Rl m c)).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

set_option maxHeartbeats 9600000 in
/-- The body at any point, by the branch's condition: the inputs' memrefs hold their blocks, the rest is at anything
    before and after; the core owes nothing throughout. -/
theorem sound_body (c : Dev nD) (t : Fin cfg0.N) :
    bodyPre m c t ⊢ wp frame (wpE defs₀ Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  have hN : t.val < 6 := lt_of_lt_of_eq t.isLt (show cfg0.N = 6 from N_0)
  rw [show (dats m 0 c).Φ t.succ = PhiV m c (t.val + 1) from rfl, show (dats m 0 c).Φ t.castSucc = PhiV m c t.val from rfl, PhiV_pos m c (t.val + 1) (Nat.succ_ne_zero _)]
  by_cases h0 : t.val = 0
  · rw [h0, show PhiV m c 0 = Pipeline.ΦA spec0 c from rfl, PhiA0_eq, PW_eq m c t, PM_eq m c t]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, -, H5⟩, ⟨%d6, -, H6⟩, ⟨%d7, %hd7, H7⟩⟩
    iapply (bodyv_A c (grid0.coords t) _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) d7 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact rfl
    isplitl [H6]
    · iexists _; isplitr; swap; · iexact H6
      ipureintro; exact rfl
    iexists _; isplitr; swap; · iexact H7
    ipureintro
    exact row7 m c t d7 hd7
  · rw [PhiV_pos m c t.val h0, PW_eq m c t, PM_eq m c t]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, -, H5⟩, ⟨%d6, -, H6⟩, ⟨%d7, %hd7, H7⟩⟩
    iapply (bodyv_B c (grid0.coords t) _ _ _ _ _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) d7 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact rfl
    isplitl [H6]
    · iexists _; isplitr; swap; · iexact H6
      ipureintro; exact rfl
    iexists _; isplitr; swap; · iexact H7
    ipureintro
    exact row7 m c t d7 hd7

/-- The library's body obligation, at every point. -/
theorem body_obligation (c : Dev nD) : Pipeline.BodyObligationRel (dats m 0 c) defs₀ Variants.none () Set.univ marked0 (Rl m c) := fun t => by
  rw [bigSep_W0, bigSep_W0, defs₀_row]
  exact triple_restated (sound_body m c t) rfl .rfl fun _ => .rfl

theorem hin (c : Dev nD) : Pipeline.ΦA spec0 c ⊢ ((dats m 0 c).Φ 0 : sProp 𝕄) := by
  rw [show (dats m 0 c).Φ 0 = PhiV m c 0 from rfl]
  exact Idealize.SL.BI.Entails.refl _
theorem hout (c : Dev nD) : ((dats m 0 c).Φ (Fin.last cfg0.N) : sProp 𝕄) ⊢ Pipeline.ΦA spec0 c := by
  rw [show (dats m 0 c).Φ (Fin.last cfg0.N) = PhiV m c cfg0.N from rfl, PhiV_pos m c cfg0.N (by rw [show cfg0.N = 6 from N_0]; omega), PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]; · iexact HS2
    isplitl [HS3]; · iexact HS3
    iexact HS4
  iexact Hg

set_option backward.isDefEq.respectTransparency.types false in
/-- The run with the results' windows held to `Rl`. -/
theorem run_rel : θ_run defs (onTc (τ := τ) (main (F := Ideal))) (s₀ m ρ) (Pipeline.RDat.FramePost (cfgs 0) (fun c => (dats m 0 c).toRRel marked0 (Rl m c)) (V m)) :=
  Pipeline.RDat.θ_run_frame_track (Q' := _) cfgs (0 : Fin 1) launch0 defs₀ Variants.none (fun c => (dats m 0 c).toRRel marked0 (Rl m c)) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

end Cert.KernelIdeal.VRun

end
-- ==== Proof.KernelIdeal.VFin.lean ====
/- What the kernel leaves in its three results. -/
module

public import proofs.«01_k».proof.Proof.KernelIdeal.VRun
public import Idealize.ShloMosaic.Lib.Pipeline.DatRel
public import Idealize.ShloMosaic.Lib.Pipeline.ArrRel
public import Idealize.ShloMosaic.Lib.Pipeline.ValueKit
public import Idealize.ShloMosaic.Lib.Claim

@[expose] public section

set_option maxRecDepth 16384

noncomputable section

namespace Cert.KernelIdeal.VRun

open Cert.KernelIdeal.Gen Cert.KernelIdeal.Run Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The rows of token `(b, s)` and the parameters, off the arguments. -/
def KX (c : Dev nD) (b : Fin 6) (y : S8960x256.Idx) : EReal := (m ((c : Thread nD τ).loc main_arg0) : S6x256x8960.Idx → EReal) (ix3 b (y 1) (y 0))
def KH (c : Dev nD) : Fin 140 → Fin 140 → EReal := Hm (m ((c : Thread nD τ).loc main_arg1) : S140x140.Idx → EReal)
def KS (c : Dev nD) (y : S1x1536.Idx) : EReal := (m ((c : Thread nD τ).loc main_arg4) : S1536.Idx → EReal) (ix1 (y 1))

theorem Xt_eq (c : Dev nD) (t : Fin cfg0.N) : Xt (iblk m c 0 t : S1x256x8960.Idx → EReal) = KX m c ⟨t.val, t.isLt⟩ := by
  funext y
  exact blk0 m c t 0 (y 1) (y 0)
theorem Hm_eq (c : Dev nD) (t : Fin cfg0.N) : Hm (iblk m c 1 t : S140x140.Idx → EReal) = KH m c := by
  rw [blk1]; rfl
theorem Ws_eq (c : Dev nD) (t : Fin cfg0.N) : (iblk m c 4 t : S1x1536.Idx → EReal) = KS m c := by
  funext y
  obtain ⟨z, n, rfl⟩ : ∃ (z : Fin 1) (n : Fin 1536), y = ix2 z n := ⟨y 0, y 1, eq_ix2 y⟩
  exact blk4 m c t z n

/-- The results. -/
def FY (c : Dev nD) (y : S6x256x1536.Idx) : EReal := Yk (KH m c) (KX m c (y 0)) (PW m c) (KS m c) (y 1) (y 2)
/-- The codes. -/
def FQ (c : Dev nD) (y : S6x256x8960.Idx) : BitVec 8 := FloatOps.fptosi (F := Ideal) (φ := .bf16) 8 (Qk (KH m c) (KX m c (y 0)) (y 2) (y 1))
/-- The scales. -/
def FS (c : Dev nD) (y : S6x256.Idx) : EReal := Sk (KH m c) (KX m c (y 0)) (y 1)

variable (after : (c : Dev nD) → (w : Fin cfg0.W) → Fin cfg0.N → (cfg0.win w).block.Idx → Elt Ideal (cfg0.win w).elt)

theorem fin5 (c : Dev nD) (hL : ∀ t, Rl m c 5 t (after c 5 t)) : (((dats m 0 c).toRRel marked0 (Rl m c)).withAfter (after c)).arrAt 5 cfg0.N = FY m c := by
  refine Pipeline.Dat.arrAt_eq_of_covers _ 5 _ (by decide +kernel) fun t hf y => ?_
  blk_simp
  refine (congrFun (hL t) y).trans ?_
  obtain ⟨z, s, n, rfl⟩ : ∃ (z : Fin 1) (s : Fin 256) (n : Fin 1536), y = ix3 z s n := ⟨y 0, y 1, y 2, eq_ix3 y⟩
  have e : (win0_5.blk t).view.emb (ix3 z s n) = (ix3 ⟨t.val, t.isLt⟩ s n : S6x256x1536.Idx) := by
    have e0 : (((cfg0.win 5).blk t).view.emb (ix3 z s n) 0 : ℕ) = t.val := by
      blk_simp [wix5_0]
      try simp [ix3]
      try omega
    have e1 : (((cfg0.win 5).blk t).view.emb (ix3 z s n) 1 : ℕ) = s.val := by
      blk_simp [wix5_1]
      try simp [ix3]
      try omega
    have e2 : (((cfg0.win 5).blk t).view.emb (ix3 z s n) 2 : ℕ) = n.val := by
      blk_simp [wix5_2]
      try simp [ix3]
      try omega
    refine funext fun a => Fin.ext ?_
    fin_cases a
    · exact e0
    · exact e1
    · exact e2
  refine Eq.trans ?_ (congrArg (FY m c) e).symm
  show Yk (Hm (iblk m c 1 t)) (Xt (iblk m c 0 t)) (W8 (iblk m c 2 t) (iblk m c 3 t)) (iblk m c 4 t) s n = _
  rw [Hm_eq, Xt_eq, ← PW_eq, Ws_eq]
  rfl

theorem fin6 (c : Dev nD) (hL : ∀ t, Rl m c 6 t (after c 6 t)) : (((dats m 0 c).toRRel marked0 (Rl m c)).withAfter (after c)).arrAt 6 cfg0.N = FQ m c := by
  refine Pipeline.Dat.arrAt_eq_of_covers _ 6 _ (by decide +kernel) fun t hf y => ?_
  blk_simp
  refine (congrFun (hL t) y).trans ?_
  obtain ⟨z, s, n, rfl⟩ : ∃ (z : Fin 1) (s : Fin 256) (n : Fin 8960), y = ix3 z s n := ⟨y 0, y 1, y 2, eq_ix3 y⟩
  have e : (win0_6.blk t).view.emb (ix3 z s n) = (ix3 ⟨t.val, t.isLt⟩ s n : S6x256x8960.Idx) := by
    have e0 : (((cfg0.win 6).blk t).view.emb (ix3 z s n) 0 : ℕ) = t.val := by
      blk_simp [wix6_0]
      try simp [ix3]
      try omega
    have e1 : (((cfg0.win 6).blk t).view.emb (ix3 z s n) 1 : ℕ) = s.val := by
      blk_simp [wix6_1]
      try simp [ix3]
      try omega
    have e2 : (((cfg0.win 6).blk t).view.emb (ix3 z s n) 2 : ℕ) = n.val := by
      blk_simp [wix6_2]
      try simp [ix3]
      try omega
    refine funext fun a => Fin.ext ?_
    fin_cases a
    · exact e0
    · exact e1
    · exact e2
  refine Eq.trans ?_ (congrArg (FQ m c) e).symm
  show FloatOps.fptosi (F := Ideal) (φ := .bf16) 8 (Qk (Hm (iblk m c 1 t)) (Xt (iblk m c 0 t)) n s) = _
  rw [Hm_eq, Xt_eq]
  rfl

theorem fin7 (c : Dev nD) (hL : ∀ t : Fin cfg0.N, t.val % 6 = 5 → Rl m c 7 t (after c 7 t)) : (((dats m 0 c).toRRel marked0 (Rl m c)).withAfter (after c)).arrAt 7 cfg0.N = FS m c := by
  refine Pipeline.Dat.arrAt_eq_of_covers _ 7 _ (by decide +kernel) fun t hf y => ?_
  have hN : t.val < 6 := lt_of_lt_of_eq t.isLt (show cfg0.N = 6 from N_0)
  have ht : t.val % 6 = 5 := (flush0_7 t).mp hf
  blk_simp
  obtain ⟨z, s, rfl⟩ : ∃ (z : Fin 6) (s : Fin 256), y = ix2 z s := ⟨y 0, y 1, eq_ix2 y⟩
  have e : (win0_7.blk t).view.emb (ix2 z s) = (ix2 z s : S6x256.Idx) := by
    have e0 : (((cfg0.win 7).blk t).view.emb (ix2 z s) 0 : ℕ) = z.val := by
      blk_simp [wix7_0]
      try simp [ix2]
      try omega
    have e1 : (((cfg0.win 7).blk t).view.emb (ix2 z s) 1 : ℕ) = s.val := by
      blk_simp [wix7_1]
      try simp [ix2]
      try omega
    refine funext fun a => Fin.ext ?_
    fin_cases a
    · exact e0
    · exact e1
  refine Eq.trans ?_ (congrArg (FS m c) e).symm
  refine (hL t ht (ix2 z s) (by show z.val ≤ t.val; omega)).trans ?_
  show Sk (Hm (iblk m c 1 _)) (Xt (iblk m c 0 _)) s = _
  rw [Hm_eq, Xt_eq]
  rfl

/-- The run of the kernel: the results, the codes and the scales it leaves. -/
theorem run_values : θ_run defs (onTc (τ := τ) (main (F := Ideal))) ⟨m, fun _ => 0, ρ⟩ (fun r => ∀ c : Dev nD,
      r.2.mem ((c.tc : Thread nD τ).loc main_v1_0) = FY m c
      ∧ r.2.mem ((c.tc : Thread nD τ).loc main_v1_1) = FQ m c
      ∧ r.2.mem ((c.tc : Thread nD τ).loc main_v1_2) = FS m c) := by
  refine (θ_run defs _ _).mono (fun r h c => ?_) (run_rel m ρ)
  obtain ⟨aft, hL, hA⟩ := Pipeline.RDat.FramePost.exists_exact h c
  have l5 : ∀ t, Rl m c 5 t (aft 5 t) := fun t => (dats m 0 c).toRRel_leaves (fgt := marked0) (w := 5) rfl (hL 5 t (flush0_5 t))
  have l6 : ∀ t, Rl m c 6 t (aft 6 t) := fun t => (dats m 0 c).toRRel_leaves (fgt := marked0) (w := 6) rfl (hL 6 t (flush0_6 t))
  have l7 : ∀ t : Fin cfg0.N, t.val % 6 = 5 → Rl m c 7 t (aft 7 t) := fun t ht => (dats m 0 c).toRRel_leaves (fgt := marked0) (w := 7) rfl (hL 7 t ((flush0_7 t).mpr ht))
  exact ⟨(hA 5).trans (fin5 m (fun _ => aft) c l5), (hA 6).trans (fin6 m (fun _ => aft) c l6), (hA 7).trans (fin7 m (fun _ => aft) c l7)⟩

end Cert.KernelIdeal.VRun

end
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Gen.ReferenceIdeal.Value
public import proofs.«01_k».proof.Proof.Math
public import proofs.«01_k».proof.Proof.Agree
public import proofs.«01_k».proof.Proof.ReferenceIdeal.Run
public import proofs.«01_k».proof.Proof.KernelIdeal.VFin
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- From memories that agree on the arguments, the two ideal programs end with equal results: the projections, the codes
and the scales. -/
theorem algebraic : Cert.algebraic_KernelIdeal_ReferenceIdeal (hKernelIdeal := Cert.KernelIdeal.Gen.facts) (hReferenceIdeal := Cert.ReferenceIdeal.Gen.facts) := by
  intro m g m' g' _ h
  have hT : ∀ (c : Dev Cert.KernelIdeal.nD) (b : Fin 6) (s : Fin 256),
      Cert.ReferenceIdeal.Val.RT m' c b s = Cert.Spec.rowW (Cert.KernelIdeal.VRun.KH m c) (Cert.Agree.row (Cert.KernelIdeal.VRun.KX m c b) s) := by
    intro c b s
    funext r
    unfold Cert.ReferenceIdeal.Val.RT Cert.ReferenceIdeal.Val.RX Cert.ReferenceIdeal.Val.RH
    rw [Cert.Agree.rowR_eq, (h c).1, (h c).2.1]
    rfl
  have hQ : ∀ (c : Dev Cert.KernelIdeal.nD) (b : Fin 6) (s : Fin 256) (r : Fin 8960),
      Cert.ReferenceIdeal.Val.codeR (Cert.ReferenceIdeal.Val.RT m' c b s) r
        = FloatOps.fptosi (F := Ideal) (φ := .bf16) 8 (Cert.KernelIdeal.Val.Qk (Cert.KernelIdeal.VRun.KH m c) (Cert.KernelIdeal.VRun.KX m c b) r s) := by
    intro c b s r
    rw [hT c b s, Cert.Agree.Qk_eq]
    rfl
  have hS : ∀ (c : Dev Cert.KernelIdeal.nD) (b : Fin 6) (s : Fin 256),
      Cert.Spec.scaleOf (Cert.Spec.amaxOf (Cert.ReferenceIdeal.Val.RT m' c b s)) = Cert.KernelIdeal.Val.Sk (Cert.KernelIdeal.VRun.KH m c) (Cert.KernelIdeal.VRun.KX m c b) s := by
    intro c b s
    rw [hT c b s, Cert.Agree.Sk_eq]
  refine ⟨Cert.KernelIdeal.VRun.FY m, Cert.KernelIdeal.VRun.FQ m, Cert.KernelIdeal.VRun.FS m, ?_, ?_⟩
  · exact (θ_run Cert.KernelIdeal.defs _ _).mono (fun r k c => ⟨(k.1 c).1, (k.1 c).2.1, (k.1 c).2.2, k.2.1 c⟩)
      (θ_run_and (Cert.KernelIdeal.VRun.run_values m g) (Cert.KernelIdeal.Run.frame m g))
  · refine (θ_run Cert.ReferenceIdeal.defs _ _).mono (fun r k c => ⟨(k c).1.trans ?_, (k c).2.1.trans ?_, (k c).2.2.1.trans ?_, (k c).2.2.2⟩)
      (Cert.ReferenceIdeal.Val.run_values m' g')
    · funext y
      refine Eq.trans ?_ (Cert.Agree.Yk_eq (Cert.KernelIdeal.VRun.KH m c) (Cert.KernelIdeal.VRun.KX m c (y 0)) _ _ _ (y 1) (y 2)).symm
      show Cert.ReferenceIdeal.Val.projR _ _ _ _ = _
      refine Cert.ReferenceIdeal.Val.projR_congr (hT c (y 0) (y 1)) ?_ ?_ ?_
      · rw [(h c).2.2.1]
      · rw [(h c).2.2.2.1]
      · rw [(h c).2.2.2.2]
        rfl
    · exact funext fun y => hQ c (y 0) (y 1) (y 2)
    · exact funext fun y => hS c (y 0) (y 1)

/-- The claim: the frames of the three programs, that the ideal kernel is the kernel's text, and that over the extended
reals the kernel computes what the reference does. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
